-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x768x6144 : Shape := ⟨3, ![12, 768, 6144]⟩
abbrev S6144 : Shape := ⟨1, ![6144]⟩
abbrev S3072x16384 : Shape := ⟨2, ![3072, 16384]⟩
abbrev S48x16384 : Shape := ⟨2, ![48, 16384]⟩
abbrev S9216x6144 : Shape := ⟨2, ![9216, 6144]⟩
abbrev S1x6144 : Shape := ⟨2, ![1, 6144]⟩
abbrev S9216x3072 : Shape := ⟨2, ![9216, 3072]⟩
abbrev S9216x48 : Shape := ⟨2, ![9216, 48]⟩
abbrev S128x6144 : Shape := ⟨2, ![128, 6144]⟩
abbrev S128x3072 : Shape := ⟨2, ![128, 3072]⟩
abbrev S128x48 : Shape := ⟨2, ![128, 48]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x48 : Shape := ⟨2, ![32, 48]⟩
abbrev S8x128 : Shape := ⟨2, ![8, 128]⟩
abbrev S8x128x1 : Shape := ⟨3, ![8, 128, 1]⟩
abbrev S9216x16384 : Shape := ⟨2, ![9216, 16384]⟩
abbrev S1024x6144 : Shape := ⟨2, ![1024, 6144]⟩
abbrev S3072x512 : Shape := ⟨2, ![3072, 512]⟩
abbrev S48x512 : Shape := ⟨2, ![48, 512]⟩
abbrev S1024x512 : Shape := ⟨2, ![1024, 512]⟩
abbrev S6144x512 : Shape := ⟨2, ![6144, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S12x768x16384 : Shape := ⟨3, ![12, 768, 16384]⟩
abbrev S12x768x3072 : Shape := ⟨3, ![12, 768, 3072]⟩
abbrev S12x768x48 : Shape := ⟨3, ![12, 768, 48]⟩

abbrev nBuf : Space → Nat
  | .hbm => 17
  | .vmem => 22
  | .smem => 0
  | _ => 0

abbrev bufTy : (tb : Table) → Fin (tcTables nBuf tb) → BufTy
  | .hbm, ⟨0, _⟩ => ⟨S12x768x6144, .bf16⟩
  | .hbm, ⟨1, _⟩ => ⟨S6144, .f32⟩
  | .hbm, ⟨2, _⟩ => ⟨S3072x16384, .i8⟩
  | .hbm, ⟨3, _⟩ => ⟨S48x16384, .f32⟩
  | .hbm, ⟨4, _⟩ => ⟨S9216x6144, .bf16⟩
  | .hbm, ⟨5, _⟩ => ⟨S1x6144, .f32⟩
  | .hbm, ⟨6, _⟩ => ⟨S9216x6144, .bf16⟩
  | .hbm, ⟨7, _⟩ => ⟨S9216x3072, .i8⟩
  | .hbm, ⟨8, _⟩ => ⟨S9216x48, .f32⟩
  | .hbm, ⟨9, _⟩ => ⟨S9216x48, .i8⟩
  | .hbm, ⟨10, _⟩ => ⟨S9216x6144, .bf16⟩
  | .hbm, ⟨11, _⟩ => ⟨S9216x16384, .bf16⟩
  | .hbm, ⟨12, _⟩ => ⟨S12x768x16384, .bf16⟩
  | .hbm, ⟨13, _⟩ => ⟨S12x768x6144, .bf16⟩
  | .hbm, ⟨14, _⟩ => ⟨S12x768x3072, .i8⟩
  | .hbm, ⟨15, _⟩ => ⟨S12x768x48, .f32⟩
  | .hbm, ⟨16, _⟩ => ⟨S12x768x48, .i8⟩
  | .local _ .vmem, ⟨0, _⟩ => ⟨S128x6144, .bf16⟩
  | .local _ .vmem, ⟨1, _⟩ => ⟨S128x6144, .bf16⟩
  | .local _ .vmem, ⟨2, _⟩ => ⟨S1x6144, .f32⟩
  | .local _ .vmem, ⟨3, _⟩ => ⟨S128x6144, .bf16⟩
  | .local _ .vmem, ⟨4, _⟩ => ⟨S128x6144, .bf16⟩
  | .local _ .vmem, ⟨5, _⟩ => ⟨S128x3072, .i8⟩
  | .local _ .vmem, ⟨6, _⟩ => ⟨S128x3072, .i8⟩
  | .local _ .vmem, ⟨7, _⟩ => ⟨S128x48, .f32⟩
  | .local _ .vmem, ⟨8, _⟩ => ⟨S128x48, .f32⟩
  | .local _ .vmem, ⟨9, _⟩ => ⟨S128x48, .i8⟩
  | .local _ .vmem, ⟨10, _⟩ => ⟨S128x48, .i8⟩
  | .local _ .vmem, ⟨11, _⟩ => ⟨S128x6144, .bf16⟩
  | .local _ .vmem, ⟨12, _⟩ => ⟨S128x6144, .bf16⟩
  | .local _ .vmem, ⟨13, _⟩ => ⟨S1024x6144, .bf16⟩
  | .local _ .vmem, ⟨14, _⟩ => ⟨S1024x6144, .bf16⟩
  | .local _ .vmem, ⟨15, _⟩ => ⟨S3072x512, .i8⟩
  | .local _ .vmem, ⟨16, _⟩ => ⟨S3072x512, .i8⟩
  | .local _ .vmem, ⟨17, _⟩ => ⟨S48x512, .f32⟩
  | .local _ .vmem, ⟨18, _⟩ => ⟨S48x512, .f32⟩
  | .local _ .vmem, ⟨19, _⟩ => ⟨S1024x512, .bf16⟩
  | .local _ .vmem, ⟨20, _⟩ => ⟨S1024x512, .bf16⟩
  | .local _ .vmem, ⟨21, _⟩ => ⟨S6144x512, .bf16⟩
  | _, _ => ⟨S12x768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![72], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  v3
def k0_off1 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v6 : Index := Scalar.indexCast v4
  let c0 : Index := 0#32
  ![v6.toNat, 0]
def k0_off2 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v11 : Index := Scalar.indexCast v4
  let c128 : Index := 128#32
  ![v11.toNat, 128]
def k0_off3 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v17 : Index := Scalar.indexCast v4
  let c256 : Index := 256#32
  ![v17.toNat, 256]
def k0_off4 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v23 : Index := Scalar.indexCast v4
  let c384 : Index := 384#32
  ![v23.toNat, 384]
def k0_off5 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v29 : Index := Scalar.indexCast v4
  let c512 : Index := 512#32
  ![v29.toNat, 512]
def k0_off6 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v35 : Index := Scalar.indexCast v4
  let c640 : Index := 640#32
  ![v35.toNat, 640]
def k0_off7 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v41 : Index := Scalar.indexCast v4
  let c768 : Index := 768#32
  ![v41.toNat, 768]
def k0_off8 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v47 : Index := Scalar.indexCast v4
  let c896 : Index := 896#32
  ![v47.toNat, 896]
def k0_off9 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v53 : Index := Scalar.indexCast v4
  let c1024 : Index := 1024#32
  ![v53.toNat, 1024]
def k0_off10 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v59 : Index := Scalar.indexCast v4
  let c1152 : Index := 1152#32
  ![v59.toNat, 1152]
def k0_off11 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v65 : Index := Scalar.indexCast v4
  let c1280 : Index := 1280#32
  ![v65.toNat, 1280]
def k0_off12 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v71 : Index := Scalar.indexCast v4
  let c1408 : Index := 1408#32
  ![v71.toNat, 1408]
def k0_off13 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v77 : Index := Scalar.indexCast v4
  let c1536 : Index := 1536#32
  ![v77.toNat, 1536]
def k0_off14 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v83 : Index := Scalar.indexCast v4
  let c1664 : Index := 1664#32
  ![v83.toNat, 1664]
def k0_off15 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v89 : Index := Scalar.indexCast v4
  let c1792 : Index := 1792#32
  ![v89.toNat, 1792]
def k0_off16 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v95 : Index := Scalar.indexCast v4
  let c1920 : Index := 1920#32
  ![v95.toNat, 1920]
def k0_off17 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v101 : Index := Scalar.indexCast v4
  let c2048 : Index := 2048#32
  ![v101.toNat, 2048]
def k0_off18 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v107 : Index := Scalar.indexCast v4
  let c2176 : Index := 2176#32
  ![v107.toNat, 2176]
def k0_off19 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v113 : Index := Scalar.indexCast v4
  let c2304 : Index := 2304#32
  ![v113.toNat, 2304]
def k0_off20 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v119 : Index := Scalar.indexCast v4
  let c2432 : Index := 2432#32
  ![v119.toNat, 2432]
def k0_off21 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v125 : Index := Scalar.indexCast v4
  let c2560 : Index := 2560#32
  ![v125.toNat, 2560]
def k0_off22 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v131 : Index := Scalar.indexCast v4
  let c2688 : Index := 2688#32
  ![v131.toNat, 2688]
def k0_off23 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v137 : Index := Scalar.indexCast v4
  let c2816 : Index := 2816#32
  ![v137.toNat, 2816]
def k0_off24 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v143 : Index := Scalar.indexCast v4
  let c2944 : Index := 2944#32
  ![v143.toNat, 2944]
def k0_off25 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v149 : Index := Scalar.indexCast v4
  let c3072 : Index := 3072#32
  ![v149.toNat, 3072]
def k0_off26 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v155 : Index := Scalar.indexCast v4
  let c3200 : Index := 3200#32
  ![v155.toNat, 3200]
def k0_off27 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v161 : Index := Scalar.indexCast v4
  let c3328 : Index := 3328#32
  ![v161.toNat, 3328]
def k0_off28 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v167 : Index := Scalar.indexCast v4
  let c3456 : Index := 3456#32
  ![v167.toNat, 3456]
def k0_off29 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v173 : Index := Scalar.indexCast v4
  let c3584 : Index := 3584#32
  ![v173.toNat, 3584]
def k0_off30 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v179 : Index := Scalar.indexCast v4
  let c3712 : Index := 3712#32
  ![v179.toNat, 3712]
def k0_off31 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v185 : Index := Scalar.indexCast v4
  let c3840 : Index := 3840#32
  ![v185.toNat, 3840]
def k0_off32 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v191 : Index := Scalar.indexCast v4
  let c3968 : Index := 3968#32
  ![v191.toNat, 3968]
def k0_off33 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v197 : Index := Scalar.indexCast v4
  let c4096 : Index := 4096#32
  ![v197.toNat, 4096]
def k0_off34 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v203 : Index := Scalar.indexCast v4
  let c4224 : Index := 4224#32
  ![v203.toNat, 4224]
def k0_off35 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v209 : Index := Scalar.indexCast v4
  let c4352 : Index := 4352#32
  ![v209.toNat, 4352]
def k0_off36 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v215 : Index := Scalar.indexCast v4
  let c4480 : Index := 4480#32
  ![v215.toNat, 4480]
def k0_off37 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v221 : Index := Scalar.indexCast v4
  let c4608 : Index := 4608#32
  ![v221.toNat, 4608]
def k0_off38 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v227 : Index := Scalar.indexCast v4
  let c4736 : Index := 4736#32
  ![v227.toNat, 4736]
def k0_off39 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v233 : Index := Scalar.indexCast v4
  let c4864 : Index := 4864#32
  ![v233.toNat, 4864]
def k0_off40 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v239 : Index := Scalar.indexCast v4
  let c4992 : Index := 4992#32
  ![v239.toNat, 4992]
def k0_off41 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v245 : Index := Scalar.indexCast v4
  let c5120 : Index := 5120#32
  ![v245.toNat, 5120]
def k0_off42 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v251 : Index := Scalar.indexCast v4
  let c5248 : Index := 5248#32
  ![v251.toNat, 5248]
def k0_off43 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v257 : Index := Scalar.indexCast v4
  let c5376 : Index := 5376#32
  ![v257.toNat, 5376]
def k0_off44 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v263 : Index := Scalar.indexCast v4
  let c5504 : Index := 5504#32
  ![v263.toNat, 5504]
def k0_off45 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v269 : Index := Scalar.indexCast v4
  let c5632 : Index := 5632#32
  ![v269.toNat, 5632]
def k0_off46 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v275 : Index := Scalar.indexCast v4
  let c5760 : Index := 5760#32
  ![v275.toNat, 5760]
def k0_off47 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v281 : Index := Scalar.indexCast v4
  let c5888 : Index := 5888#32
  ![v281.toNat, 5888]
def k0_off48 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v287 : Index := Scalar.indexCast v4
  let c6016 : Index := 6016#32
  ![v287.toNat, 6016]
def k0_off49 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1661 : Index := Scalar.indexCast v4
  let c0_352 : Index := 0#32
  ![v1661.toNat, 0]
def k0_off50 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1768 : Index := Scalar.indexCast v4
  let c0_375 : Index := 0#32
  ![v1768.toNat, 0]
def k0_off51 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1848 : Index := Scalar.indexCast v4
  let c128_392 : Index := 128#32
  ![v1848.toNat, 128]
def k0_off52 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1928 : Index := Scalar.indexCast v4
  let c256_409 : Index := 256#32
  ![v1928.toNat, 256]
def k0_off53 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2008 : Index := Scalar.indexCast v4
  let c384_426 : Index := 384#32
  ![v2008.toNat, 384]
def k0_off54 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2088 : Index := Scalar.indexCast v4
  let c512_443 : Index := 512#32
  ![v2088.toNat, 512]
def k0_off55 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2168 : Index := Scalar.indexCast v4
  let c640_460 : Index := 640#32
  ![v2168.toNat, 640]
def k0_off56 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2248 : Index := Scalar.indexCast v4
  let c768_477 : Index := 768#32
  ![v2248.toNat, 768]
def k0_off57 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2328 : Index := Scalar.indexCast v4
  let c896_494 : Index := 896#32
  ![v2328.toNat, 896]
def k0_off58 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2408 : Index := Scalar.indexCast v4
  let c1024_511 : Index := 1024#32
  ![v2408.toNat, 1024]
def k0_off59 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2488 : Index := Scalar.indexCast v4
  let c1152_528 : Index := 1152#32
  ![v2488.toNat, 1152]
def k0_off60 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2568 : Index := Scalar.indexCast v4
  let c1280_545 : Index := 1280#32
  ![v2568.toNat, 1280]
def k0_off61 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2648 : Index := Scalar.indexCast v4
  let c1408_562 : Index := 1408#32
  ![v2648.toNat, 1408]
def k0_off62 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2728 : Index := Scalar.indexCast v4
  let c1536_579 : Index := 1536#32
  ![v2728.toNat, 1536]
def k0_off63 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2808 : Index := Scalar.indexCast v4
  let c1664_596 : Index := 1664#32
  ![v2808.toNat, 1664]
def k0_off64 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2888 : Index := Scalar.indexCast v4
  let c1792_613 : Index := 1792#32
  ![v2888.toNat, 1792]
def k0_off65 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2968 : Index := Scalar.indexCast v4
  let c1920_630 : Index := 1920#32
  ![v2968.toNat, 1920]
def k0_off66 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v3048 : Index := Scalar.indexCast v4
  let c2048_647 : Index := 2048#32
  ![v3048.toNat, 2048]
def k0_off67 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v3128 : Index := Scalar.indexCast v4
  let c2176_664 : Index := 2176#32
  ![v3128.toNat, 2176]
def k0_off68 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v3208 : Index := Scalar.indexCast v4
  let c2304_681 : Index := 2304#32
  ![v3208.toNat, 2304]
def k0_off69 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v3288 : Index := Scalar.indexCast v4
  let c2432_698 : Index := 2432#32
  ![v3288.toNat, 2432]
def k0_off70 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v3368 : Index := Scalar.indexCast v4
  let c2560_715 : Index := 2560#32
  ![v3368.toNat, 2560]
def k0_off71 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v3448 : Index := Scalar.indexCast v4
  let c2688_732 : Index := 2688#32
  ![v3448.toNat, 2688]
def k0_off72 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v3528 : Index := Scalar.indexCast v4
  let c2816_749 : Index := 2816#32
  ![v3528.toNat, 2816]
def k0_off73 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v3608 : Index := Scalar.indexCast v4
  let c2944_766 : Index := 2944#32
  ![v3608.toNat, 2944]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x48 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![9, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x6144 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S3072x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S48x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S12x768x6144 : Shape := ⟨3, ![12, 768, 6144]⟩
abbrev S6144 : Shape := ⟨1, ![6144]⟩
abbrev S3072x16384 : Shape := ⟨2, ![3072, 16384]⟩
abbrev S48x16384 : Shape := ⟨2, ![48, 16384]⟩
abbrev S_ : Shape := ⟨0, ![]⟩
abbrev S12x768 : Shape := ⟨2, ![12, 768]⟩
abbrev S12x768x1 : Shape := ⟨3, ![12, 768, 1]⟩
abbrev S1x1x6144 : Shape := ⟨3, ![1, 1, 6144]⟩
abbrev S12x768x48x128 : Shape := ⟨4, ![12, 768, 48, 128]⟩
abbrev S12x768x48 : Shape := ⟨3, ![12, 768, 48]⟩
abbrev S12x768x48x1 : Shape := ⟨4, ![12, 768, 48, 1]⟩
abbrev S12x768x3072x2 : Shape := ⟨4, ![12, 768, 3072, 2]⟩
abbrev S12x768x3072x1 : Shape := ⟨4, ![12, 768, 3072, 1]⟩
abbrev S12x768x3072 : Shape := ⟨3, ![12, 768, 3072]⟩
abbrev S12x768x2x3072 : Shape := ⟨4, ![12, 768, 2, 3072]⟩
abbrev S2 : Shape := ⟨1, ![2]⟩
abbrev S2x1x1 : Shape := ⟨3, ![2, 1, 1]⟩
abbrev S1x3072x16384 : Shape := ⟨3, ![1, 3072, 16384]⟩
abbrev S2x3072x16384 : Shape := ⟨3, ![2, 3072, 16384]⟩
abbrev S2x48x64x16384 : Shape := ⟨4, ![2, 48, 64, 16384]⟩
abbrev S1x48x1x16384 : Shape := ⟨4, ![1, 48, 1, 16384]⟩
abbrev S12x768x16384 : Shape := ⟨3, ![12, 768, 16384]⟩

abbrev nBuf : Space → Nat
  | .hbm => 117
  | .vmem => 0
  | .smem => 0
  | _ => 0

abbrev bufTy : (tb : Table) → Fin (tcTables nBuf tb) → BufTy
  | .hbm, ⟨0, _⟩ => ⟨S12x768x6144, .bf16⟩
  | .hbm, ⟨1, _⟩ => ⟨S6144, .f32⟩
  | .hbm, ⟨2, _⟩ => ⟨S3072x16384, .i8⟩
  | .hbm, ⟨3, _⟩ => ⟨S48x16384, .f32⟩
  | .hbm, ⟨4, _⟩ => ⟨S12x768x6144, .f32⟩
  | .hbm, ⟨5, _⟩ => ⟨S12x768x6144, .f32⟩
  | .hbm, ⟨6, _⟩ => ⟨S_, .f32⟩
  | .hbm, ⟨7, _⟩ => ⟨S12x768, .f32⟩
  | .hbm, ⟨8, _⟩ => ⟨S12x768x1, .f32⟩
  | .hbm, ⟨9, _⟩ => ⟨S_, .f32⟩
  | .hbm, ⟨10, _⟩ => ⟨S12x768x1, .f32⟩
  | .hbm, ⟨11, _⟩ => ⟨S12x768x1, .f32⟩
  | .hbm, ⟨12, _⟩ => ⟨S_, .f32⟩
  | .hbm, ⟨13, _⟩ => ⟨S12x768x1, .f32⟩
  | .hbm, ⟨14, _⟩ => ⟨S12x768x1, .f32⟩
  | .hbm, ⟨15, _⟩ => ⟨S12x768x1, .f32⟩
  | .hbm, ⟨16, _⟩ => ⟨S12x768x6144, .f32⟩
  | .hbm, ⟨17, _⟩ => ⟨S12x768x6144, .f32⟩
  | .hbm, ⟨18, _⟩ => ⟨S1x1x6144, .f32⟩
  | .hbm, ⟨19, _⟩ => ⟨S12x768x6144, .f32⟩
  | .hbm, ⟨20, _⟩ => ⟨S12x768x6144, .f32⟩
  | .hbm, ⟨21, _⟩ => ⟨S12x768x6144, .bf16⟩
  | .hbm, ⟨22, _⟩ => ⟨S12x768x6144, .f32⟩
  | .hbm, ⟨23, _⟩ => ⟨S12x768x48x128, .f32⟩
  | .hbm, ⟨24, _⟩ => ⟨S_, .f32⟩
  | .hbm, ⟨25, _⟩ => ⟨S12x768x48, .f32⟩
  | .hbm, ⟨26, _⟩ => ⟨S_, .f32⟩
  | .hbm, ⟨27, _⟩ => ⟨S12x768x48, .f32⟩
  | .hbm, ⟨28, _⟩ => ⟨S12x768x48, .f32⟩
  | .hbm, ⟨29, _⟩ => ⟨S_, .f32⟩
  | .hbm, ⟨30, _⟩ => ⟨S12x768x48, .f32⟩
  | .hbm, ⟨31, _⟩ => ⟨S_, .f32⟩
  | .hbm, ⟨32, _⟩ => ⟨S12x768x48, .f32⟩
  | .hbm, ⟨33, _⟩ => ⟨S12x768x48, .f32⟩
  | .hbm, ⟨34, _⟩ => ⟨S12x768x48, .i1⟩
  | .hbm, ⟨35, _⟩ => ⟨S12x768x48, .f32⟩
  | .hbm, ⟨36, _⟩ => ⟨S_, .f32⟩
  | .hbm, ⟨37, _⟩ => ⟨S12x768x48, .f32⟩
  | .hbm, ⟨38, _⟩ => ⟨S12x768x48, .f32⟩
  | .hbm, ⟨39, _⟩ => ⟨S_, .f32⟩
  | .hbm, ⟨40, _⟩ => ⟨S_, .f32⟩
  | .hbm, ⟨41, _⟩ => ⟨S12x768x48, .f32⟩
  | .hbm, ⟨42, _⟩ => ⟨S12x768x48, .f32⟩
  | .hbm, ⟨43, _⟩ => ⟨S12x768x48, .f32⟩
  | .hbm, ⟨44, _⟩ => ⟨S12x768x48, .f32⟩
  | .hbm, ⟨45, _⟩ => ⟨S12x768x48, .f32⟩
  | .hbm, ⟨46, _⟩ => ⟨S12x768x48x1, .f32⟩
  | .hbm, ⟨47, _⟩ => ⟨S12x768x48x128, .f32⟩
  | .hbm, ⟨48, _⟩ => ⟨S12x768x48x128, .f32⟩
  | .hbm, ⟨49, _⟩ => ⟨S12x768x48x128, .f32⟩
  | .hbm, ⟨50, _⟩ => ⟨S12x768x48x1, .f32⟩
  | .hbm, ⟨51, _⟩ => ⟨S12x768x48x128, .f32⟩
  | .hbm, ⟨52, _⟩ => ⟨S12x768x48x128, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S12x768x48x128, .f32⟩
  | .hbm, ⟨57, _⟩ => ⟨S12x768x48x128, .f32⟩
  | .hbm, ⟨58, _⟩ => ⟨S_, .f32⟩
  | .hbm, ⟨59, _⟩ => ⟨S12x768x48x128, .f32⟩
  | .hbm, ⟨60, _⟩ => ⟨S12x768x48x128, .f32⟩
  | .hbm, ⟨61, _⟩ => ⟨S12x768x48x128, .i32⟩
  | .hbm, ⟨62, _⟩ => ⟨S12x768x48x128, .i8⟩
  | .hbm, ⟨63, _⟩ => ⟨S12x768x48, .i32⟩
  | .hbm, ⟨64, _⟩ => ⟨S12x768x48, .i8⟩
  | .hbm, ⟨65, _⟩ => ⟨S12x768x48x128, .i32⟩
  | .hbm, ⟨66, _⟩ => ⟨S12x768x3072x2, .i32⟩
  | .hbm, ⟨67, _⟩ => ⟨S12x768x3072x1, .i32⟩
  | .hbm, ⟨68, _⟩ => ⟨S12x768x3072, .i32⟩
  | .hbm, ⟨69, _⟩ => ⟨S12x768x3072x1, .i32⟩
  | .hbm, ⟨70, _⟩ => ⟨S12x768x3072, .i32⟩
  | .hbm, ⟨71, _⟩ => ⟨S_, .i32⟩
  | .hbm, ⟨72, _⟩ => ⟨S12x768x3072, .i32⟩
  | .hbm, ⟨73, _⟩ => ⟨S12x768x3072, .i32⟩
  | .hbm, ⟨74, _⟩ => ⟨S12x768x3072, .i32⟩
  | .hbm, ⟨75, _⟩ => ⟨S12x768x3072, .i8⟩
  | .hbm, ⟨76, _⟩ => ⟨S12x768x48x128, .i32⟩
  | .hbm, ⟨77, _⟩ => ⟨S12x768x48, .i32⟩
  | .hbm, ⟨78, _⟩ => ⟨S12x768x48x1, .i32⟩
  | .hbm, ⟨79, _⟩ => ⟨S12x768x48x128, .i32⟩
  | .hbm, ⟨80, _⟩ => ⟨S12x768x48x128, .i32⟩
  | .hbm, ⟨81, _⟩ => ⟨S12x768x48x128, .bf16⟩
  | .hbm, ⟨82, _⟩ => ⟨S12x768x48, .bf16⟩
  | .hbm, ⟨83, _⟩ => ⟨S12x768x48x1, .bf16⟩
  | .hbm, ⟨84, _⟩ => ⟨S12x768x48x128, .bf16⟩
  | .hbm, ⟨85, _⟩ => ⟨S12x768x48x128, .bf16⟩
  | .hbm, ⟨86, _⟩ => ⟨S12x768x3072x2, .bf16⟩
  | .hbm, ⟨87, _⟩ => ⟨S12x768x2x3072, .bf16⟩
  | .hbm, ⟨88, _⟩ => ⟨S3072x16384, .i32⟩
  | .hbm, ⟨89, _⟩ => ⟨S2, .i32⟩
  | .hbm, ⟨90, _⟩ => ⟨S_, .i32⟩
  | .hbm, ⟨91, _⟩ => ⟨S2, .i32⟩
  | .hbm, ⟨92, _⟩ => ⟨S2, .i32⟩
  | .hbm, ⟨93, _⟩ => ⟨S2x1x1, .i32⟩
  | .hbm, ⟨94, _⟩ => ⟨S1x3072x16384, .i32⟩
  | .hbm, ⟨95, _⟩ => ⟨S2x3072x16384, .i32⟩
  | .hbm, ⟨96, _⟩ => ⟨S2x3072x16384, .i32⟩
  | .hbm, ⟨97, _⟩ => ⟨S2x3072x16384, .i32⟩
  | .hbm, ⟨98, _⟩ => ⟨S_, .i32⟩
  | .hbm, ⟨99, _⟩ => ⟨S2x3072x16384, .i32⟩
  | .hbm, ⟨100, _⟩ => ⟨S2x3072x16384, .i32⟩
  | .hbm, ⟨101, _⟩ => ⟨S_, .i32⟩
  | .hbm, ⟨102, _⟩ => ⟨S2x3072x16384, .i32⟩
  | .hbm, ⟨103, _⟩ => ⟨S2x3072x16384, .i1⟩
  | .hbm, ⟨104, _⟩ => ⟨S_, .i32⟩
  | .hbm, ⟨105, _⟩ => ⟨S2x3072x16384, .i32⟩
  | .hbm, ⟨106, _⟩ => ⟨S2x3072x16384, .i32⟩
  | .hbm, ⟨107, _⟩ => ⟨S2x3072x16384, .i32⟩
  | .hbm, ⟨108, _⟩ => ⟨S2x3072x16384, .bf16⟩
  | .hbm, ⟨109, _⟩ => ⟨S2x48x64x16384, .bf16⟩
  | .hbm, ⟨110, _⟩ => ⟨S48x16384, .bf16⟩
  | .hbm, ⟨111, _⟩ => ⟨S1x48x1x16384, .bf16⟩
  | .hbm, ⟨112, _⟩ => ⟨S2x48x64x16384, .bf16⟩
  | .hbm, ⟨113, _⟩ => ⟨S2x48x64x16384, .bf16⟩
  | .hbm, ⟨114, _⟩ => ⟨S2x3072x16384, .bf16⟩
  | .hbm, ⟨115, _⟩ => ⟨S12x768x16384, .f32⟩
  | .hbm, ⟨116, _⟩ => ⟨S12x768x16384, .bf16⟩
  | _, _ => ⟨S12x768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_cst_9 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_11 : Ref sig .tc := ⟨.hbm, 98, rfl⟩
abbrev main_v74 : Ref sig .tc := ⟨.hbm, 99, rfl⟩
abbrev main_v75 : Ref sig .tc := ⟨.hbm, 100, rfl⟩
abbrev main_c_12 : Ref sig .tc := ⟨.hbm, 101, rfl⟩
abbrev main_v76 : Ref sig .tc := ⟨.hbm, 102, rfl⟩
abbrev main_v77 : Ref sig .tc := ⟨.hbm, 103, rfl⟩
abbrev main_c_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Proof.KFrame.lean ====
/- @main is 2 TensorCore regions among stretches of host operations (Lib/Pipeline/Regions.lean `θ_run_regions_kit_sems`).
   Per region, at a PARAMETER `V` — the TensorCore's buffer contents when the region is entered —: each window's block at
   a point (`Gen.iblkK`) and the kernel's half of its class — class A's (frame.py: each output's buffer after
   the body `Gen.outK_W`, the body's triple by `sl_exec` `Gen.sound_kernelK`) or class R's (framerun.py: the triple per
   case a subtype the run finds `Gen.kernelRunK_κ`, its `scf.if`s in closed form `Gen.hcondK_J`, the outputs point by
   point `Gen.outsAtK`) —, its proof data `Gen.datK` over the invariant `ΦA` (`ΦD` for a kernel staging operands by its
   own DMA within the point) and its obligation `Gen.body_obligationK`. Then the run: the
   buffer contents at every segment boundary, a fold from the launch memory (`Gen.WJ`: a stretch's `StableHlo.after`; a
   region's arrays at what its write-backs leave, Lib/Pipeline/FrameSuffix.lean `withArrays`), each argument array read
   back through the fold (`Gen.WN_<arg>`, from `Gen.WJ_args`: every argument as launched at boundary J, by what the item before
   it leaves unchanged, `Gen.WJ_of`, where the references each stretch writes are `Gen.hostOpsJ_W` and no argument is among
   them or among a region's output arrays, `Gen.hostOpsJ_args` / `Gen.argsInK`), every pipeline's proof data at its region's
   entry contents (`Gen.pdats`), a `HostSeg.ofOps` per stretch and a `RegionSeg` per region over the thread state "every
   unscoped buffer at the boundary's contents, the generator register at some state, nothing owed" (`Gen.regK`,
   `Gen.segs`), and `Gen.frame` — the frame claim at any `F`: Proof.lean is
   `theorem Cert.Proof.claim : Cert.Claim := ⟨Gen.facts, fun m ρ _ => Gen.frame m ρ⟩`.
   CLASS A or R in each of its 2 regions (region 0: R, one case — not A: a `for` in the body; region 1: R, one case, 1 scratch operand, scratch `arg6` posted (its store pieces named, `LT·`, in the run of each case that posts it) — not A: the kernel takes operands the pipeline does not stage (scratch, semaphores, tables, arrays left in HBM)): the certificate is whole here. DO NOT EDIT. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rmsnorm_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S128x6144 .bf16 := (Memref.whole cc0_stg2_0 : Memref sig .tc .vmem S128x6144 .bf16).view
/-- One staging buffer of output window 3, through which its contents are stated (`View.read_writes_of_cover`: the
    choice does not matter). -/
abbrev VO0_3 : View sig .tc .vmem S128x3072 .i8 := (Memref.whole cc0_stg3_0 : Memref sig .tc .vmem S128x3072 .i8).view
/-- One staging buffer of output window 4, through which its contents are stated (`View.read_writes_of_cover`: the
    choice does not matter). -/
abbrev VO0_4 : View sig .tc .vmem S128x48 .f32 := (Memref.whole cc0_stg4_0 : Memref sig .tc .vmem S128x48 .f32).view
/-- One staging buffer of output window 5, through which its contents are stated (`View.read_writes_of_cover`: the
    choice does not matter). -/
abbrev VO0_5 : View sig .tc .vmem S128x48 .i8 := (Memref.whole cc0_stg5_0 : Memref sig .tc .vmem S128x48 .i8).view
/-- One staging buffer of output window 6, through which its contents are stated (`View.read_writes_of_cover`: the
    choice does not matter). -/
abbrev VO0_6 : View sig .tc .vmem S128x6144 .bf16 := (Memref.whole cc0_stg6_0 : Memref sig .tc .vmem S128x6144 .bf16).view
/-- Each window's current staging memref at point `t`, spelled as the pipeline passes it (`bodyAt0`), and its wholeness. -/
abbrev ms0_0 (t : Fin cfg0.N) : Memref sig .tc .vmem S128x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x3072 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x48 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x48 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x6144 .bf16 := win0_6.stage (cfg0.slots t 6)
abbrev hs0_6 (t : Fin cfg0.N) : (ms0_6 t).IsWhole := hstage0_6 ((cfg0.slots t 6).cast nbuf0_6)

/-- One trip's pieces do not depend on what the output buffers held when it began. -/
theorem tripL_indep (𝒱 : Variants) (c : Dev nD) (bd : Option 𝒱.V) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole) (X_arg1 : BufTy.Contents (Elt F) arg1.view.ty) (X_arg2 : BufTy.Contents (Elt F) arg2.view.ty) (k : Fin k0_t1_loop.trips) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (g3 : BufTy.Contents (Elt F) arg3.view.ty) (g4 : BufTy.Contents (Elt F) arg4.view.ty) (g5 : BufTy.Contents (Elt F) arg5.view.ty) (g6 : BufTy.Contents (Elt F) arg6.view.ty) (g7 : BufTy.Contents (Elt F) arg7.view.ty) :
    tripL_k0_t1 (F := F) 𝒱 c bd i arg1 harg1 arg2 harg2 arg3 harg3 arg4 harg4 arg5 harg5 arg6 harg6 arg7 harg7 X_arg1 X_arg2 k f3 f4 f5 f6 f7
      = tripL_k0_t1 (F := F) 𝒱 c bd i arg1 harg1 arg2 harg2 arg3 harg3 arg4 harg4 arg5 harg5 arg6 harg6 arg7 harg7 X_arg1 X_arg2 k g3 g4 g5 g6 g7 := by
  unfold tripL_k0_t1 trip_k0_t1
  rfl

/-- So neither do the pieces of the trips before `k`. -/
theorem pb_indep (𝒱 : Variants) (c : Dev nD) (bd : Option 𝒱.V) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole) (X_arg1 : BufTy.Contents (Elt F) arg1.view.ty) (X_arg2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (g3 : BufTy.Contents (Elt F) arg3.view.ty) (g4 : BufTy.Contents (Elt F) arg4.view.ty) (g5 : BufTy.Contents (Elt F) arg5.view.ty) (g6 : BufTy.Contents (Elt F) arg6.view.ty) (g7 : BufTy.Contents (Elt F) arg7.view.ty) (k : ℕ) :
    pb_k0_t1 (F := F) 𝒱 c bd i arg1 harg1 arg2 harg2 arg3 harg3 arg4 harg4 arg5 harg5 arg6 harg6 arg7 harg7 X_arg1 X_arg2 f3 f4 f5 f6 f7 k
      = pb_k0_t1 (F := F) 𝒱 c bd i arg1 harg1 arg2 harg2 arg3 harg3 arg4 harg4 arg5 harg5 arg6 harg6 arg7 harg7 X_arg1 X_arg2 g3 g4 g5 g6 g7 k := by
  induction k with
  | zero => rfl
  | succ k ih =>
    rw [pb_k0_t1.eq_2, pb_k0_t1.eq_2, ih]
    unfold pb_k0_t1Step
    split
    · rw [tripL_indep (F := F) 𝒱 c bd i arg1 harg1 arg2 harg2 arg3 harg3 arg4 harg4 arg5 harg5 arg6 harg6 arg7 harg7 X_arg1 X_arg2 ⟨k, ‹_›⟩ _ _ _ _ _ g3 g4 g5 g6 g7]
      rw [tripL_indep (F := F) 𝒱 c bd i arg1 harg1 arg2 harg2 arg3 harg3 arg4 harg4 arg5 harg5 arg6 harg6 arg7 harg7 X_arg1 X_arg2 ⟨k, ‹_›⟩ (arg3.view.writes (Elt F) g3 _) _ _ _ _ g3 g4 g5 g6 g7]
    · rfl

/-- The pieces the quantiser's four trips leave in its five result blocks. -/
noncomputable def pbAll (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole) (x0 : Vec F S128x6144 .bf16) (x1 : Vec F S1x6144 .f32) :=
  pb_k0_t1 (F := F) Variants.none c none i arg1 harg1 arg2 harg2 arg3 harg3 arg4 harg4 arg5 harg5 arg6 harg6 arg7 harg7 (harg1.unread x0) (harg2.unread x1) arg3.view.junk arg4.view.junk arg5.view.junk arg6.view.junk arg7.view.junk k0_t1_loop.trips

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) :
    Σ' (L2 : List (View.Piece (Elt F) S128x6144 .bf16)), Σ' (L3 : List (View.Piece (Elt F) S128x3072 .i8)), Σ' (L4 : List (View.Piece (Elt F) S128x48 .f32)), Σ' (L5 : List (View.Piece (Elt F) S128x48 .i8)), { L6 : List (View.Piece (Elt F) S128x6144 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_rmsnorm_quant i arg1 harg1 arg2 harg2 arg3 harg3 arg4 harg4 arg5 harg5 arg6 harg6 arg7 harg7) K } := by
  refine ⟨(pbAll c i arg1 harg1 arg2 harg2 arg3 harg3 arg4 harg4 arg5 harg5 arg6 harg6 arg7 harg7 x0 x1).1, (pbAll c i arg1 harg1 arg2 harg2 arg3 harg3 arg4 harg4 arg5 harg5 arg6 harg6 arg7 harg7 x0 x1).2.1, (pbAll c i arg1 harg1 arg2 harg2 arg3 harg3 arg4 harg4 arg5 harg5 arg6 harg6 arg7 harg7 x0 x1).2.2.1, (pbAll c i arg1 harg1 arg2 harg2 arg3 harg3 arg4 harg4 arg5 harg5 arg6 harg6 arg7 harg7 x0 x1).2.2.2.1, (pbAll c i arg1 harg1 arg2 harg2 arg3 harg3 arg4 harg4 arg5 harg5 arg6 harg6 arg7 harg7 x0 x1).2.2.2.2, fun E K => ?run⟩
  case run =>
    simp only [cc0_rmsnorm_quant_eq_skeleton]; unfold cc0_rmsnorm_quant_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1
    sl_exec
    sl_step
    have hpb := pb_indep (F := F) Variants.none c none i arg1 harg1 arg2 harg2 arg3 harg3 arg4 harg4 arg5 harg5 arg6 harg6 arg7 harg7 (harg1.unread x0) (harg2.unread x1) f2 f3 f4 f5 f6 arg3.view.junk arg4.view.junk arg5.view.junk arg6.view.junk arg7.view.junk k0_t1_loop.trips
    rw [hpb]
    have hall : pb_k0_t1 (F := F) Variants.none c none i arg1 harg1 arg2 harg2 arg3 harg3 arg4 harg4 arg5 harg5 arg6 harg6 arg7 harg7 (harg1.unread x0) (harg2.unread x1) arg3.view.junk arg4.view.junk arg5.view.junk arg6.view.junk arg7.view.junk k0_t1_loop.trips = pbAll c i arg1 harg1 arg2 harg2 arg3 harg3 arg4 harg4 arg5 harg5 arg6 harg6 arg7 harg7 x0 x1 := rfl
    rw [hall]
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

/-- The run's pieces for output 2 tile its block (192 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x6144.Idx) :
    ∃ pc ∈ (kernelRun0_A c i arg1 harg1 arg2 harg2 arg3 harg3 arg4 harg4 arg5 harg5 arg6 harg6 arg7 harg7 x0 x1).1, y ∈ pc.1.set :=
  View.cover_of_tiledL (kernelRun0_A c i arg1 harg1 arg2 harg2 arg3 harg3 arg4 harg4 arg5 harg5 arg6 harg6 arg7 harg7 x0 x1).1 S32x128.size (by sl_kernel_rfl) y

/-- What the run leaves in output 2's staging buffer: its pieces read back over junk. -/
def out0_A_2 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x6144 .bf16 :=
  VO0_2.read (Elt F) (VO0_2.writes (Elt F) VO0_2.junk (kernelRun0_A c i arg1 harg1 arg2 harg2 arg3 harg3 arg4 harg4 arg5 harg5 arg6 harg6 arg7 harg7 x0 x1).1)

/-- The run's pieces for output 3 tile its block (96 stores of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x3072.Idx) :
    ∃ pc ∈ (kernelRun0_A c i arg1 harg1 arg2 harg2 arg3 harg3 arg4 harg4 arg5 harg5 arg6 harg6 arg7 harg7 x0 x1).2.1, y ∈ pc.1.set :=
  View.cover_of_tiledL (kernelRun0_A c i arg1 harg1 arg2 harg2 arg3 harg3 arg4 harg4 arg5 harg5 arg6 harg6 arg7 harg7 x0 x1).2.1 S32x128.size (by sl_kernel_rfl) y

/-- What the run leaves in output 3's staging buffer: its pieces read back over junk. -/
def out0_A_3 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x3072 .i8 :=
  VO0_3.read (Elt F) (VO0_3.writes (Elt F) VO0_3.junk (kernelRun0_A c i arg1 harg1 arg2 harg2 arg3 harg3 arg4 harg4 arg5 harg5 arg6 harg6 arg7 harg7 x0 x1).2.1)

/-- The run's pieces for output 4 tile its block (4 stores of `S32x48`, checked by the kernel's evaluation: Lib/Ring.lean `Piece.tiledL`, linear in the pieces, through a loop's `@[irreducible]` trip theorem too), so they cover it. -/
theorem cover0_A_4 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x48.Idx) :
    ∃ pc ∈ (kernelRun0_A c i arg1 harg1 arg2 harg2 arg3 harg3 arg4 harg4 arg5 harg5 arg6 harg6 arg7 harg7 x0 x1).2.2.1, y ∈ pc.1.set :=
  View.cover_of_tiledL (kernelRun0_A c i arg1 harg1 arg2 harg2 arg3 harg3 arg4 harg4 arg5 harg5 arg6 harg6 arg7 harg7 x0 x1).2.2.1 S32x48.size (by sl_kernel_rfl) y

/-- What the run leaves in output 4's staging buffer: its pieces read back over junk. -/
def out0_A_4 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x48 .f32 :=
  VO0_4.read (Elt F) (VO0_4.writes (Elt F) VO0_4.junk (kernelRun0_A c i arg1 harg1 arg2 harg2 arg3 harg3 arg4 harg4 arg5 harg5 arg6 harg6 arg7 harg7 x0 x1).2.2.1)

/-- The run's pieces for output 5 tile its block (4 stores of `S32x48`, checked by the kernel's evaluation: Lib/Ring.lean `Piece.tiledL`, linear in the pieces, through a loop's `@[irreducible]` trip theorem too), so they cover it. -/
theorem cover0_A_5 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x48.Idx) :
    ∃ pc ∈ (kernelRun0_A c i arg1 harg1 arg2 harg2 arg3 harg3 arg4 harg4 arg5 harg5 arg6 harg6 arg7 harg7 x0 x1).2.2.2.1, y ∈ pc.1.set :=
  View.cover_of_tiledL (kernelRun0_A c i arg1 harg1 arg2 harg2 arg3 harg3 arg4 harg4 arg5 harg5 arg6 harg6 arg7 harg7 x0 x1).2.2.2.1 S32x48.size (by sl_kernel_rfl) y

/-- What the run leaves in output 5's staging buffer: its pieces read back over junk. -/
def out0_A_5 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x48 .i8 :=
  VO0_5.read (Elt F) (VO0_5.writes (Elt F) VO0_5.junk (kernelRun0_A c i arg1 harg1 arg2 harg2 arg3 harg3 arg4 harg4 arg5 harg5 arg6 harg6 arg7 harg7 x0 x1).2.2.2.1)

/-- The run's pieces for output 6 tile its block (192 stores of `S32x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x6144.Idx) :
    ∃ pc ∈ (kernelRun0_A c i arg1 harg1 arg2 harg2 arg3 harg3 arg4 harg4 arg5 harg5 arg6 harg6 arg7 harg7 x0 x1).2.2.2.2.1, y ∈ pc.1.set :=
  View.cover_of_tiledL (kernelRun0_A c i arg1 harg1 arg2 harg2 arg3 harg3 arg4 harg4 arg5 harg5 arg6 harg6 arg7 harg7 x0 x1).2.2.2.2.1 S32x128.size (by sl_kernel_rfl) y

/-- What the run leaves in output 6's staging buffer: its pieces read back over junk. -/
def out0_A_6 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x6144 .bf16 :=
  VO0_6.read (Elt F) (VO0_6.writes (Elt F) VO0_6.junk (kernelRun0_A c i arg1 harg1 arg2 harg2 arg3 harg3 arg4 harg4 arg5 harg5 arg6 harg6 arg7 harg7 x0 x1).2.2.2.2.1)

/-! ## What the outputs hold after each point -/

/-- What the outputs' staging buffers hold after the body at point `t` (as a tuple, in window order): the run's contents at
    the point's memrefs and input blocks. -/
def outsAt0 (c : Dev nD) (t : Fin cfg0.N) : Vec F S128x6144 .bf16 × Vec F S128x3072 .i8 × Vec F S128x48 .f32 × Vec F S128x48 .i8 × Vec F S128x6144 .bf16 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
    | ⟨4, _⟩ => (outsAt0 V c t).2.2.1
    | ⟨5, _⟩ => (outsAt0 V c t).2.2.2.1
    | ⟨6, _⟩ => (outsAt0 V c t).2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]
theorem after0_4 (c : Dev nD) (t : Fin cfg0.N) : (dat0 V c).after 4 t = (outsAt0 V c t).2.2.1 := by dsimp only [dat0]
theorem after0_5 (c : Dev nD) (t : Fin cfg0.N) : (dat0 V c).after 5 t = (outsAt0 V c t).2.2.2.1 := by dsimp only [dat0]
theorem after0_6 (c : Dev nD) (t : Fin cfg0.N) : (dat0 V c).after 6 t = (outsAt0 V c t).2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold outsAt0
  unfold out0_A_2 out0_A_3 out0_A_4 out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk0 V c 0 t) (iblk0 V c 1 t)).2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, ⟨%e2, H2⟩, ⟨%e3, H3⟩, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_w4_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S1024x512 .bf16 := (Memref.whole cc1_stg3_0 : Memref sig .tc .vmem S1024x512 .bf16).view
/-- Each window's current staging memref at point `t`, spelled as the pipeline passes it (`bodyAt1`), and its wholeness. -/
abbrev ms1_0 (t : Fin cfg1.N) : Memref sig .tc .vmem S1024x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x512 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S48x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S6144x512 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1208000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) :
    Σ' (L3 : List (View.Piece (Elt F) S1024x512 .bf16)), { LT0 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0)) -∗ K ⟨⟩))
          ⊢ wp frame (wpE (defs₀ (F := F)) Variants.none c none) E (cc1_w4_matmul i arg2 harg2 arg3 harg3 arg4 harg4 arg5 harg5 arg6 harg6) K } := by
  refine ⟨?_, ?_, fun E K => ?run⟩
  case run =>
    simp only [cc1_w4_matmul_eq_skeleton]; unfold cc1_w4_matmul_skel
    simp only [k1_part27_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The run's pieces for output 3 tile its block (1 store of `S1024x512`, checked by the kernel's evaluation: Lib/Ring.lean `Piece.tiledL`, linear in the pieces, through a loop's `@[irreducible]` trip theorem too), so they cover it. -/
theorem cover1_A_3 (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) (y : S1024x512.Idx) :
    ∃ pc ∈ (kernelRun1_A c i arg2 harg2 arg3 harg3 arg4 harg4 arg5 harg5 arg6 harg6 x0 x1 x2).1, y ∈ pc.1.set :=
  View.cover_of_tiledL (kernelRun1_A c i arg2 harg2 arg3 harg3 arg4 harg4 arg5 harg5 arg6 harg6 x0 x1 x2).1 S1024x512.size (by sl_kernel_rfl) y

/-- What the run leaves in output 3's staging buffer: its pieces read back over junk. -/
def out1_A_3 (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) : Vec F S1024x512 .bf16 :=
  VO1_3.read (Elt F) (VO1_3.writes (Elt F) VO1_3.junk (kernelRun1_A c i arg2 harg2 arg3 harg3 arg4 harg4 arg5 harg5 arg6 harg6 x0 x1 x2).1)

/-! ## What the outputs hold after each point -/

/-- What the outputs' staging buffers hold after the body at point `t`: the run's contents at
    the point's memrefs and input blocks. -/
def outsAt1 (c : Dev nD) (t : Fin cfg1.N) : Vec F S1024x512 .bf16 :=
  out1_A_3 c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩⟩
  iapply ((kernelRun1_A c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HR0 HR1 HR2 HR3 HR4 HR5 HR6 HR7 HR8 HR9 HR10 HR11 HR12 HS0 Hg]
  · isplitl [HR0 HR1 HR2 HR3 HR4 HR5 HR6 HR7 HR8 HR9 HR10 HR11 HR12 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7, main_v8]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.Kernel.Gen

end
-- ==== Proof.KIFrame.lean ====
/- @main is 2 TensorCore regions among stretches of host operations (Lib/Pipeline/Regions.lean `θ_run_regions_kit_sems`).
   Per region, at a PARAMETER `V` — the TensorCore's buffer contents when the region is entered —: each window's block at
   a point (`Gen.iblkK`) and the kernel's half of its class — class A's (frame.py: each output's buffer after
   the body `Gen.outK_W`, the body's triple by `sl_exec` `Gen.sound_kernelK`) or class R's (framerun.py: the triple per
   case a subtype the run finds `Gen.kernelRunK_κ`, its `scf.if`s in closed form `Gen.hcondK_J`, the outputs point by
   point `Gen.outsAtK`) —, its proof data `Gen.datK` over the invariant `ΦA` (`ΦD` for a kernel staging operands by its
   own DMA within the point) and its obligation `Gen.body_obligationK`. Then the run: the
   buffer contents at every segment boundary, a fold from the launch memory (`Gen.WJ`: a stretch's `StableHlo.after`; a
   region's arrays at what its write-backs leave, Lib/Pipeline/FrameSuffix.lean `withArrays`), each argument array read
   back through the fold (`Gen.WN_<arg>`, from `Gen.WJ_args`: every argument as launched at boundary J, by what the item before
   it leaves unchanged, `Gen.WJ_of`, where the references each stretch writes are `Gen.hostOpsJ_W` and no argument is among
   them or among a region's output arrays, `Gen.hostOpsJ_args` / `Gen.argsInK`), every pipeline's proof data at its region's
   entry contents (`Gen.pdats`), a `HostSeg.ofOps` per stretch and a `RegionSeg` per region over the thread state "every
   unscoped buffer at the boundary's contents, the generator register at some state, nothing owed" (`Gen.regK`,
   `Gen.segs`), and `Gen.frame` — the frame claim at any `F`: Proof.lean is
   `theorem Cert.Proof.claim : Cert.Claim := ⟨Gen.facts, fun m ρ _ => Gen.frame m ρ⟩`.
   CLASS A or R in each of its 2 regions (region 0: R, one case — not A: a `for` in the body; region 1: R, one case, 1 scratch operand, scratch `arg6` posted (its store pieces named, `LT·`, in the run of each case that posts it) — not A: the kernel takes operands the pipeline does not stage (scratch, semaphores, tables, arrays left in HBM)): the certificate is whole here. DO NOT EDIT. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rmsnorm_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S128x6144 .bf16 := (Memref.whole cc0_stg2_0 : Memref sig .tc .vmem S128x6144 .bf16).view
/-- One staging buffer of output window 3, through which its contents are stated (`View.read_writes_of_cover`: the
    choice does not matter). -/
abbrev VO0_3 : View sig .tc .vmem S128x3072 .i8 := (Memref.whole cc0_stg3_0 : Memref sig .tc .vmem S128x3072 .i8).view
/-- One staging buffer of output window 4, through which its contents are stated (`View.read_writes_of_cover`: the
    choice does not matter). -/
abbrev VO0_4 : View sig .tc .vmem S128x48 .f32 := (Memref.whole cc0_stg4_0 : Memref sig .tc .vmem S128x48 .f32).view
/-- One staging buffer of output window 5, through which its contents are stated (`View.read_writes_of_cover`: the
    choice does not matter). -/
abbrev VO0_5 : View sig .tc .vmem S128x48 .i8 := (Memref.whole cc0_stg5_0 : Memref sig .tc .vmem S128x48 .i8).view
/-- One staging buffer of output window 6, through which its contents are stated (`View.read_writes_of_cover`: the
    choice does not matter). -/
abbrev VO0_6 : View sig .tc .vmem S128x6144 .bf16 := (Memref.whole cc0_stg6_0 : Memref sig .tc .vmem S128x6144 .bf16).view
/-- Each window's current staging memref at point `t`, spelled as the pipeline passes it (`bodyAt0`), and its wholeness. -/
abbrev ms0_0 (t : Fin cfg0.N) : Memref sig .tc .vmem S128x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x3072 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x48 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x48 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x6144 .bf16 := win0_6.stage (cfg0.slots t 6)
abbrev hs0_6 (t : Fin cfg0.N) : (ms0_6 t).IsWhole := hstage0_6 ((cfg0.slots t 6).cast nbuf0_6)

/-- One trip's pieces do not depend on what the output buffers held when it began. -/
theorem tripL_indep (𝒱 : Variants) (c : Dev nD) (bd : Option 𝒱.V) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole) (X_arg1 : BufTy.Contents (Elt F) arg1.view.ty) (X_arg2 : BufTy.Contents (Elt F) arg2.view.ty) (k : Fin k0_t1_loop.trips) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (g3 : BufTy.Contents (Elt F) arg3.view.ty) (g4 : BufTy.Contents (Elt F) arg4.view.ty) (g5 : BufTy.Contents (Elt F) arg5.view.ty) (g6 : BufTy.Contents (Elt F) arg6.view.ty) (g7 : BufTy.Contents (Elt F) arg7.view.ty) :
    tripL_k0_t1 (F := F) 𝒱 c bd i arg1 harg1 arg2 harg2 arg3 harg3 arg4 harg4 arg5 harg5 arg6 harg6 arg7 harg7 X_arg1 X_arg2 k f3 f4 f5 f6 f7
      = tripL_k0_t1 (F := F) 𝒱 c bd i arg1 harg1 arg2 harg2 arg3 harg3 arg4 harg4 arg5 harg5 arg6 harg6 arg7 harg7 X_arg1 X_arg2 k g3 g4 g5 g6 g7 := by
  unfold tripL_k0_t1 trip_k0_t1
  rfl

/-- So neither do the pieces of the trips before `k`. -/
theorem pb_indep (𝒱 : Variants) (c : Dev nD) (bd : Option 𝒱.V) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole) (X_arg1 : BufTy.Contents (Elt F) arg1.view.ty) (X_arg2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (g3 : BufTy.Contents (Elt F) arg3.view.ty) (g4 : BufTy.Contents (Elt F) arg4.view.ty) (g5 : BufTy.Contents (Elt F) arg5.view.ty) (g6 : BufTy.Contents (Elt F) arg6.view.ty) (g7 : BufTy.Contents (Elt F) arg7.view.ty) (k : ℕ) :
    pb_k0_t1 (F := F) 𝒱 c bd i arg1 harg1 arg2 harg2 arg3 harg3 arg4 harg4 arg5 harg5 arg6 harg6 arg7 harg7 X_arg1 X_arg2 f3 f4 f5 f6 f7 k
      = pb_k0_t1 (F := F) 𝒱 c bd i arg1 harg1 arg2 harg2 arg3 harg3 arg4 harg4 arg5 harg5 arg6 harg6 arg7 harg7 X_arg1 X_arg2 g3 g4 g5 g6 g7 k := by
  induction k with
  | zero => rfl
  | succ k ih =>
    rw [pb_k0_t1.eq_2, pb_k0_t1.eq_2, ih]
    unfold pb_k0_t1Step
    split
    · rw [tripL_indep (F := F) 𝒱 c bd i arg1 harg1 arg2 harg2 arg3 harg3 arg4 harg4 arg5 harg5 arg6 harg6 arg7 harg7 X_arg1 X_arg2 ⟨k, ‹_›⟩ _ _ _ _ _ g3 g4 g5 g6 g7]
      rw [tripL_indep (F := F) 𝒱 c bd i arg1 harg1 arg2 harg2 arg3 harg3 arg4 harg4 arg5 harg5 arg6 harg6 arg7 harg7 X_arg1 X_arg2 ⟨k, ‹_›⟩ (arg3.view.writes (Elt F) g3 _) _ _ _ _ g3 g4 g5 g6 g7]
    · rfl

/-- The pieces the quantiser's four trips leave in its five result blocks. -/
noncomputable def pbAll (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole) (x0 : Vec F S128x6144 .bf16) (x1 : Vec F S1x6144 .f32) :=
  pb_k0_t1 (F := F) Variants.none c none i arg1 harg1 arg2 harg2 arg3 harg3 arg4 harg4 arg5 harg5 arg6 harg6 arg7 harg7 (harg1.unread x0) (harg2.unread x1) arg3.view.junk arg4.view.junk arg5.view.junk arg6.view.junk arg7.view.junk k0_t1_loop.trips

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) :
    Σ' (L2 : List (View.Piece (Elt F) S128x6144 .bf16)), Σ' (L3 : List (View.Piece (Elt F) S128x3072 .i8)), Σ' (L4 : List (View.Piece (Elt F) S128x48 .f32)), Σ' (L5 : List (View.Piece (Elt F) S128x48 .i8)), { L6 : List (View.Piece (Elt F) S128x6144 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_rmsnorm_quant i arg1 harg1 arg2 harg2 arg3 harg3 arg4 harg4 arg5 harg5 arg6 harg6 arg7 harg7) K } := by
  refine ⟨(pbAll c i arg1 harg1 arg2 harg2 arg3 harg3 arg4 harg4 arg5 harg5 arg6 harg6 arg7 harg7 x0 x1).1, (pbAll c i arg1 harg1 arg2 harg2 arg3 harg3 arg4 harg4 arg5 harg5 arg6 harg6 arg7 harg7 x0 x1).2.1, (pbAll c i arg1 harg1 arg2 harg2 arg3 harg3 arg4 harg4 arg5 harg5 arg6 harg6 arg7 harg7 x0 x1).2.2.1, (pbAll c i arg1 harg1 arg2 harg2 arg3 harg3 arg4 harg4 arg5 harg5 arg6 harg6 arg7 harg7 x0 x1).2.2.2.1, (pbAll c i arg1 harg1 arg2 harg2 arg3 harg3 arg4 harg4 arg5 harg5 arg6 harg6 arg7 harg7 x0 x1).2.2.2.2, fun E K => ?run⟩
  case run =>
    simp only [cc0_rmsnorm_quant_eq_skeleton]; unfold cc0_rmsnorm_quant_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1
    sl_exec
    sl_step
    have hpb := pb_indep (F := F) Variants.none c none i arg1 harg1 arg2 harg2 arg3 harg3 arg4 harg4 arg5 harg5 arg6 harg6 arg7 harg7 (harg1.unread x0) (harg2.unread x1) f2 f3 f4 f5 f6 arg3.view.junk arg4.view.junk arg5.view.junk arg6.view.junk arg7.view.junk k0_t1_loop.trips
    rw [hpb]
    have hall : pb_k0_t1 (F := F) Variants.none c none i arg1 harg1 arg2 harg2 arg3 harg3 arg4 harg4 arg5 harg5 arg6 harg6 arg7 harg7 (harg1.unread x0) (harg2.unread x1) arg3.view.junk arg4.view.junk arg5.view.junk arg6.view.junk arg7.view.junk k0_t1_loop.trips = pbAll c i arg1 harg1 arg2 harg2 arg3 harg3 arg4 harg4 arg5 harg5 arg6 harg6 arg7 harg7 x0 x1 := rfl
    rw [hall]
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

/-- The run's pieces for output 2 tile its block (192 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x6144.Idx) :
    ∃ pc ∈ (kernelRun0_A c i arg1 harg1 arg2 harg2 arg3 harg3 arg4 harg4 arg5 harg5 arg6 harg6 arg7 harg7 x0 x1).1, y ∈ pc.1.set :=
  View.cover_of_tiledL (kernelRun0_A c i arg1 harg1 arg2 harg2 arg3 harg3 arg4 harg4 arg5 harg5 arg6 harg6 arg7 harg7 x0 x1).1 S32x128.size (by sl_kernel_rfl) y

/-- What the run leaves in output 2's staging buffer: its pieces read back over junk. -/
def out0_A_2 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x6144 .bf16 :=
  VO0_2.read (Elt F) (VO0_2.writes (Elt F) VO0_2.junk (kernelRun0_A c i arg1 harg1 arg2 harg2 arg3 harg3 arg4 harg4 arg5 harg5 arg6 harg6 arg7 harg7 x0 x1).1)

/-- The run's pieces for output 3 tile its block (96 stores of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x3072.Idx) :
    ∃ pc ∈ (kernelRun0_A c i arg1 harg1 arg2 harg2 arg3 harg3 arg4 harg4 arg5 harg5 arg6 harg6 arg7 harg7 x0 x1).2.1, y ∈ pc.1.set :=
  View.cover_of_tiledL (kernelRun0_A c i arg1 harg1 arg2 harg2 arg3 harg3 arg4 harg4 arg5 harg5 arg6 harg6 arg7 harg7 x0 x1).2.1 S32x128.size (by sl_kernel_rfl) y

/-- What the run leaves in output 3's staging buffer: its pieces read back over junk. -/
def out0_A_3 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x3072 .i8 :=
  VO0_3.read (Elt F) (VO0_3.writes (Elt F) VO0_3.junk (kernelRun0_A c i arg1 harg1 arg2 harg2 arg3 harg3 arg4 harg4 arg5 harg5 arg6 harg6 arg7 harg7 x0 x1).2.1)

/-- The run's pieces for output 4 tile its block (4 stores of `S32x48`, checked by the kernel's evaluation: Lib/Ring.lean `Piece.tiledL`, linear in the pieces, through a loop's `@[irreducible]` trip theorem too), so they cover it. -/
theorem cover0_A_4 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x48.Idx) :
    ∃ pc ∈ (kernelRun0_A c i arg1 harg1 arg2 harg2 arg3 harg3 arg4 harg4 arg5 harg5 arg6 harg6 arg7 harg7 x0 x1).2.2.1, y ∈ pc.1.set :=
  View.cover_of_tiledL (kernelRun0_A c i arg1 harg1 arg2 harg2 arg3 harg3 arg4 harg4 arg5 harg5 arg6 harg6 arg7 harg7 x0 x1).2.2.1 S32x48.size (by sl_kernel_rfl) y

/-- What the run leaves in output 4's staging buffer: its pieces read back over junk. -/
def out0_A_4 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x48 .f32 :=
  VO0_4.read (Elt F) (VO0_4.writes (Elt F) VO0_4.junk (kernelRun0_A c i arg1 harg1 arg2 harg2 arg3 harg3 arg4 harg4 arg5 harg5 arg6 harg6 arg7 harg7 x0 x1).2.2.1)

/-- The run's pieces for output 5 tile its block (4 stores of `S32x48`, checked by the kernel's evaluation: Lib/Ring.lean `Piece.tiledL`, linear in the pieces, through a loop's `@[irreducible]` trip theorem too), so they cover it. -/
theorem cover0_A_5 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x48.Idx) :
    ∃ pc ∈ (kernelRun0_A c i arg1 harg1 arg2 harg2 arg3 harg3 arg4 harg4 arg5 harg5 arg6 harg6 arg7 harg7 x0 x1).2.2.2.1, y ∈ pc.1.set :=
  View.cover_of_tiledL (kernelRun0_A c i arg1 harg1 arg2 harg2 arg3 harg3 arg4 harg4 arg5 harg5 arg6 harg6 arg7 harg7 x0 x1).2.2.2.1 S32x48.size (by sl_kernel_rfl) y

/-- What the run leaves in output 5's staging buffer: its pieces read back over junk. -/
def out0_A_5 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x48 .i8 :=
  VO0_5.read (Elt F) (VO0_5.writes (Elt F) VO0_5.junk (kernelRun0_A c i arg1 harg1 arg2 harg2 arg3 harg3 arg4 harg4 arg5 harg5 arg6 harg6 arg7 harg7 x0 x1).2.2.2.1)

/-- The run's pieces for output 6 tile its block (192 stores of `S32x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) (y : S128x6144.Idx) :
    ∃ pc ∈ (kernelRun0_A c i arg1 harg1 arg2 harg2 arg3 harg3 arg4 harg4 arg5 harg5 arg6 harg6 arg7 harg7 x0 x1).2.2.2.2.1, y ∈ pc.1.set :=
  View.cover_of_tiledL (kernelRun0_A c i arg1 harg1 arg2 harg2 arg3 harg3 arg4 harg4 arg5 harg5 arg6 harg6 arg7 harg7 x0 x1).2.2.2.2.1 S32x128.size (by sl_kernel_rfl) y

/-- What the run leaves in output 6's staging buffer: its pieces read back over junk. -/
def out0_A_6 (c : Dev nD) (i : grid0.Coords) (arg1 : Memref sig .tc .vmem S128x6144 .bf16) (harg1 : arg1.IsWhole) (arg2 : Memref sig .tc .vmem S1x6144 .f32) (harg2 : arg2.IsWhole) (arg3 : Memref sig .tc .vmem S128x6144 .bf16) (harg3 : arg3.IsWhole) (arg4 : Memref sig .tc .vmem S128x3072 .i8) (harg4 : arg4.IsWhole) (arg5 : Memref sig .tc .vmem S128x48 .f32) (harg5 : arg5.IsWhole) (arg6 : Memref sig .tc .vmem S128x48 .i8) (harg6 : arg6.IsWhole) (arg7 : Memref sig .tc .vmem S128x6144 .bf16) (harg7 : arg7.IsWhole)
    (x0 : Vec F S128x6144 .bf16) (x1 : Vec F S1x6144 .f32) : Vec F S128x6144 .bf16 :=
  VO0_6.read (Elt F) (VO0_6.writes (Elt F) VO0_6.junk (kernelRun0_A c i arg1 harg1 arg2 harg2 arg3 harg3 arg4 harg4 arg5 harg5 arg6 harg6 arg7 harg7 x0 x1).2.2.2.2.1)

/-! ## What the outputs hold after each point -/

/-- What the outputs' staging buffers hold after the body at point `t` (as a tuple, in window order): the run's contents at
    the point's memrefs and input blocks. -/
def outsAt0 (c : Dev nD) (t : Fin cfg0.N) : Vec F S128x6144 .bf16 × Vec F S128x3072 .i8 × Vec F S128x48 .f32 × Vec F S128x48 .i8 × Vec F S128x6144 .bf16 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
    | ⟨4, _⟩ => (outsAt0 V c t).2.2.1
    | ⟨5, _⟩ => (outsAt0 V c t).2.2.2.1
    | ⟨6, _⟩ => (outsAt0 V c t).2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]
theorem after0_4 (c : Dev nD) (t : Fin cfg0.N) : (dat0 V c).after 4 t = (outsAt0 V c t).2.2.1 := by dsimp only [dat0]
theorem after0_5 (c : Dev nD) (t : Fin cfg0.N) : (dat0 V c).after 5 t = (outsAt0 V c t).2.2.2.1 := by dsimp only [dat0]
theorem after0_6 (c : Dev nD) (t : Fin cfg0.N) : (dat0 V c).after 6 t = (outsAt0 V c t).2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold outsAt0
  unfold out0_A_2 out0_A_3 out0_A_4 out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk0 V c 0 t) (iblk0 V c 1 t)).2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, ⟨%e2, H2⟩, ⟨%e3, H3⟩, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_w4_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S1024x512 .bf16 := (Memref.whole cc1_stg3_0 : Memref sig .tc .vmem S1024x512 .bf16).view
/-- Each window's current staging memref at point `t`, spelled as the pipeline passes it (`bodyAt1`), and its wholeness. -/
abbrev ms1_0 (t : Fin cfg1.N) : Memref sig .tc .vmem S1024x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x512 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S48x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S6144x512 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1208000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) :
    Σ' (L3 : List (View.Piece (Elt F) S1024x512 .bf16)), { LT0 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0)) -∗ K ⟨⟩))
          ⊢ wp frame (wpE (defs₀ (F := F)) Variants.none c none) E (cc1_w4_matmul i arg2 harg2 arg3 harg3 arg4 harg4 arg5 harg5 arg6 harg6) K } := by
  refine ⟨?_, ?_, fun E K => ?run⟩
  case run =>
    simp only [cc1_w4_matmul_eq_skeleton]; unfold cc1_w4_matmul_skel
    simp only [k1_part27_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The run's pieces for output 3 tile its block (1 store of `S1024x512`, checked by the kernel's evaluation: Lib/Ring.lean `Piece.tiledL`, linear in the pieces, through a loop's `@[irreducible]` trip theorem too), so they cover it. -/
theorem cover1_A_3 (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) (y : S1024x512.Idx) :
    ∃ pc ∈ (kernelRun1_A c i arg2 harg2 arg3 harg3 arg4 harg4 arg5 harg5 arg6 harg6 x0 x1 x2).1, y ∈ pc.1.set :=
  View.cover_of_tiledL (kernelRun1_A c i arg2 harg2 arg3 harg3 arg4 harg4 arg5 harg5 arg6 harg6 x0 x1 x2).1 S1024x512.size (by sl_kernel_rfl) y

/-- What the run leaves in output 3's staging buffer: its pieces read back over junk. -/
def out1_A_3 (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) : Vec F S1024x512 .bf16 :=
  VO1_3.read (Elt F) (VO1_3.writes (Elt F) VO1_3.junk (kernelRun1_A c i arg2 harg2 arg3 harg3 arg4 harg4 arg5 harg5 arg6 harg6 x0 x1 x2).1)

/-! ## What the outputs hold after each point -/

/-- What the outputs' staging buffers hold after the body at point `t`: the run's contents at
    the point's memrefs and input blocks. -/
def outsAt1 (c : Dev nD) (t : Fin cfg1.N) : Vec F S1024x512 .bf16 :=
  out1_A_3 c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩⟩
  iapply ((kernelRun1_A c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HR0 HR1 HR2 HR3 HR4 HR5 HR6 HR7 HR8 HR9 HR10 HR11 HR12 HS0 Hg]
  · isplitl [HR0 HR1 HR2 HR3 HR4 HR5 HR6 HR7 HR8 HR9 HR10 HR11 HR12 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7, main_v8]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem runAll : θ_run defs (onTc (τ := τ) (main (F := F))) ⟨m, fun _ => 0, ρ⟩ (fun r => (∀ c : Dev nD,
      ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame claim: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun s h => ⟨(fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c)⟩), h.2⟩) (runAll m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Gen

end
-- ==== Proof.QDefs.lean ====
module

public import proofs.«01_k».proof.Proof.KIFrame
public import Idealize.ShloMosaic.Lib.Pipeline.Value
public import Idealize.ShloMosaic.Lib.WholeRead
public import Idealize.ShloMosaic.Lib.ValueIdx

/-! What one trip of the quantiser computes, written once per GROUP of 128 features instead of 48 times: the vectors below
are the kernel's own operations, over the group's number `g`. -/

@[expose] public section

noncomputable section

namespace Cert.KernelIdeal.Q

open Idealize.ShloMosaic Idealize.ShloMosaic.ValueIdx Cert.KernelIdeal.Gen

variable {F : FTy → Type} [FloatOps F]

/-- Rows `32 k …` and features `128 g …` of a block of 128 tokens. -/
def xs (x0 : Vec F S128x6144 .bf16) (k g : ℕ) : Vec F S32x128 .bf16 := fun z =>
  x0 (ix2 (⟨(32 * k + (z 0).val) % 128, Nat.mod_lt _ (by decide)⟩ : Fin 128) (⟨(128 * g + (z 1).val) % 6144, Nat.mod_lt _ (by decide)⟩ : Fin 6144))

/-- The gains of group `g`. -/
def gs (x1 : Vec F S1x6144 .f32) (g : ℕ) : Vec F S1x128 .f32 := fun z =>
  x1 (ix2 (0 : Fin 1) (⟨(128 * g + (z 1).val) % 6144, Nat.mod_lt _ (by decide)⟩ : Fin 6144))

/-- The squares of one group. -/
def sqV (X : Vec F S32x128 .bf16) : FVec F S32x128 .f32 :=
  mulf (extf .f32 (shapeCast S32x128 X shapeCasts_S32x128_S32x128) bitsLt_bf16_f32) (extf .f32 (shapeCast S32x128 X shapeCasts_S32x128_S32x128) bitsLt_bf16_f32)

/-- The squares of groups `0 … n` added lane by lane. -/
def accV (X : ℕ → Vec F S32x128 .bf16) : ℕ → FVec F S32x128 .f32
  | 0 => sqV (X 0)
  | n + 1 => addf (accV X n) (sqV (X (n + 1)))

/-- The reciprocal root mean square of each row. -/
def rmsV (X : ℕ → Vec F S32x128 .bf16) : FVec F S32x1 .f32 :=
  rsqrt (addf (divf (shapeCast S32x1 (multiReduction .add [1] S32 (accV X 47) 0x00000000#32 reduces_S32x128_S32 (.inl rfl) rfl) shapeCasts_S32_S32x1)
    (broadcast S32x1 (Scalar.ofBits .f32 0x45C00000#32))) (broadcast S32x1 (Scalar.ofBits .f32 0x358637BD#32)))

/-- The rows' smallest normalised values: lane `g` holds group `g`'s, for the groups before `n`. -/
def mnV (R : FVec F S32x1 .f32) (X : ℕ → Vec F S32x128 .bf16) (G : ℕ → Vec F S1x128 .f32) : ℕ → FVec F S32x128 .f32
  | 0 => k0_pay11
  | n + 1 => select (cmpi .eq (iota .tc S32x128 32 [1] iota_S32x128_d1_w32) (broadcast S32x128 (BitVec.ofNat 32 n)))
      (broadcastTo S32x128 (shapeCast S32x1 (shapeCast S32x1 (multiReduction .minimumf [1] S32 (k0_pay14 R (X n) (G n)) 0x7F800000#32 reduces_S32x128_S32 (.inl rfl) rfl) shapeCasts_S32_S32x1) shapeCasts_S32x1_S32x1) broadcasts_S32x1_S32x128)
      (mnV R X G n)

/-- The rows' largest normalised values, likewise. -/
def mxV (R : FVec F S32x1 .f32) (X : ℕ → Vec F S32x128 .bf16) (G : ℕ → Vec F S1x128 .f32) : ℕ → FVec F S32x128 .f32
  | 0 => k0_pay12
  | n + 1 => select (cmpi .eq (iota .tc S32x128 32 [1] iota_S32x128_d1_w32) (broadcast S32x128 (BitVec.ofNat 32 n)))
      (broadcastTo S32x128 (shapeCast S32x1 (shapeCast S32x1 (multiReduction .maximumf [1] S32 (k0_pay14 R (X n) (G n)) 0xFF800000#32 reduces_S32x128_S32 (.inl rfl) rfl) shapeCasts_S32_S32x1) shapeCasts_S32x1_S32x1) broadcasts_S32x1_S32x128)
      (mxV R X G n)

def loV (mn : FVec F S32x128 .f32) : FVec F S32x128 .f32 := minimumf (broadcast S32x128 (Scalar.ofBits .f32 0x00000000#32)) mn
def hiV (mx : FVec F S32x128 .f32) : FVec F S32x128 .f32 := maximumf (broadcast S32x128 (Scalar.ofBits .f32 0x00000000#32)) mx
def scV (lo hi : FVec F S32x128 .f32) : FVec F S32x128 .f32 :=
  select (cmpf .oeq hi lo) (broadcast S32x128 (Scalar.ofBits .f32 0x3F800000#32)) (divf (subf hi lo) (broadcast S32x128 (Scalar.ofBits .f32 0x41700000#32)))
def zpV (lo sc : FVec F S32x128 .f32) : FVec F S32x128 .f32 :=
  roundeven (divf (subf (broadcast S32x128 (Scalar.ofBits .f32 0x00000000#32)) lo) sc)

/-- Column `g`. -/
def colV {φ : FTy} (S : FVec F S32x128 φ) (g : ℕ) : FVec F S32x1 φ := fun z => S (ix2 (z 0 : Fin 32) (⟨g % 128, Nat.mod_lt _ (by decide)⟩ : Fin 128))

/-- The codes of one group, as floats. -/
def codeV (sc zc : FVec F S32x1 .f32) (xn : FVec F S32x128 .bf16) : FVec F S32x128 .f32 :=
  minimumf (broadcast S32x128 (Scalar.ofBits .f32 0x41700000#32)) (maximumf (broadcast S32x128 (Scalar.ofBits .f32 0x00000000#32))
    (addf (roundeven (divf (extf .f32 (shapeCast S32x128 xn shapeCasts_S32x128_S32x128) bitsLt_bf16_f32) (broadcastTo S32x128 sc broadcasts_S32x1_S32x128))) (broadcastTo S32x128 zc broadcasts_S32x1_S32x128)))

/-- The dequantised group. -/
def aV (sc zc : FVec F S32x1 .f32) (xn : FVec F S32x128 .bf16) : FVec F S32x128 .bf16 :=
  mulf (truncf .bf16 (subf (codeV sc zc xn) (broadcastTo S32x128 zc broadcasts_S32x1_S32x128)) bitsLt_bf16_f32) (broadcastTo S32x128 (truncf .bf16 sc bitsLt_bf16_f32) broadcasts_S32x1_S32x128)

/-- Two groups' codes packed, two to a byte. -/
def pairV (c c' : FVec F S32x128 .f32) : IVec S32x128 8 :=
  k0_pay2 (k0_pay199 (iota .tc S32x128 32 [1] iota_S32x128_d1_w32)) (k0_pay200 (iota .tc S32x128 32 [1] iota_S32x128_d1_w32))
    (k0_pay205 (k0_pay199 (iota .tc S32x128 32 [1] iota_S32x128_d1_w32)) c) c'

/-! The same, over a block's data. -/

variable (x0 : Vec F S128x6144 .bf16) (x1 : Vec F S1x6144 .f32)

def tR (k : ℕ) : FVec F S32x1 .f32 := rmsV (xs x0 k)
def tXn (k g : ℕ) : FVec F S32x128 .bf16 := k0_pay13 (tR x0 k) (xs x0 k g) (gs x1 g)
def tMn (k n : ℕ) : FVec F S32x128 .f32 := mnV (tR x0 k) (xs x0 k) (gs x1) n
def tMx (k n : ℕ) : FVec F S32x128 .f32 := mxV (tR x0 k) (xs x0 k) (gs x1) n
def tLo (k : ℕ) : FVec F S32x128 .f32 := loV (tMn x0 x1 k 48)
def tSc (k : ℕ) : FVec F S32x128 .f32 := scV (tLo x0 x1 k) (hiV (tMx x0 x1 k 48))
def tZp (k : ℕ) : FVec F S32x128 .f32 := zpV (tLo x0 x1 k) (tSc x0 x1 k)
def tCode (k g : ℕ) : FVec F S32x128 .f32 := codeV (colV (tSc x0 x1 k) g) (colV (tZp x0 x1 k) g) (tXn x0 x1 k g)
def tA (k g : ℕ) : FVec F S32x128 .bf16 := aV (colV (tSc x0 x1 k) g) (colV (tZp x0 x1 k) g) (tXn x0 x1 k g)
def tPair (k h : ℕ) : IVec S32x128 8 := pairV (tCode x0 x1 k (2 * h)) (tCode x0 x1 k (2 * h + 1))
def tScale (k : ℕ) : FVec F S32x48 .f32 := extractStridedSlice S32x48 ![0, 0] (tSc x0 x1 k) slices_S32x128_o0_0_S32x48
def tZero (k : ℕ) : IVec S32x48 8 := extractStridedSlice S32x48 ![0, 0] (trunci 8 (fptosi 32 (tZp x0 x1 k)) natLt_8_32 : IVec S32x128 8) slices_S32x128_o0_0_S32x48

/-! ## Tiles -/

/-- An array cut in tiles of 32 by 128, tile `(k, g)` being `T k g`. -/
def tiled {α : Type} {n : ℕ} (T : ℕ → ℕ → S32x128.Idx → α) : (⟨2, ![128, n]⟩ : Shape).Idx → α := fun y =>
  T ((y 0).val / 32) ((y 1).val / 128) (ix2 (⟨(y 0).val % 32, Nat.mod_lt _ (by decide)⟩ : Fin 32) (⟨(y 1).val % 128, Nat.mod_lt _ (by decide)⟩ : Fin 128))

theorem tiled_emb {α : Type} {n : ℕ} (T : ℕ → ℕ → S32x128.Idx → α) (k g : ℕ) (off : Fin 2 → ℕ) (hoff : off = ![32 * k, 128 * g])
    (hb : ∀ a, off a + S32x128.size a ≤ (⟨2, ![128, n]⟩ : Shape).size a) (z : S32x128.Idx) :
    tiled T ((Rect.unit (s := ⟨2, ![128, n]⟩) off S32x128.size hb).emb z) = T k g z := by
  subst hoff
  have h0 : (z 0).val < 32 := (z 0).isLt
  have h1 : (z 1).val < 128 := (z 1).isLt
  have e0 : (((Rect.unit (s := ⟨2, ![128, n]⟩) ![32 * k, 128 * g] S32x128.size hb).emb z) 0).val = 32 * k + (z 0).val := by
    show 32 * k + 1 * (z 0).val = _; omega
  have e1 : (((Rect.unit (s := ⟨2, ![128, n]⟩) ![32 * k, 128 * g] S32x128.size hb).emb z) 1).val = 128 * g + (z 1).val := by
    show 128 * g + 1 * (z 1).val = _; omega
  unfold tiled
  have q0 : (32 * k + (z 0).val) / 32 = k := by omega
  have q1 : (128 * g + (z 1).val) / 128 = g := by omega
  have r0 : (32 * k + (z 0).val) % 32 = (z 0).val := by omega
  have r1 : (128 * g + (z 1).val) % 128 = (z 1).val := by omega
  simp only [e0, e1, q0, q1, r0, r1]
  congr 1
  funext a
  match a with
  | ⟨0, _⟩ => rfl
  | ⟨1, _⟩ => rfl

/-- An array of 48 columns cut in bands of 32 rows. -/
def banded {α : Type} (T : ℕ → S32x48.Idx → α) : S128x48.Idx → α := fun y =>
  T ((y 0).val / 32) (ix2 (⟨(y 0).val % 32, Nat.mod_lt _ (by decide)⟩ : Fin 32) (y 1 : Fin 48))

theorem banded_emb {α : Type} (T : ℕ → S32x48.Idx → α) (k : ℕ) (off : Fin 2 → ℕ) (hoff : off = ![32 * k, 0])
    (hb : ∀ a, off a + S32x48.size a ≤ S128x48.size a) (z : S32x48.Idx) :
    banded T ((Rect.unit (s := S128x48) off S32x48.size hb).emb z) = T k z := by
  subst hoff
  have h0 : (z 0).val < 32 := (z 0).isLt
  have e0 : (((Rect.unit (s := S128x48) ![32 * k, 0] S32x48.size hb).emb z) 0).val = 32 * k + (z 0).val := by
    show 32 * k + 1 * (z 0).val = _; omega
  have e1 : (((Rect.unit (s := S128x48) ![32 * k, 0] S32x48.size hb).emb z) 1) = z 1 := by
    apply Fin.ext; show 0 + 1 * (z 1).val = _; omega
  unfold banded
  have q0 : (32 * k + (z 0).val) / 32 = k := by omega
  have r0 : (32 * k + (z 0).val) % 32 = (z 0).val := by omega
  simp only [e0, q0, r0]
  congr 1
  funext a
  match a with
  | ⟨0, _⟩ => rfl
  | ⟨1, _⟩ => exact e1

/-! ## Loads -/

section Loads
variable {arg1 : Memref sig .tc .vmem S128x6144 .bf16} (harg1 : arg1.IsWhole) {arg2 : Memref sig .tc .vmem S1x6144 .f32} (harg2 : arg2.IsWhole)

theorem rx (k : Fin k0_t1_loop.trips) (g : ℕ) (hg : g < 48) (off : Fin 2 → ℕ) (hoff : off = ![32 * k.val, 128 * g])
    (hb : ∀ a, off a + S32x128.size a ≤ S128x6144.size a) :
    (View.readAt (Elt F) arg1.view (Rect.unit (s := S128x6144) off S32x128.size hb).toLoadRect (harg1.unread x0) : Vec F S32x128 .bf16) = xs x0 k.val g := by
  subst hoff
  funext z
  rw [harg1.readAt_unread]
  have hk : k.val < 4 := lt_of_lt_of_eq k.isLt (by decide)
  have h0 : (z 0).val < 32 := (z 0).isLt
  have h1 : (z 1).val < 128 := (z 1).isLt
  unfold xs
  congr 1
  funext a
  match a with
  | ⟨0, _⟩ => apply Fin.ext; show 32 * k.val + 1 * (z 0).val = (32 * k.val + (z 0).val) % 128; omega
  | ⟨1, _⟩ => apply Fin.ext; show 128 * g + 1 * (z 1).val = (128 * g + (z 1).val) % 6144; omega

theorem gx (g : ℕ) (hg : g < 48) (off : Fin 2 → ℕ) (hoff : off = ![0, 128 * g])
    (hb : ∀ a, off a + S1x128.size a ≤ S1x6144.size a) :
    (View.readAt (Elt F) arg2.view (Rect.unit (s := S1x6144) off S1x128.size hb).toLoadRect (harg2.unread x1) : Vec F S1x128 .f32) = gs x1 g := by
  subst hoff
  funext z
  rw [harg2.readAt_unread]
  have h0 : (z 0).val < 1 := (z 0).isLt
  have h1 : (z 1).val < 128 := (z 1).isLt
  unfold gs
  congr 1
  funext a
  match a with
  | ⟨0, _⟩ => apply Fin.ext; show 0 + 1 * (z 0).val = 0; omega
  | ⟨1, _⟩ => apply Fin.ext; show 128 * g + 1 * (z 1).val = (128 * g + (z 1).val) % 6144; omega

end Loads

theorem ess_col {φ : FTy} (S : FVec F S32x128 φ) (g : ℕ) (hg : g < 128) (hs : S32x128.Slices ![0, g] S32x1) :
    (extractStridedSlice S32x1 ![0, g] S hs : FVec F S32x1 φ) = colV S g := by
  funext z
  have h1 : (z 1).val < 1 := (z 1).isLt
  unfold extractStridedSlice colV
  congr 1
  funext a
  match a with
  | ⟨0, _⟩ => apply Fin.ext; show 0 + (z 0).val = (z 0).val; omega
  | ⟨1, _⟩ => apply Fin.ext; show g + (z 1).val = g % 128; omega

end Cert.KernelIdeal.Q
end
-- ==== Proof.Spec.lean ====
module

public import Idealize.ShloMosaic.PureOps.Ideal
public import Idealize.ShloMosaic.PureOps.Ideal.Laws

/-! The problem's mathematics, for one row (one token) over the extended reals: the root-mean-square norm, the per-group
quantiser with its zero point, and the dequantised value. Both programs are read down to these. -/

@[expose] public section

noncomputable section

namespace Cert.Spec

open Idealize.ShloMosaic

/-- The constants both programs print. -/
def c0 : EReal := Ideal.ofBits .f32 0x00000000#32
def c1 : EReal := Ideal.ofBits .f32 0x3F800000#32
def c15 : EReal := Ideal.ofBits .f32 0x41700000#32
def cD : EReal := Ideal.ofBits .f32 0x45C00000#32
def cEps : EReal := Ideal.ofBits .f32 0x358637BD#32
def cTop : EReal := Ideal.ofBits .f32 0x7F800000#32
def cBot : EReal := Ideal.ofBits .f32 0xFF800000#32

/-- Round to the nearest integer, ties to even. -/
def rnd (x : EReal) : EReal := FloatOps.roundeven (F := Ideal) (φ := .f32) x

/-- The reciprocal root mean square of a row. -/
def rS (X : Fin 6144 → EReal) : EReal := Ideal.rsqrt (Ideal.div (∑ d, X d * X d) cD + cEps)

/-- The normalised row. -/
def xnS (X G : Fin 6144 → EReal) (d : Fin 6144) : EReal := X d * rS X * G d

/-- Group `g` of a row. -/
def grp (v : Fin 6144 → EReal) (g : Fin 48) : Fin 128 → EReal := fun l => v ⟨128 * g.val + l.val, by omega⟩

/-- A group's least value or zero, and its greatest value or zero. -/
def loS (v : Fin 128 → EReal) : EReal := min c0 (Finset.univ.fold min cTop v)
def hiS (v : Fin 128 → EReal) : EReal := max c0 (Finset.univ.fold max cBot v)
/-- A group's scale. -/
def scS (v : Fin 128 → EReal) : EReal :=
  Scalar.select (Ideal.cmp .oeq (hiS v) (loS v)) c1 (Ideal.div (hiS v - loS v) c15)
/-- A group's zero point. -/
def zpS (v : Fin 128 → EReal) : EReal := rnd (Ideal.div (-loS v) (scS v))
/-- The code of a value `x` of the group. -/
def codeS (v : Fin 128 → EReal) (x : EReal) : EReal := min c15 (max c0 (rnd (Ideal.div x (scS v)) + zpS v))
/-- The value the code stands for. -/
def aS (v : Fin 128 → EReal) (x : EReal) : EReal := (codeS v x - zpS v) * scS v
/-- The code and the zero point as bytes. -/
def byteS (x : EReal) : BitVec 8 := (FloatOps.fptosi (F := Ideal) (φ := .f32) 32 x).setWidth 8

end Cert.Spec
end
-- ==== Proof.QElem.lean ====
module

public import proofs.«01_k».proof.Proof.QDefs
public import proofs.«01_k».proof.Proof.Spec
public import Idealize.ShloMosaic.Lib.Pointwise

/-! The quantiser's vectors read at an element, over the extended reals: row `32 k + p` of a block is the row of the
problem's mathematics. -/

@[expose] public section

noncomputable section

namespace Cert.KernelIdeal.Q

open Idealize.ShloMosaic Cert.KernelIdeal.Gen Cert.Spec

/-- Row `p` of trip `k` and the gains, as functions of the feature. -/
def rowX (x0 : Vec Ideal S128x6144 .bf16) (k : ℕ) (p : Fin 32) : Fin 6144 → EReal := fun d =>
  x0 (ix2 (⟨(32 * k + p.val) % 128, Nat.mod_lt _ (by decide)⟩ : Fin 128) d)
def rowG (x1 : Vec Ideal S1x6144 .f32) : Fin 6144 → EReal := fun d => x1 (ix2 (0 : Fin 1) d)

variable (x0 : Vec Ideal S128x6144 .bf16) (x1 : Vec Ideal S1x6144 .f32)

theorem xs_apply (k g : ℕ) (p : Fin 32) (l : Fin 128) :
    xs x0 k g (ix2 p l) = rowX x0 k p ⟨(128 * g + l.val) % 6144, Nat.mod_lt _ (by decide)⟩ := rfl
theorem gs_apply (g : ℕ) (l : Fin 128) :
    gs x1 g (ix2 (0 : Fin 1) l) = rowG x1 ⟨(128 * g + l.val) % 6144, Nat.mod_lt _ (by decide)⟩ := rfl

theorem sqV_apply (X : Vec Ideal S32x128 .bf16) (p : Fin 32) (l : Fin 128) :
    sqV X (ix2 p l) = X (ix2 p l) * X (ix2 p l) := by
  pointwise [sqV]

theorem accV_apply (X : ℕ → Vec Ideal S32x128 .bf16) (n : ℕ) (p : Fin 32) (l : Fin 128) :
    accV X n (ix2 p l) = ∑ g ∈ Finset.range (n + 1), X g (ix2 p l) * X g (ix2 p l) := by
  induction n with
  | zero => rw [Finset.sum_range_one]; exact sqV_apply _ _ _
  | succ n ih =>
    rw [Finset.sum_range_succ, ← ih, ← sqV_apply]
    rfl

/-- A sum over the features, group by group. -/
theorem sum_groups (f : ℕ → EReal) :
    (∑ l : Fin 128, ∑ g ∈ Finset.range 48, f (128 * g + l.val)) = ∑ d : Fin 6144, f d.val := by
  rw [Finset.sum_comm, Finset.sum_range (fun g => ∑ l : Fin 128, f (128 * g + l.val))]
  rw [← Fintype.sum_prod_type']
  refine Fintype.sum_equiv (finProdFinEquiv (m := 48) (n := 128)) _ _ fun z => ?_
  show f (128 * z.1.val + z.2.val) = f (z.2.val + 128 * z.1.val)
  rw [add_comm]

theorem rmsV_apply (X : ℕ → Vec Ideal S32x128 .bf16) (p : Fin 32) :
    rmsV X (ix2 p (0 : Fin 1)) = Ideal.rsqrt (Ideal.div (∑ l : Fin 128, accV X 47 (ix2 p l)) cD + cEps) := by
  unfold rmsV
  generalize accV X 47 = A
  pointwise
  rfl

theorem tR_apply (k : ℕ) (p : Fin 32) : tR x0 k (ix2 p (0 : Fin 1)) = rS (rowX x0 k p) := by
  unfold tR rS
  rw [rmsV_apply]
  have h : (∑ l : Fin 128, accV (xs x0 k) 47 (ix2 p l)) = ∑ d, rowX x0 k p d * rowX x0 k p d := by
    refine Eq.trans (Finset.sum_congr rfl fun l _ => accV_apply _ _ _ _) ?_
    refine (sum_groups fun n => rowX x0 k p ⟨n % 6144, Nat.mod_lt _ (by decide)⟩ * rowX x0 k p ⟨n % 6144, Nat.mod_lt _ (by decide)⟩).trans ?_
    refine Finset.sum_congr rfl fun d _ => ?_
    have h : (⟨d.val % 6144, Nat.mod_lt _ (by decide)⟩ : Fin 6144) = d := Fin.ext (Nat.mod_eq_of_lt d.isLt)
    simp only [h]
  rw [h]

theorem pay13_apply (R : FVec Ideal S32x1 .f32) (X : Vec Ideal S32x128 .bf16) (G : Vec Ideal S1x128 .f32) (p : Fin 32) (l : Fin 128) :
    k0_pay13 R X G (ix2 p l) = X (ix2 p l) * R (ix2 p (0 : Fin 1)) * G (ix2 (0 : Fin 1) l) := by
  pointwise [k0_pay13]

theorem tXn_apply (k g : ℕ) (p : Fin 32) (l : Fin 128) :
    tXn x0 x1 k g (ix2 p l) = xnS (rowX x0 k p) (rowG x1) ⟨(128 * g + l.val) % 6144, Nat.mod_lt _ (by decide)⟩ := by
  unfold tXn
  rw [pay13_apply, tR_apply, xs_apply, gs_apply]
  rfl

/-- The normalised row, group `g` of it. -/
def vG (k : ℕ) (p : Fin 32) (g : Fin 48) : Fin 128 → EReal := grp (xnS (rowX x0 k p) (rowG x1)) g

theorem tXn_vG (k : ℕ) (g : Fin 48) (p : Fin 32) (l : Fin 128) : tXn x0 x1 k g.val (ix2 p l) = vG x0 x1 k p g l := by
  rw [tXn_apply]
  unfold vG grp
  congr 1
  exact Fin.ext (Nat.mod_eq_of_lt (by omega))

theorem c0_eq : c0 = 0 := Ideal.ofBits_zero_f32

theorem mnV_succ (R : FVec Ideal S32x1 .f32) (X : ℕ → Vec Ideal S32x128 .bf16) (G : ℕ → Vec Ideal S1x128 .f32) (n : ℕ) (p : Fin 32) (l : Fin 128) :
    mnV R X G (n + 1) (ix2 p l) = if (BitVec.ofNat 32 l.val) = BitVec.ofNat 32 n
      then Finset.univ.fold min cTop (fun j : Fin 128 => k0_pay13 R (X n) (G n) (ix2 p j)) else mnV R X G n (ix2 p l) := by
  show select _ _ (mnV R X G n) (ix2 p l) = _
  generalize mnV R X G n = M
  unfold k0_pay14
  generalize k0_pay13 R (X n) (G n) = Y
  pointwise
  by_cases h : BitVec.ofNat 32 l.val = BitVec.ofNat 32 n
  · simp [h, Scalar.select, IntOp.cmpi, cTop]
  · have hb : (BitVec.ofNat 32 l.val == BitVec.ofNat 32 n) = false := beq_eq_false_iff_ne.mpr h
    simp [h, hb, Scalar.select, IntOp.cmpi, cTop]

theorem mxV_succ (R : FVec Ideal S32x1 .f32) (X : ℕ → Vec Ideal S32x128 .bf16) (G : ℕ → Vec Ideal S1x128 .f32) (n : ℕ) (p : Fin 32) (l : Fin 128) :
    mxV R X G (n + 1) (ix2 p l) = if (BitVec.ofNat 32 l.val) = BitVec.ofNat 32 n
      then Finset.univ.fold max cBot (fun j : Fin 128 => k0_pay13 R (X n) (G n) (ix2 p j)) else mxV R X G n (ix2 p l) := by
  show select _ _ (mxV R X G n) (ix2 p l) = _
  generalize mxV R X G n = M
  unfold k0_pay14
  generalize k0_pay13 R (X n) (G n) = Y
  pointwise
  by_cases h : BitVec.ofNat 32 l.val = BitVec.ofNat 32 n
  · simp [h, Scalar.select, IntOp.cmpi, cBot]
  · have hb : (BitVec.ofNat 32 l.val == BitVec.ofNat 32 n) = false := beq_eq_false_iff_ne.mpr h
    simp [h, hb, Scalar.select, IntOp.cmpi, cBot]

theorem ofNat_inj32 {a b : ℕ} (ha : a < 128) (hb : b < 128) : BitVec.ofNat 32 a = BitVec.ofNat 32 b ↔ a = b := by
  constructor
  · intro h
    have := congrArg BitVec.toNat h
    simp only [BitVec.toNat_ofNat] at this
    omega
  · rintro rfl; rfl

theorem mnV_lane (R : FVec Ideal S32x1 .f32) (X : ℕ → Vec Ideal S32x128 .bf16) (G : ℕ → Vec Ideal S1x128 .f32) (p : Fin 32) (l : Fin 128)
    (n : ℕ) (hn : n ≤ 48) (hl : l.val < n) :
    mnV R X G n (ix2 p l) = Finset.univ.fold min cTop (fun j : Fin 128 => k0_pay13 R (X l.val) (G l.val) (ix2 p j)) := by
  induction n with
  | zero => omega
  | succ n ih =>
    rw [mnV_succ]
    by_cases h : l.val = n
    · rw [if_pos ((ofNat_inj32 (by omega) (by omega)).mpr h), h]
    · rw [if_neg (fun e => h ((ofNat_inj32 (by omega) (by omega)).mp e))]
      exact ih (by omega) (by omega)

theorem mxV_lane (R : FVec Ideal S32x1 .f32) (X : ℕ → Vec Ideal S32x128 .bf16) (G : ℕ → Vec Ideal S1x128 .f32) (p : Fin 32) (l : Fin 128)
    (n : ℕ) (hn : n ≤ 48) (hl : l.val < n) :
    mxV R X G n (ix2 p l) = Finset.univ.fold max cBot (fun j : Fin 128 => k0_pay13 R (X l.val) (G l.val) (ix2 p j)) := by
  induction n with
  | zero => omega
  | succ n ih =>
    rw [mxV_succ]
    by_cases h : l.val = n
    · rw [if_pos ((ofNat_inj32 (by omega) (by omega)).mpr h), h]
    · rw [if_neg (fun e => h ((ofNat_inj32 (by omega) (by omega)).mp e))]
      exact ih (by omega) (by omega)

/-- Lane `g`. -/
def ln (g : Fin 48) : Fin 128 := ⟨g.val, by omega⟩

theorem tMn_apply (k : ℕ) (p : Fin 32) (g : Fin 48) :
    tMn x0 x1 k 48 (ix2 p (ln g)) = Finset.univ.fold min cTop (vG x0 x1 k p g) := by
  unfold tMn
  rw [mnV_lane _ _ _ _ _ 48 le_rfl g.isLt]
  exact congrArg (Finset.univ.fold min cTop) (funext fun j => tXn_vG x0 x1 k g p j)

theorem tMx_apply (k : ℕ) (p : Fin 32) (g : Fin 48) :
    tMx x0 x1 k 48 (ix2 p (ln g)) = Finset.univ.fold max cBot (vG x0 x1 k p g) := by
  unfold tMx
  rw [mxV_lane _ _ _ _ _ 48 le_rfl g.isLt]
  exact congrArg (Finset.univ.fold max cBot) (funext fun j => tXn_vG x0 x1 k g p j)

theorem tLo_apply (k : ℕ) (p : Fin 32) (g : Fin 48) : tLo x0 x1 k (ix2 p (ln g)) = loS (vG x0 x1 k p g) := by
  unfold tLo loS
  rw [← tMn_apply]
  rfl

theorem tSc_apply (k : ℕ) (p : Fin 32) (g : Fin 48) : tSc x0 x1 k (ix2 p (ln g)) = scS (vG x0 x1 k p g) := by
  unfold tSc scS
  rw [← tLo_apply, show hiS (vG x0 x1 k p g) = hiV (tMx x0 x1 k 48) (ix2 p (ln g)) by unfold hiS; rw [← tMx_apply]; rfl]
  rfl

theorem zpV_apply (lo sc : FVec Ideal S32x128 .f32) (z : S32x128.Idx) : zpV lo sc z = rnd (Ideal.div (- lo z) (sc z)) := by
  show rnd (Ideal.div (c0 - lo z) (sc z)) = _
  rw [c0_eq, sub_eq_add_neg, zero_add]

theorem tZp_apply (k : ℕ) (p : Fin 32) (g : Fin 48) : tZp x0 x1 k (ix2 p (ln g)) = zpS (vG x0 x1 k p g) := by
  unfold tZp zpS
  rw [zpV_apply, tLo_apply, tSc_apply]

theorem colV_apply (S : FVec Ideal S32x128 .f32) (p : Fin 32) (g : Fin 48) : colV S g.val (ix2 p (0 : Fin 1)) = S (ix2 p (ln g)) := by
  unfold colV
  congr 1
  funext a
  match a with
  | ⟨0, _⟩ => rfl
  | ⟨1, _⟩ => exact Fin.ext (Nat.mod_eq_of_lt (by have := g.isLt; omega))

theorem codeV_apply (sc zc : FVec Ideal S32x1 .f32) (xn : FVec Ideal S32x128 .bf16) (p : Fin 32) (l : Fin 128) :
    codeV sc zc xn (ix2 p l) = min c15 (max c0 (rnd (Ideal.div (xn (ix2 p l)) (sc (ix2 p (0 : Fin 1)))) + zc (ix2 p (0 : Fin 1)))) := by
  rw [c0_eq]
  pointwise [codeV]
  rfl

theorem aV_apply (sc zc : FVec Ideal S32x1 .f32) (xn : FVec Ideal S32x128 .bf16) (p : Fin 32) (l : Fin 128) :
    aV sc zc xn (ix2 p l) = (codeV sc zc xn (ix2 p l) - zc (ix2 p (0 : Fin 1))) * sc (ix2 p (0 : Fin 1)) := by
  unfold aV
  generalize codeV sc zc xn = C
  pointwise

theorem tCode_apply (k : ℕ) (p : Fin 32) (g : Fin 48) (l : Fin 128) :
    tCode x0 x1 k g.val (ix2 p l) = codeS (vG x0 x1 k p g) (vG x0 x1 k p g l) := by
  unfold tCode codeS
  rw [codeV_apply, colV_apply, colV_apply, tSc_apply, tZp_apply, tXn_vG]

theorem tA_apply (k : ℕ) (p : Fin 32) (g : Fin 48) (l : Fin 128) :
    tA x0 x1 k g.val (ix2 p l) = aS (vG x0 x1 k p g) (vG x0 x1 k p g l) := by
  unfold tA aS
  rw [aV_apply, colV_apply, colV_apply, tSc_apply, tZp_apply]
  congr 2
  rw [codeV_apply, colV_apply, colV_apply, tSc_apply, tZp_apply, tXn_vG]
  rfl

theorem tScale_apply (k : ℕ) (p : Fin 32) (g : Fin 48) : tScale x0 x1 k (ix2 p g) = scS (vG x0 x1 k p g) := by
  rw [← tSc_apply]
  unfold tScale
  generalize tSc x0 x1 k = S
  pointwise
  rfl

theorem tZero_apply (k : ℕ) (p : Fin 32) (g : Fin 48) : tZero x0 x1 k (ix2 p g) = byteS (zpS (vG x0 x1 k p g)) := by
  rw [← tZp_apply]
  unfold tZero
  generalize tZp x0 x1 k = S
  pointwise
  rfl

end Cert.KernelIdeal.Q
end
-- ==== Proof.QPack.lean ====
module

public import proofs.«01_k».proof.Proof.QElem
public import Idealize.ShloMosaic.Lib.BitcastFour

/-! The packed bytes: lane `l` of a pair of groups holds features `2 l` and `2 l + 1`, the first in the low nibble. -/

@[expose] public section

noncomputable section

namespace Cert.KernelIdeal.Q

open Idealize.ShloMosaic Cert.KernelIdeal.Gen Cert.Spec

/-- The lane numbers the gather reads. -/
def evenV : IVec S8x128 32 := k0_pay199 (iota .tc S32x128 32 [1] iota_S32x128_d1_w32)

theorem evenV_apply (r : Fin 8) (l : Fin 128) : evenV (ix2 r l) = BitVec.ofNat 32 (2 * l.val % 128) := by
  unfold evenV
  pointwise [k0_pay199]
  revert l
  decide

theorem lowV_apply (r : Fin 8) (l : Fin 128) :
    k0_pay200 (iota .tc S32x128 32 [1] iota_S32x128_d1_w32) (ix2 r l) = if l.val < 64 then 1#1 else 0#1 := by
  pointwise [k0_pay200]
  revert l
  decide

/-- The bytes of a group's codes. -/
def byV (c : FVec Ideal S32x128 .f32) : IVec S32x128 8 := fun z => byteS (c z)

/-- A group's words: each byte joined with its right neighbour's, four bits up. -/
def wordV (c : FVec Ideal S32x128 .f32) : IVec S8x128 32 :=
  ori (bitcast S8x128 32 (byV c) bitcasts_S32x128_w8_S8x128_w32)
    (shli (dynamicRotate 1 127#32 none (bitcast S8x128 32 (byV c) bitcasts_S32x128_w8_S8x128_w32) rotates_S8x128_d1) (broadcast S8x128 4#32))

theorem wordV_getLsbD (c : FVec Ideal S32x128 .f32) (r : Fin 8) (m m' : Fin 128) (hm : m'.val = (m.val + 1) % 128) (q : ℕ) (hq : q < 32)
    (p : Fin 32) (hp : p.val = 4 * r.val + q / 8) (p' : Fin 32) (hp' : p'.val = 4 * r.val + (q - 4) / 8) :
    (wordV c (ix2 r m)).getLsbD q = ((byV c (ix2 p m)).getLsbD (q % 8) || (decide (4 ≤ q) && (byV c (ix2 p' m')).getLsbD ((q - 4) % 8))) := by
  have h1 := bitcast_8_32_getLsbD_ix2 (byV c) bitcasts_S32x128_w8_S8x128_w32 r m q hq p hp
  have h2 := bitcast_8_32_getLsbD_ix2 (byV c) bitcasts_S32x128_w8_S8x128_w32 r m' (q - 4) (by omega) p' hp'
  unfold wordV
  generalize (bitcast S8x128 32 (byV c) bitcasts_S32x128_w8_S8x128_w32 : IVec S8x128 32) = B at h1 h2 ⊢
  simp only [← ix2_eq_valueIdx] at h1 h2
  pointwise
  have hi : (⟨(m.val + 128 - 127) % 128, Nat.mod_lt _ (by decide)⟩ : Fin 128) = m' := Fin.ext (by show (m.val + 128 - 127) % 128 = m'.val; omega)
  rw [hi]
  show (B (ix2 r m) ||| IntOp.shli ArithUnit.vector (B (ix2 r m')) 4#32).getLsbD q = _
  rw [BitVec.getLsbD_or, h1]
  congr 1
  show (B (ix2 r m') <<< 4).getLsbD q = _
  rw [BitVec.getLsbD_shiftLeft]
  by_cases h4 : 4 ≤ q
  · simp [h4, hq, h2]
  · simp [h4]

/-- Words read as bytes: byte `p` of a lane is byte `p % 4` of word `p / 4`. -/
theorem bytes_getLsbD (w : IVec S8x128 32) (p : Fin 32) (l : Fin 128) (i : ℕ) (hi : i < 8) :
    ((bitcast S32x128 8 w bitcasts_S8x128_w32_S32x128_w8 : IVec S32x128 8) (ix2 p l)).getLsbD i
      = (w (ix2 (⟨p.val / 4, by omega⟩ : Fin 8) l)).getLsbD (8 * (p.val % 4) + i) := by
  rw [bitcast_getLsbD w bitcasts_S8x128_w32_S32x128_w8 (ix2 p l) i hi (by decide)]
  have hr : (S32x128.row (ix2 p l)) = p.val := rfl
  congr 2
  · congr 1
    funext c
    match c with
    | ⟨0, _⟩ =>
      refine Fin.ext ((bitcasts_S8x128_w32_S32x128_w8.srcIdx_row _ _ _ ⟨0, Nat.zero_lt_two⟩ rfl).trans ?_)
      rw [hr]; show (p.val * 8 + i) / 32 = p.val / 4; omega
    | ⟨1, _⟩ => exact Fin.ext (bitcasts_S8x128_w32_S32x128_w8.srcIdx_other _ _ _ ⟨1, Nat.one_lt_two⟩ (by show ¬ 1 + 2 = 2; omega))
  · rw [hr]; omega

theorem pay205_apply (c : FVec Ideal S32x128 .f32) (r : Fin 8) (l : Fin 128) :
    k0_pay205 evenV c (ix2 r l) = wordV c (ix2 r (⟨2 * l.val % 128, Nat.mod_lt _ (by decide)⟩ : Fin 128)) := by
  have he := evenV_apply r l
  unfold wordV byV byteS
  pointwise [k0_pay205]
  have hs : (Scalar.select (IntOp.cmpi CmpIPredicate.slt (evenV (ix2 r l)) 0#32) (IntOp.addi (evenV (ix2 r l)) 128#32)
      (evenV (ix2 r l))).toNat % 128 = 2 * l.val % 128 := by
    rw [he]
    clear he
    revert l; decide
  simp only [hs]
  rfl

/-- The packed byte: two codes below sixteen, the second four bits up. -/
theorem packed_byte (c : FVec Ideal S32x128 .f32) (hc : ∀ p l, (byteS (c (ix2 p l))).toNat < 16) (w : IVec S8x128 32) (p : Fin 32) (l m m' : Fin 128)
    (hm : m'.val = (m.val + 1) % 128) (hw : w (ix2 (⟨p.val / 4, by omega⟩ : Fin 8) l) = wordV c (ix2 (⟨p.val / 4, by omega⟩ : Fin 8) m)) :
    (bitcast S32x128 8 w bitcasts_S8x128_w32_S32x128_w8 : IVec S32x128 8) (ix2 p l) = byteS (c (ix2 p m)) ||| (byteS (c (ix2 p m')) <<< 4) := by
  apply BitVec.eq_of_getLsbD_eq
  intro i hi
  have hi' : i < 8 := hi
  rw [bytes_getLsbD w p l i hi, hw, BitVec.getLsbD_or, BitVec.getLsbD_shiftLeft]
  by_cases h4 : 4 ≤ i
  · rw [wordV_getLsbD c _ m m' hm (8 * (p.val % 4) + i) (by omega) p (by show p.val = 4 * (p.val / 4) + _; omega) p (by show p.val = 4 * (p.val / 4) + _; omega)]
    have e1 : (8 * (p.val % 4) + i) % 8 = i := by omega
    have e2 : (8 * (p.val % 4) + i - 4) % 8 = i - 4 := by omega
    have e3 : 4 ≤ 8 * (p.val % 4) + i := by omega
    simp only [e1, e2, e3, hi', decide_true, Bool.true_and, byV, show ¬ i < 4 by omega, decide_false, Bool.not_false]
  · have hp' : 4 * (p.val / 4) + (8 * (p.val % 4) + i - 4) / 8 < 32 := by omega
    rw [wordV_getLsbD c _ m m' hm (8 * (p.val % 4) + i) (by omega) p (by show p.val = 4 * (p.val / 4) + _; omega)
      (⟨4 * (p.val / 4) + (8 * (p.val % 4) + i - 4) / 8, hp'⟩ : Fin 32) rfl]
    have e1 : (8 * (p.val % 4) + i) % 8 = i := by omega
    simp only [e1, show i < 4 by omega, decide_true, Bool.not_true, Bool.and_false, Bool.false_and, byV]
    by_cases h0 : p.val % 4 = 0
    · simp [h0, h4]
    · have e2 : (8 * (p.val % 4) + i - 4) % 8 = i + 4 := by omega
      rw [e2]
      have hz : (byteS (c (ix2 (⟨4 * (p.val / 4) + (8 * (p.val % 4) + i - 4) / 8, hp'⟩ : Fin 32) m'))).getLsbD (i + 4) = false := by
        have hlt := hc ⟨4 * (p.val / 4) + (8 * (p.val % 4) + i - 4) / 8, hp'⟩ m'
        generalize byteS (c (ix2 (⟨4 * (p.val / 4) + (8 * (p.val % 4) + i - 4) / 8, hp'⟩ : Fin 32) m')) = b at hlt
        rw [BitVec.getLsbD, Nat.testBit_lt_two_pow (lt_of_lt_of_le hlt (by
          calc 16 = 2 ^ 4 := rfl
            _ ≤ 2 ^ (i + 4) := Nat.pow_le_pow_right (by decide) (by omega)))]
      rw [hz]; simp

/-- A pair of groups: lane `l` holds features `2 l` and `2 l + 1` of the two groups' 256. -/
theorem pairV_apply (c c' : FVec Ideal S32x128 .f32) (hc : ∀ p l, (byteS (c (ix2 p l))).toNat < 16)
    (hc' : ∀ p l, (byteS (c' (ix2 p l))).toNat < 16) (p : Fin 32) (l m m' : Fin 128)
    (hm : m.val = 2 * l.val % 128) (hm' : m'.val = m.val + 1) :
    pairV c c' (ix2 p l) = if l.val < 64 then byteS (c (ix2 p m)) ||| (byteS (c (ix2 p m')) <<< 4)
      else byteS (c' (ix2 p m)) ||| (byteS (c' (ix2 p m')) <<< 4) := by
  have hme : m = (⟨2 * l.val % 128, Nat.mod_lt _ (by decide)⟩ : Fin 128) := Fin.ext hm
  have e : pairV c c' = bitcast S32x128 8 (select (k0_pay200 (iota .tc S32x128 32 [1] iota_S32x128_d1_w32)) (k0_pay205 evenV c) (k0_pay205 evenV c')) bitcasts_S8x128_w32_S32x128_w8 := rfl
  rw [e]
  by_cases h : l.val < 64
  · rw [if_pos h]
    refine packed_byte c hc _ p l m m' (by omega) ?_
    show Scalar.select (k0_pay200 _ _) (k0_pay205 evenV c _) _ = _
    rw [lowV_apply, if_pos h, pay205_apply, hme]
    rfl
  · rw [if_neg h]
    refine packed_byte c' hc' _ p l m m' (by omega) ?_
    show Scalar.select (k0_pay200 _ _) _ (k0_pay205 evenV c' _) = _
    rw [lowV_apply, if_neg h, pay205_apply c', hme]
    rfl

end Cert.KernelIdeal.Q
end
-- ==== Proof.SpecInt.lean ====
module

public import proofs.«01_k».proof.Proof.Spec
public import Idealize.ShloMosaic.Lib.IdealHost

/-! The zero point and the codes of a group are whole numbers between 0 and 15, whatever the group holds: infinities too. -/

@[expose] public section

noncomputable section

namespace Cert.Spec

open Idealize.ShloMosaic

theorem c0_zero : c0 = 0 := Ideal.ofBits_zero_f32
theorem c1_one : c1 = 1 := Ideal.ofBits_one_f32
theorem c15_val : c15 = ((15 : ℝ) : EReal) := by
  unfold c15; simp [Ideal.ofBits, Ideal.ieee, -EReal.coe_mul]; norm_num

theorem rhe_le {r : ℝ} {n : ℤ} (h : r ≤ n) : Ideal.roundHalfEven r ≤ n := by
  unfold Ideal.roundHalfEven
  have h1 := Int.floor_le r
  have h2 := Int.lt_floor_add_one r
  have h3 : ⌊r⌋ ≤ n := by have : (⌊r⌋ : ℝ) ≤ n := h1.trans h; exact_mod_cast this
  dsimp only
  rcases h3.eq_or_lt with h4 | h4
  · have : r - (⌊r⌋ : ℝ) < 1 / 2 := by rw [h4]; linarith
    rw [if_pos this]; exact h3
  · split_ifs <;> omega

theorem le_rhe {r : ℝ} {n : ℤ} (h : (n : ℝ) ≤ r) : n ≤ Ideal.roundHalfEven r := by
  unfold Ideal.roundHalfEven
  have h3 : n ≤ ⌊r⌋ := Int.le_floor.mpr h
  dsimp only
  split_ifs <;> omega

/-- Where the range is empty or infinite the zero point's quotient is 0; else it is a real number between 0 and 15. -/
theorem zp_quot (lo hi : EReal) (hlo : lo ≤ 0) (hhi : 0 ≤ hi) :
    ∃ q : ℝ, 0 ≤ q ∧ q ≤ 15 ∧ Ideal.div (-lo) (Scalar.select (Ideal.cmp .oeq hi lo) (1 : EReal) (Ideal.div (hi - lo) ((15 : ℝ) : EReal))) = (q : EReal) := by
  by_cases h : hi = lo
  · have h0 : lo = 0 := le_antisymm hlo (h ▸ hhi)
    subst h0
    refine ⟨0, le_rfl, by norm_num, ?_⟩
    have : Scalar.select (Ideal.cmp .oeq hi 0) (1 : EReal) (Ideal.div (hi - 0) ((15 : ℝ) : EReal)) = 1 := by
      simp [Ideal.cmp, h, Scalar.select]
    rw [this]
    simp [Ideal.div]
  · have hs : Scalar.select (Ideal.cmp .oeq hi lo) (1 : EReal) (Ideal.div (hi - lo) ((15 : ℝ) : EReal)) = (hi - lo) * ((1 / 15 : ℝ) : EReal) := by
      rw [← Ideal.div_coe (by norm_num)]
      simp [Ideal.cmp, h, Scalar.select]
    rw [hs]
    have hp : (0 : EReal) < ((1 / 15 : ℝ) : EReal) := by norm_cast; norm_num
    have htop : hi - lo = ⊤ → ∃ q : ℝ, 0 ≤ q ∧ q ≤ 15 ∧ Ideal.div (-lo) ((hi - lo) * ((1 / 15 : ℝ) : EReal)) = (q : EReal) := by
      intro ht
      refine ⟨0, le_rfl, by norm_num, ?_⟩
      rw [ht, EReal.top_mul_of_pos hp]
      simp [Ideal.div]
    induction lo with
    | bot => exact htop (by induction hi with
        | bot => simp at hhi
        | top => rfl
        | coe b => rfl)
    | top => simp at hlo
    | coe a =>
      induction hi with
      | bot => simp at hhi
      | top => exact htop rfl
      | coe b =>
        have ha : a ≤ 0 := by exact_mod_cast hlo
        have hb : 0 ≤ b := by exact_mod_cast hhi
        have hab : b ≠ a := fun e => h (by rw [e])
        have hd : 0 < b - a := lt_of_le_of_ne (by linarith) (fun e => hab (by linarith))
        have e : ((b : EReal) - (a : EReal)) * ((1 / 15 : ℝ) : EReal) = (((b - a) * (1 / 15) : ℝ) : EReal) := by
          push_cast; rfl
        rw [e, Ideal.div_coe (by positivity)]
        refine ⟨-a * (1 / ((b - a) * (1 / 15))), mul_nonneg (by linarith) (by positivity), ?_, by push_cast; rfl⟩
        rw [mul_one_div, div_le_iff₀ (by positivity)]
        linarith

theorem loS_le (v : Fin 128 → EReal) : loS v ≤ 0 := by unfold loS; rw [c0_zero]; exact min_le_left _ _
theorem le_hiS (v : Fin 128 → EReal) : 0 ≤ hiS v := by unfold hiS; rw [c0_zero]; exact le_max_left _ _

/-- The zero point is a whole number between 0 and 15. -/
theorem zpS_nat (v : Fin 128 → EReal) : ∃ m : ℕ, m ≤ 15 ∧ zpS v = ((m : ℝ) : EReal) := by
  obtain ⟨q, h0, h1, hq⟩ := zp_quot (loS v) (hiS v) (loS_le v) (le_hiS v)
  have hz : zpS v = ((Ideal.roundHalfEven q : ℝ) : EReal) := by
    unfold zpS scS
    rw [c1_one, c15_val, hq]; rfl
  have l0 : 0 ≤ Ideal.roundHalfEven q := le_rhe (by simpa using h0)
  have l1 : Ideal.roundHalfEven q ≤ 15 := rhe_le (by simpa using h1)
  refine ⟨(Ideal.roundHalfEven q).toNat, by omega, ?_⟩
  rw [hz]
  congr 1
  have : ((Ideal.roundHalfEven q).toNat : ℤ) = Ideal.roundHalfEven q := Int.toNat_of_nonneg l0
  exact_mod_cast this.symm

theorem clip_nat (z : ℤ) : ∃ n : ℕ, n ≤ 15 ∧ min c15 (max c0 ((z : ℝ) : EReal)) = ((n : ℝ) : EReal) := by
  refine ⟨(min 15 (max 0 z)).toNat, by omega, ?_⟩
  rw [c0_zero, c15_val]
  have : (((min 15 (max 0 z)).toNat : ℤ)) = min 15 (max 0 z) := Int.toNat_of_nonneg (by omega)
  have h2 : (((min 15 (max 0 z)).toNat : ℕ) : ℝ) = ((min 15 (max 0 z) : ℤ) : ℝ) := by exact_mod_cast this
  rw [h2]
  have h3 : ((min 15 (max 0 z) : ℤ) : ℝ) = min (15 : ℝ) (max 0 (z : ℝ)) := by push_cast; rfl
  rw [h3]
  have mono : Monotone (fun r : ℝ => (r : EReal)) := EReal.coe_strictMono.monotone
  rw [show ((min (15 : ℝ) (max 0 (z : ℝ)) : ℝ) : EReal) = min ((15 : ℝ) : EReal) ((max 0 (z : ℝ) : ℝ) : EReal) from mono.map_min,
    show ((max 0 (z : ℝ) : ℝ) : EReal) = max ((0 : ℝ) : EReal) ((z : ℝ) : EReal) from mono.map_max]
  rfl

/-- A code is a whole number between 0 and 15. -/
theorem codeS_nat (v : Fin 128 → EReal) (x : EReal) : ∃ n : ℕ, n ≤ 15 ∧ codeS v x = ((n : ℝ) : EReal) := by
  obtain ⟨m, hm, hz⟩ := zpS_nat v
  unfold codeS
  rw [hz]
  generalize Ideal.div x (scS v) = y
  unfold rnd
  rw [Ideal.roundeven_def]
  induction y with
  | bot =>
    refine ⟨0, by omega, ?_⟩
    rw [Ideal.liftRound_bot, EReal.bot_add, c0_zero, c15_val]
    simp
  | top =>
    refine ⟨15, by omega, ?_⟩
    rw [Ideal.liftRound_top, EReal.top_add_coe, c15_val]
    simp
  | coe r =>
    rw [Ideal.liftRound_coe]
    have := clip_nat (Ideal.roundHalfEven r + m)
    push_cast at this ⊢
    exact this

/-- The byte of a whole number. -/
theorem byteS_nat (n : ℕ) (h : n ≤ 15) : byteS ((n : ℝ) : EReal) = BitVec.ofNat 8 n := by
  unfold byteS
  show (Ideal.fptosi 32 ((n : ℝ) : EReal)).setWidth 8 = _
  unfold Ideal.fptosi
  rw [Ideal.toIntClamped_coe, if_pos (by positivity)]
  have : ⌊(n : ℝ)⌋ = (n : ℤ) := by simp
  rw [this]
  interval_cases n <;> decide

theorem byteS_code_lt (v : Fin 128 → EReal) (x : EReal) : (byteS (codeS v x)).toNat < 16 := by
  obtain ⟨n, h, e⟩ := codeS_nat v x
  rw [e, byteS_nat n h, BitVec.toNat_ofNat]; omega

/-- The difference of the two bytes, as whole numbers, is the difference of the code and the zero point. -/
theorem aS_int (v : Fin 128 → EReal) (x : EReal) :
    ((((IntOp.subi ((byteS (codeS v x)).setWidth 32) ((byteS (zpS v)).setWidth 32)).toInt : ℝ) : EReal)) * scS v = aS v x := by
  unfold aS
  obtain ⟨n, hn, en⟩ := codeS_nat v x
  obtain ⟨m, hm, em⟩ := zpS_nat v
  rw [en, em, byteS_nat n hn, byteS_nat m hm]
  have : (IntOp.subi ((BitVec.ofNat 8 n).setWidth 32) ((BitVec.ofNat 8 m).setWidth 32)).toInt = (n : ℤ) - m := by
    interval_cases n <;> interval_cases m <;> rfl
  rw [this]
  push_cast
  rfl

end Cert.Spec
end
-- ==== Proof.SpecW.lean ====
module

public import proofs.«01_k».proof.Proof.Spec

/-! The weights: two signed four-bit numbers in a byte, the low half first, times the scale of the row's group; and the
dot product of a row of quantised activations with a column of them. -/

@[expose] public section

noncomputable section

namespace Cert.Spec

open Idealize.ShloMosaic

/-- Half `f` of a byte as a signed four-bit number. -/
def nibZ (b : BitVec 8) (f : ℕ) : ℤ :=
  if b.toNat / 16 ^ f % 16 < 8 then ((b.toNat / 16 ^ f % 16 : ℕ) : ℤ) else ((b.toNat / 16 ^ f % 16 : ℕ) : ℤ) - 16

/-- Row `d` of a column of the weights. -/
def wS (W : Fin 3072 → BitVec 8) (S : Fin 48 → EReal) (d : Fin 6144) : EReal :=
  (((nibZ (W ⟨d.val / 2, by omega⟩) (d.val % 2) : ℤ) : ℝ) : EReal) * S ⟨d.val / 128, by omega⟩

/-- One element of the product. -/
def yS (A : Fin 6144 → EReal) (W : Fin 3072 → BitVec 8) (S : Fin 48 → EReal) : EReal := ∑ d, A d * wS W S d

/-- The two ways to take the halves apart: a shift up and an arithmetic shift down, -/
theorem nib_lo : ∀ b : BitVec 8, (IntOp.shrsi .vector (IntOp.shli .vector (b.setWidth 32) 28#32) 28#32).toInt = nibZ b 0 := by
  decide +kernel
theorem nib_hi : ∀ b : BitVec 8, (IntOp.shrsi .vector (IntOp.shli .vector (b.setWidth 32) 24#32) 28#32).toInt = nibZ b 1 := by
  decide +kernel

/-- or a shift down, a mask and a subtraction of 16. -/
def nibR (b : BitVec 8) (s : BitVec 32) : BitVec 32 :=
  Scalar.select (IntOp.cmpi .sge (IntOp.andi (IntOp.shrsi .host (b.setWidth 32) s) 15#32) 8#32)
    (IntOp.subi (IntOp.andi (IntOp.shrsi .host (b.setWidth 32) s) 15#32) 16#32) (IntOp.andi (IntOp.shrsi .host (b.setWidth 32) s) 15#32)
theorem nibR_lo : ∀ b : BitVec 8, (nibR b (IntOp.muli 4#32 (BitVec.ofNat 32 0))).toInt = nibZ b 0 := by
  decide +kernel
theorem nibR_hi : ∀ b : BitVec 8, (nibR b (IntOp.muli 4#32 (BitVec.ofNat 32 1))).toInt = nibZ b 1 := by
  decide +kernel

end Cert.Spec
end
-- ==== Proof.SpecRow.lean ====
module

public import proofs.«01_k».proof.Proof.SpecInt
public import proofs.«01_k».proof.Proof.SpecW

/-! What the five results hold, row by row: `v` is a normalised row. -/

@[expose] public section

noncomputable section

namespace Cert.Spec

open Idealize.ShloMosaic

/-- The code of feature `d`, and the value it stands for. -/
def cdR (v : Fin 6144 → EReal) (d : Fin 6144) : EReal := codeS (grp v ⟨d.val / 128, by omega⟩) (v d)
def aR (v : Fin 6144 → EReal) (d : Fin 6144) : EReal := aS (grp v ⟨d.val / 128, by omega⟩) (v d)
/-- The packed codes, the scales and the zero points. -/
def pkR (v : Fin 6144 → EReal) (k : Fin 3072) : BitVec 8 :=
  byteS (cdR v ⟨2 * k.val, by omega⟩) ||| (byteS (cdR v ⟨2 * k.val + 1, by omega⟩) <<< 4)
def scR (v : Fin 6144 → EReal) (g : Fin 48) : EReal := scS (grp v g)
def zpR (v : Fin 6144 → EReal) (g : Fin 48) : BitVec 8 := byteS (zpS (grp v g))

theorem grp_at (v : Fin 6144 → EReal) (g : Fin 48) (l : Fin 128) (d : Fin 6144) (h : d.val = 128 * g.val + l.val) :
    grp v g l = v d := congrArg v (Fin.ext h.symm)

theorem cdR_at (v : Fin 6144 → EReal) (g : Fin 48) (l : Fin 128) (d : Fin 6144) (h : d.val = 128 * g.val + l.val) :
    codeS (grp v g) (grp v g l) = cdR v d := by
  rw [grp_at v g l d h]
  unfold cdR
  have : g = ⟨d.val / 128, by omega⟩ := Fin.ext (by show g.val = d.val / 128; omega)
  rw [← this]

theorem aR_at (v : Fin 6144 → EReal) (g : Fin 48) (l : Fin 128) (d : Fin 6144) (h : d.val = 128 * g.val + l.val) :
    aS (grp v g) (grp v g l) = aR v d := by
  rw [grp_at v g l d h]
  unfold aR
  have : g = ⟨d.val / 128, by omega⟩ := Fin.ext (by show g.val = d.val / 128; omega)
  rw [← this]

end Cert.Spec
end
-- ==== Proof.QBlock.lean ====
module

public import proofs.«01_k».proof.Proof.QPack
public import proofs.«01_k».proof.Proof.SpecRow

/-! A block of 128 rows of each result of the quantiser, read at one element. -/

@[expose] public section

noncomputable section

namespace Cert.KernelIdeal.Q

open Idealize.ShloMosaic Cert.KernelIdeal.Gen Cert.Spec

variable (x0 : Vec Ideal S128x6144 .bf16) (x1 : Vec Ideal S1x6144 .f32)

/-- Row `p` of the block, normalised. -/
def vB (p : Fin 128) : Fin 6144 → EReal := xnS (fun d => x0 (ix2 p d)) (fun d => x1 (ix2 (0 : Fin 1) d))

theorem rowX_eq (p : Fin 128) : rowX x0 (p.val / 32) ⟨p.val % 32, Nat.mod_lt _ (by decide)⟩ = fun d => x0 (ix2 p d) := by
  funext d
  unfold rowX
  have : (⟨(32 * (p.val / 32) + p.val % 32) % 128, Nat.mod_lt _ (by decide)⟩ : Fin 128) = p := Fin.ext (by
    show (32 * (p.val / 32) + p.val % 32) % 128 = p.val; omega)
  exact congrArg (fun q => x0 (ix2 q d)) this

theorem vG_eq (p : Fin 128) (g : Fin 48) :
    vG x0 x1 (p.val / 32) ⟨p.val % 32, Nat.mod_lt _ (by decide)⟩ g = grp (vB x0 x1 p) g := by
  unfold vG vB
  rw [rowX_eq]; rfl

theorem blkXn (p : Fin 128) (d : Fin 6144) : tiled (tXn x0 x1) (ix2 p d) = vB x0 x1 p d := by
  show tXn x0 x1 (p.val / 32) (d.val / 128) (ix2 (⟨p.val % 32, Nat.mod_lt _ (by decide)⟩ : Fin 32) (⟨d.val % 128, Nat.mod_lt _ (by decide)⟩ : Fin 128)) = _
  rw [tXn_apply, rowX_eq]
  unfold vB
  refine congrArg _ (Fin.ext ?_)
  show (128 * (d.val / 128) + d.val % 128) % 6144 = d.val
  omega

theorem blkA (p : Fin 128) (d : Fin 6144) : tiled (tA x0 x1) (ix2 p d) = aR (vB x0 x1 p) d := by
  show tA x0 x1 (p.val / 32) (⟨d.val / 128, by omega⟩ : Fin 48).val (ix2 (⟨p.val % 32, Nat.mod_lt _ (by decide)⟩ : Fin 32) (⟨d.val % 128, Nat.mod_lt _ (by decide)⟩ : Fin 128)) = _
  rw [tA_apply, vG_eq]
  exact aR_at _ _ _ _ (by show d.val = 128 * (d.val / 128) + d.val % 128; omega)

theorem blkScale (p : Fin 128) (g : Fin 48) : banded (tScale x0 x1) (ix2 p g) = scR (vB x0 x1 p) g := by
  show tScale x0 x1 (p.val / 32) (ix2 (⟨p.val % 32, Nat.mod_lt _ (by decide)⟩ : Fin 32) g) = _
  rw [tScale_apply, vG_eq, scR]

theorem blkZero (p : Fin 128) (g : Fin 48) : banded (tZero x0 x1) (ix2 p g) = zpR (vB x0 x1 p) g := by
  show tZero x0 x1 (p.val / 32) (ix2 (⟨p.val % 32, Nat.mod_lt _ (by decide)⟩ : Fin 32) g) = _
  rw [tZero_apply, vG_eq, zpR]

theorem tCode_at (k g : ℕ) (hg : g < 48) (q : Fin 32) (l : Fin 128) :
    tCode x0 x1 k g (ix2 q l) = codeS (vG x0 x1 k q ⟨g, hg⟩) (vG x0 x1 k q ⟨g, hg⟩ l) := tCode_apply x0 x1 k q ⟨g, hg⟩ l

theorem tCode_lt (k g : ℕ) (hg : g < 48) (q : Fin 32) (l : Fin 128) : (byteS (tCode x0 x1 k g (ix2 q l))).toNat < 16 := by
  rw [tCode_at x0 x1 k g hg]; exact byteS_code_lt _ _

theorem blkPk (p : Fin 128) (k : Fin 3072) : tiled (tPair x0 x1) (ix2 p k) = pkR (vB x0 x1 p) k := by
  show tPair x0 x1 (p.val / 32) (k.val / 128) (ix2 (⟨p.val % 32, Nat.mod_lt _ (by decide)⟩ : Fin 32) (⟨k.val % 128, Nat.mod_lt _ (by decide)⟩ : Fin 128)) = _
  unfold tPair
  have hg0 : 2 * (k.val / 128) < 48 := by omega
  have hg1 : 2 * (k.val / 128) + 1 < 48 := by omega
  rw [pairV_apply _ _ (tCode_lt x0 x1 _ _ hg0) (tCode_lt x0 x1 _ _ hg1) _ _ ⟨2 * (k.val % 128) % 128, Nat.mod_lt _ (by decide)⟩ ⟨2 * (k.val % 128) % 128 + 1, by omega⟩ rfl rfl]
  rw [tCode_at x0 x1 _ _ hg0, tCode_at x0 x1 _ _ hg0, tCode_at x0 x1 _ _ hg1, tCode_at x0 x1 _ _ hg1, vG_eq, vG_eq]
  unfold pkR
  dsimp only
  split
  · next h =>
    rw [cdR_at _ _ _ ⟨2 * k.val, by omega⟩ (by show 2 * k.val = 128 * (2 * (k.val / 128)) + 2 * (k.val % 128) % 128; omega),
      cdR_at _ _ _ ⟨2 * k.val + 1, by omega⟩ (by show 2 * k.val + 1 = 128 * (2 * (k.val / 128)) + (2 * (k.val % 128) % 128 + 1); omega)]
  · next h =>
    rw [cdR_at _ _ _ ⟨2 * k.val, by omega⟩ (by show 2 * k.val = 128 * (2 * (k.val / 128) + 1) + 2 * (k.val % 128) % 128; omega),
      cdR_at _ _ _ ⟨2 * k.val + 1, by omega⟩ (by show 2 * k.val + 1 = 128 * (2 * (k.val / 128) + 1) + (2 * (k.val % 128) % 128 + 1); omega)]

end Cert.KernelIdeal.Q
-- ==== Proof.QRms.lean ====
module

public import proofs.«01_k».proof.Proof.QDefs

/-! The sum of squares of a row, and with it the reciprocal root mean square, as the printed run names them. -/

@[expose] public section

set_option maxRecDepth 4000
set_option maxHeartbeats 2000000

noncomputable section

namespace Cert.KernelIdeal.Q

open Idealize.ShloMosaic Idealize.ShloMosaic.ValueIdx Cert.KernelIdeal.Gen

variable {F : FTy → Type} [FloatOps F]

section
variable {arg1 : Memref sig .tc .vmem S128x6144 .bf16} (harg1 : arg1.IsWhole) {arg2 : Memref sig .tc .vmem S1x6144 .f32} (harg2 : arg2.IsWhole) (arg3 : Memref sig .tc .vmem S128x6144 .bf16)
  (x0 : Vec F S128x6144 .bf16) (x1 : Vec F S1x6144 .f32) (k : Fin k0_t1_loop.trips)

theorem r_eq : trip_k0_t1.sl.r (F := F) arg1 (harg1.unread x0) k = accV (xs x0 k.val) 6 := by
  unfold trip_k0_t1.sl.r
  rw [rx x0 harg1 k 0 (by decide) _ (k0_off1_eq k) _, rx x0 harg1 k 1 (by decide) _ (k0_off2_eq k) _, rx x0 harg1 k 2 (by decide) _ (k0_off3_eq k) _, rx x0 harg1 k 3 (by decide) _ (k0_off4_eq k) _, rx x0 harg1 k 4 (by decide) _ (k0_off5_eq k) _, rx x0 harg1 k 5 (by decide) _ (k0_off6_eq k) _, rx x0 harg1 k 6 (by decide) _ (k0_off7_eq k) _]
  rw [show accV (xs x0 k.val) 6 = addf (accV (xs x0 k.val) 5) (sqV (xs x0 k.val 6)) from rfl, show accV (xs x0 k.val) 5 = addf (accV (xs x0 k.val) 4) (sqV (xs x0 k.val 5)) from rfl, show accV (xs x0 k.val) 4 = addf (accV (xs x0 k.val) 3) (sqV (xs x0 k.val 4)) from rfl, show accV (xs x0 k.val) 3 = addf (accV (xs x0 k.val) 2) (sqV (xs x0 k.val 3)) from rfl, show accV (xs x0 k.val) 2 = addf (accV (xs x0 k.val) 1) (sqV (xs x0 k.val 2)) from rfl, show accV (xs x0 k.val) 1 = addf (accV (xs x0 k.val) 0) (sqV (xs x0 k.val 1)) from rfl, show accV (xs x0 k.val) 0 = sqV (xs x0 k.val 0) from rfl]
  unfold k0_pay3 sqV
  rfl

theorem r_2_eq : trip_k0_t1.sl.r_2 (F := F) arg1 (harg1.unread x0) k = accV (xs x0 k.val) 15 := by
  unfold trip_k0_t1.sl.r_2 trip_k0_t1.sl.r_1
  rw [r_eq harg1 x0 k, rx x0 harg1 k 7 (by decide) _ (k0_off8_eq k) _, rx x0 harg1 k 8 (by decide) _ (k0_off9_eq k) _, rx x0 harg1 k 9 (by decide) _ (k0_off10_eq k) _, rx x0 harg1 k 10 (by decide) _ (k0_off11_eq k) _, rx x0 harg1 k 11 (by decide) _ (k0_off12_eq k) _, rx x0 harg1 k 12 (by decide) _ (k0_off13_eq k) _, rx x0 harg1 k 13 (by decide) _ (k0_off14_eq k) _, rx x0 harg1 k 14 (by decide) _ (k0_off15_eq k) _, rx x0 harg1 k 15 (by decide) _ (k0_off16_eq k) _]
  rw [show accV (xs x0 k.val) 15 = addf (accV (xs x0 k.val) 14) (sqV (xs x0 k.val 15)) from rfl, show accV (xs x0 k.val) 14 = addf (accV (xs x0 k.val) 13) (sqV (xs x0 k.val 14)) from rfl, show accV (xs x0 k.val) 13 = addf (accV (xs x0 k.val) 12) (sqV (xs x0 k.val 13)) from rfl, show accV (xs x0 k.val) 12 = addf (accV (xs x0 k.val) 11) (sqV (xs x0 k.val 12)) from rfl, show accV (xs x0 k.val) 11 = addf (accV (xs x0 k.val) 10) (sqV (xs x0 k.val 11)) from rfl, show accV (xs x0 k.val) 10 = addf (accV (xs x0 k.val) 9) (sqV (xs x0 k.val 10)) from rfl, show accV (xs x0 k.val) 9 = addf (accV (xs x0 k.val) 8) (sqV (xs x0 k.val 9)) from rfl, show accV (xs x0 k.val) 8 = addf (accV (xs x0 k.val) 7) (sqV (xs x0 k.val 8)) from rfl, show accV (xs x0 k.val) 7 = addf (accV (xs x0 k.val) 6) (sqV (xs x0 k.val 7)) from rfl]
  unfold k0_pay4 sqV
  rfl

theorem r_3_eq : trip_k0_t1.sl.r_3 (F := F) arg1 (harg1.unread x0) k = accV (xs x0 k.val) 23 := by
  unfold trip_k0_t1.sl.r_3
  rw [r_2_eq harg1 x0 k, rx x0 harg1 k 16 (by decide) _ (k0_off17_eq k) _, rx x0 harg1 k 17 (by decide) _ (k0_off18_eq k) _, rx x0 harg1 k 18 (by decide) _ (k0_off19_eq k) _, rx x0 harg1 k 19 (by decide) _ (k0_off20_eq k) _, rx x0 harg1 k 20 (by decide) _ (k0_off21_eq k) _, rx x0 harg1 k 21 (by decide) _ (k0_off22_eq k) _, rx x0 harg1 k 22 (by decide) _ (k0_off23_eq k) _, rx x0 harg1 k 23 (by decide) _ (k0_off24_eq k) _]
  rw [show accV (xs x0 k.val) 23 = addf (accV (xs x0 k.val) 22) (sqV (xs x0 k.val 23)) from rfl, show accV (xs x0 k.val) 22 = addf (accV (xs x0 k.val) 21) (sqV (xs x0 k.val 22)) from rfl, show accV (xs x0 k.val) 21 = addf (accV (xs x0 k.val) 20) (sqV (xs x0 k.val 21)) from rfl, show accV (xs x0 k.val) 20 = addf (accV (xs x0 k.val) 19) (sqV (xs x0 k.val 20)) from rfl, show accV (xs x0 k.val) 19 = addf (accV (xs x0 k.val) 18) (sqV (xs x0 k.val 19)) from rfl, show accV (xs x0 k.val) 18 = addf (accV (xs x0 k.val) 17) (sqV (xs x0 k.val 18)) from rfl, show accV (xs x0 k.val) 17 = addf (accV (xs x0 k.val) 16) (sqV (xs x0 k.val 17)) from rfl, show accV (xs x0 k.val) 16 = addf (accV (xs x0 k.val) 15) (sqV (xs x0 k.val 16)) from rfl]
  unfold k0_pay5 sqV
  rfl

theorem r_5_eq : trip_k0_t1.sl.r_5 (F := F) arg1 (harg1.unread x0) k = accV (xs x0 k.val) 32 := by
  unfold trip_k0_t1.sl.r_5 trip_k0_t1.sl.r_4
  rw [r_3_eq harg1 x0 k, rx x0 harg1 k 24 (by decide) _ (k0_off25_eq k) _, rx x0 harg1 k 25 (by decide) _ (k0_off26_eq k) _, rx x0 harg1 k 26 (by decide) _ (k0_off27_eq k) _, rx x0 harg1 k 27 (by decide) _ (k0_off28_eq k) _, rx x0 harg1 k 28 (by decide) _ (k0_off29_eq k) _, rx x0 harg1 k 29 (by decide) _ (k0_off30_eq k) _, rx x0 harg1 k 30 (by decide) _ (k0_off31_eq k) _, rx x0 harg1 k 31 (by decide) _ (k0_off32_eq k) _, rx x0 harg1 k 32 (by decide) _ (k0_off33_eq k) _]
  rw [show accV (xs x0 k.val) 32 = addf (accV (xs x0 k.val) 31) (sqV (xs x0 k.val 32)) from rfl, show accV (xs x0 k.val) 31 = addf (accV (xs x0 k.val) 30) (sqV (xs x0 k.val 31)) from rfl, show accV (xs x0 k.val) 30 = addf (accV (xs x0 k.val) 29) (sqV (xs x0 k.val 30)) from rfl, show accV (xs x0 k.val) 29 = addf (accV (xs x0 k.val) 28) (sqV (xs x0 k.val 29)) from rfl, show accV (xs x0 k.val) 28 = addf (accV (xs x0 k.val) 27) (sqV (xs x0 k.val 28)) from rfl, show accV (xs x0 k.val) 27 = addf (accV (xs x0 k.val) 26) (sqV (xs x0 k.val 27)) from rfl, show accV (xs x0 k.val) 26 = addf (accV (xs x0 k.val) 25) (sqV (xs x0 k.val 26)) from rfl, show accV (xs x0 k.val) 25 = addf (accV (xs x0 k.val) 24) (sqV (xs x0 k.val 25)) from rfl, show accV (xs x0 k.val) 24 = addf (accV (xs x0 k.val) 23) (sqV (xs x0 k.val 24)) from rfl]
  unfold k0_pay7 k0_pay6 sqV
  rfl

theorem r_6_eq : trip_k0_t1.sl.r_6 (F := F) arg1 (harg1.unread x0) k = accV (xs x0 k.val) 40 := by
  unfold trip_k0_t1.sl.r_6
  rw [r_5_eq harg1 x0 k, rx x0 harg1 k 33 (by decide) _ (k0_off34_eq k) _, rx x0 harg1 k 34 (by decide) _ (k0_off35_eq k) _, rx x0 harg1 k 35 (by decide) _ (k0_off36_eq k) _, rx x0 harg1 k 36 (by decide) _ (k0_off37_eq k) _, rx x0 harg1 k 37 (by decide) _ (k0_off38_eq k) _, rx x0 harg1 k 38 (by decide) _ (k0_off39_eq k) _, rx x0 harg1 k 39 (by decide) _ (k0_off40_eq k) _, rx x0 harg1 k 40 (by decide) _ (k0_off41_eq k) _]
  rw [show accV (xs x0 k.val) 40 = addf (accV (xs x0 k.val) 39) (sqV (xs x0 k.val 40)) from rfl, show accV (xs x0 k.val) 39 = addf (accV (xs x0 k.val) 38) (sqV (xs x0 k.val 39)) from rfl, show accV (xs x0 k.val) 38 = addf (accV (xs x0 k.val) 37) (sqV (xs x0 k.val 38)) from rfl, show accV (xs x0 k.val) 37 = addf (accV (xs x0 k.val) 36) (sqV (xs x0 k.val 37)) from rfl, show accV (xs x0 k.val) 36 = addf (accV (xs x0 k.val) 35) (sqV (xs x0 k.val 36)) from rfl, show accV (xs x0 k.val) 35 = addf (accV (xs x0 k.val) 34) (sqV (xs x0 k.val 35)) from rfl, show accV (xs x0 k.val) 34 = addf (accV (xs x0 k.val) 33) (sqV (xs x0 k.val 34)) from rfl, show accV (xs x0 k.val) 33 = addf (accV (xs x0 k.val) 32) (sqV (xs x0 k.val 33)) from rfl]
  unfold k0_pay8 sqV
  rfl

theorem r_8_eq : trip_k0_t1.sl.r_8 (F := F) arg1 (harg1.unread x0) k = tR x0 k.val := by
  unfold trip_k0_t1.sl.r_8 trip_k0_t1.sl.r_7
  rw [r_6_eq harg1 x0 k, rx x0 harg1 k 41 (by decide) _ (k0_off42_eq k) _, rx x0 harg1 k 42 (by decide) _ (k0_off43_eq k) _, rx x0 harg1 k 43 (by decide) _ (k0_off44_eq k) _, rx x0 harg1 k 44 (by decide) _ (k0_off45_eq k) _, rx x0 harg1 k 45 (by decide) _ (k0_off46_eq k) _, rx x0 harg1 k 46 (by decide) _ (k0_off47_eq k) _, rx x0 harg1 k 47 (by decide) _ (k0_off48_eq k) _]
  unfold tR rmsV
  rw [show accV (xs x0 k.val) 47 = addf (accV (xs x0 k.val) 46) (sqV (xs x0 k.val 47)) from rfl, show accV (xs x0 k.val) 46 = addf (accV (xs x0 k.val) 45) (sqV (xs x0 k.val 46)) from rfl, show accV (xs x0 k.val) 45 = addf (accV (xs x0 k.val) 44) (sqV (xs x0 k.val 45)) from rfl, show accV (xs x0 k.val) 44 = addf (accV (xs x0 k.val) 43) (sqV (xs x0 k.val 44)) from rfl, show accV (xs x0 k.val) 43 = addf (accV (xs x0 k.val) 42) (sqV (xs x0 k.val 43)) from rfl, show accV (xs x0 k.val) 42 = addf (accV (xs x0 k.val) 41) (sqV (xs x0 k.val 42)) from rfl, show accV (xs x0 k.val) 41 = addf (accV (xs x0 k.val) 40) (sqV (xs x0 k.val 41)) from rfl]
  unfold k0_pay10 k0_pay9 sqV
  rfl

end

end Cert.KernelIdeal.Q
end
-- ==== Proof.QChain.lean ====
module

public import proofs.«01_k».proof.Proof.QRms

/-! The printed run names its intermediate values one by one; here each is identified with the value of QDefs it stands for. -/

@[expose] public section

set_option maxRecDepth 4000
set_option maxHeartbeats 2000000

noncomputable section

namespace Cert.KernelIdeal.Q

open Idealize.ShloMosaic Idealize.ShloMosaic.ValueIdx Cert.KernelIdeal.Gen

variable {F : FTy → Type} [FloatOps F]

section
variable {arg1 : Memref sig .tc .vmem S128x6144 .bf16} (harg1 : arg1.IsWhole) {arg2 : Memref sig .tc .vmem S1x6144 .f32} (harg2 : arg2.IsWhole) (arg3 : Memref sig .tc .vmem S128x6144 .bf16)
  (x0 : Vec F S128x6144 .bf16) (x1 : Vec F S1x6144 .f32) (k : Fin k0_t1_loop.trips)

theorem r_9_eq : trip_k0_t1.sl.r_9 (F := F) arg1 arg2 (harg1.unread x0) (harg2.unread x1) k = tMn x0 x1 k.val 1 := by
  unfold trip_k0_t1.sl.r_9 trip_k0_t1.sl.v5
  rw [r_8_eq harg1 x0 k, rx x0 harg1 k 0 (by decide) _ (k0_off1_eq k) _, gx x1 harg2 0 (by decide) _ rfl _]
  rfl

theorem r_10_eq : trip_k0_t1.sl.r_10 (F := F) arg1 arg2 (harg1.unread x0) (harg2.unread x1) k = tMx x0 x1 k.val 1 := by
  unfold trip_k0_t1.sl.r_10 trip_k0_t1.sl.v5
  rw [r_8_eq harg1 x0 k, rx x0 harg1 k 0 (by decide) _ (k0_off1_eq k) _, gx x1 harg2 0 (by decide) _ rfl _]
  rfl

theorem r_13_eq : trip_k0_t1.sl.r_13 (F := F) arg1 arg2 (harg1.unread x0) (harg2.unread x1) k = tMn x0 x1 k.val 3 := by
  unfold trip_k0_t1.sl.r_13 trip_k0_t1.sl.r_12 trip_k0_t1.sl.v5
  rw [r_8_eq harg1 x0 k, r_9_eq harg1 harg2 x0 x1 k, rx x0 harg1 k 1 (by decide) _ (k0_off2_eq k) _, rx x0 harg1 k 2 (by decide) _ (k0_off3_eq k) _, gx x1 harg2 1 (by decide) _ rfl _, gx x1 harg2 2 (by decide) _ rfl _]
  rfl

theorem r_14_eq : trip_k0_t1.sl.r_14 (F := F) arg1 arg2 (harg1.unread x0) (harg2.unread x1) k = tMx x0 x1 k.val 3 := by
  unfold trip_k0_t1.sl.r_14 trip_k0_t1.sl.r_11 trip_k0_t1.sl.v5
  rw [r_10_eq harg1 harg2 x0 x1 k, r_8_eq harg1 x0 k, rx x0 harg1 k 1 (by decide) _ (k0_off2_eq k) _, rx x0 harg1 k 2 (by decide) _ (k0_off3_eq k) _, gx x1 harg2 1 (by decide) _ rfl _, gx x1 harg2 2 (by decide) _ rfl _]
  rfl

theorem r_17_eq : trip_k0_t1.sl.r_17 (F := F) arg1 arg2 (harg1.unread x0) (harg2.unread x1) k = tMx x0 x1 k.val 4 := by
  unfold trip_k0_t1.sl.r_17 trip_k0_t1.sl.r_16 trip_k0_t1.sl.r_15 trip_k0_t1.sl.v5
  rw [r_14_eq harg1 harg2 x0 x1 k, r_8_eq harg1 x0 k, rx x0 harg1 k 3 (by decide) _ (k0_off4_eq k) _, gx x1 harg2 3 (by decide) _ rfl _]
  rfl

theorem r_18_eq : trip_k0_t1.sl.r_18 (F := F) arg1 arg2 (harg1.unread x0) (harg2.unread x1) k = tMn x0 x1 k.val 5 := by
  unfold trip_k0_t1.sl.r_18 trip_k0_t1.sl.r_16 trip_k0_t1.sl.r_15 trip_k0_t1.sl.v5
  rw [r_13_eq harg1 harg2 x0 x1 k, r_8_eq harg1 x0 k, rx x0 harg1 k 3 (by decide) _ (k0_off4_eq k) _, rx x0 harg1 k 4 (by decide) _ (k0_off5_eq k) _, gx x1 harg2 3 (by decide) _ rfl _, gx x1 harg2 4 (by decide) _ rfl _]
  rfl

theorem r_20_eq : trip_k0_t1.sl.r_20 (F := F) arg1 arg2 (harg1.unread x0) (harg2.unread x1) k = tMn x0 x1 k.val 6 := by
  unfold trip_k0_t1.sl.r_20 trip_k0_t1.sl.v5
  rw [r_18_eq harg1 harg2 x0 x1 k, r_8_eq harg1 x0 k, rx x0 harg1 k 5 (by decide) _ (k0_off6_eq k) _, gx x1 harg2 5 (by decide) _ rfl _]
  rfl

theorem r_21_eq : trip_k0_t1.sl.r_21 (F := F) arg1 arg2 (harg1.unread x0) (harg2.unread x1) k = tMx x0 x1 k.val 6 := by
  unfold trip_k0_t1.sl.r_21 trip_k0_t1.sl.r_19 trip_k0_t1.sl.v5
  rw [r_17_eq harg1 harg2 x0 x1 k, r_8_eq harg1 x0 k, rx x0 harg1 k 4 (by decide) _ (k0_off5_eq k) _, rx x0 harg1 k 5 (by decide) _ (k0_off6_eq k) _, gx x1 harg2 4 (by decide) _ rfl _, gx x1 harg2 5 (by decide) _ rfl _]
  rfl

theorem r_23_eq : trip_k0_t1.sl.r_23 (F := F) arg1 arg2 (harg1.unread x0) (harg2.unread x1) k = tMn x0 x1 k.val 8 := by
  unfold trip_k0_t1.sl.r_23 trip_k0_t1.sl.r_22 trip_k0_t1.sl.v5
  rw [r_20_eq harg1 harg2 x0 x1 k, r_8_eq harg1 x0 k, rx x0 harg1 k 6 (by decide) _ (k0_off7_eq k) _, rx x0 harg1 k 7 (by decide) _ (k0_off8_eq k) _, gx x1 harg2 6 (by decide) _ rfl _, gx x1 harg2 7 (by decide) _ rfl _]
  rfl

theorem r_24_eq : trip_k0_t1.sl.r_24 (F := F) arg1 arg2 (harg1.unread x0) (harg2.unread x1) k = tMx x0 x1 k.val 8 := by
  unfold trip_k0_t1.sl.r_24 trip_k0_t1.sl.r_22 trip_k0_t1.sl.v5
  rw [r_21_eq harg1 harg2 x0 x1 k, r_8_eq harg1 x0 k, rx x0 harg1 k 6 (by decide) _ (k0_off7_eq k) _, rx x0 harg1 k 7 (by decide) _ (k0_off8_eq k) _, gx x1 harg2 6 (by decide) _ rfl _, gx x1 harg2 7 (by decide) _ rfl _]
  rfl

theorem r_27_eq : trip_k0_t1.sl.r_27 (F := F) arg1 arg2 (harg1.unread x0) (harg2.unread x1) k = tMx x0 x1 k.val 9 := by
  unfold trip_k0_t1.sl.r_27 trip_k0_t1.sl.r_26 trip_k0_t1.sl.r_25 trip_k0_t1.sl.v5
  rw [r_24_eq harg1 harg2 x0 x1 k, r_8_eq harg1 x0 k, rx x0 harg1 k 8 (by decide) _ (k0_off9_eq k) _, gx x1 harg2 8 (by decide) _ rfl _]
  rfl

theorem r_29_eq : trip_k0_t1.sl.r_29 (F := F) arg1 arg2 (harg1.unread x0) (harg2.unread x1) k = tMn x0 x1 k.val 10 := by
  unfold trip_k0_t1.sl.r_29 trip_k0_t1.sl.r_26 trip_k0_t1.sl.r_25 trip_k0_t1.sl.v5
  rw [r_23_eq harg1 harg2 x0 x1 k, r_8_eq harg1 x0 k, rx x0 harg1 k 8 (by decide) _ (k0_off9_eq k) _, rx x0 harg1 k 9 (by decide) _ (k0_off10_eq k) _, gx x1 harg2 8 (by decide) _ rfl _, gx x1 harg2 9 (by decide) _ rfl _]
  rfl

theorem r_30_eq : trip_k0_t1.sl.r_30 (F := F) arg1 arg2 (harg1.unread x0) (harg2.unread x1) k = tMn x0 x1 k.val 11 := by
  unfold trip_k0_t1.sl.r_30 trip_k0_t1.sl.v5
  rw [r_29_eq harg1 harg2 x0 x1 k, r_8_eq harg1 x0 k, rx x0 harg1 k 10 (by decide) _ (k0_off11_eq k) _, gx x1 harg2 10 (by decide) _ rfl _]
  rfl

theorem r_31_eq : trip_k0_t1.sl.r_31 (F := F) arg1 arg2 (harg1.unread x0) (harg2.unread x1) k = tMx x0 x1 k.val 11 := by
  unfold trip_k0_t1.sl.r_31 trip_k0_t1.sl.r_28 trip_k0_t1.sl.v5
  rw [r_27_eq harg1 harg2 x0 x1 k, r_8_eq harg1 x0 k, rx x0 harg1 k 9 (by decide) _ (k0_off10_eq k) _, rx x0 harg1 k 10 (by decide) _ (k0_off11_eq k) _, gx x1 harg2 9 (by decide) _ rfl _, gx x1 harg2 10 (by decide) _ rfl _]
  rfl

theorem r_33_eq : trip_k0_t1.sl.r_33 (F := F) arg1 arg2 (harg1.unread x0) (harg2.unread x1) k = tMn x0 x1 k.val 13 := by
  unfold trip_k0_t1.sl.r_33 trip_k0_t1.sl.r_32 trip_k0_t1.sl.v5
  rw [r_30_eq harg1 harg2 x0 x1 k, r_8_eq harg1 x0 k, rx x0 harg1 k 11 (by decide) _ (k0_off12_eq k) _, rx x0 harg1 k 12 (by decide) _ (k0_off13_eq k) _, gx x1 harg2 11 (by decide) _ rfl _, gx x1 harg2 12 (by decide) _ rfl _]
  rfl

theorem r_34_eq : trip_k0_t1.sl.r_34 (F := F) arg1 arg2 (harg1.unread x0) (harg2.unread x1) k = tMx x0 x1 k.val 13 := by
  unfold trip_k0_t1.sl.r_34 trip_k0_t1.sl.r_32 trip_k0_t1.sl.v5
  rw [r_31_eq harg1 harg2 x0 x1 k, r_8_eq harg1 x0 k, rx x0 harg1 k 11 (by decide) _ (k0_off12_eq k) _, rx x0 harg1 k 12 (by decide) _ (k0_off13_eq k) _, gx x1 harg2 11 (by decide) _ rfl _, gx x1 harg2 12 (by decide) _ rfl _]
  rfl

theorem r_35_eq : trip_k0_t1.sl.r_35 (F := F) arg1 arg2 (harg1.unread x0) (harg2.unread x1) k = tMn x0 x1 k.val 14 := by
  unfold trip_k0_t1.sl.r_35 trip_k0_t1.sl.v5
  rw [r_33_eq harg1 harg2 x0 x1 k, r_8_eq harg1 x0 k, rx x0 harg1 k 13 (by decide) _ (k0_off14_eq k) _, gx x1 harg2 13 (by decide) _ rfl _]
  rfl

theorem r_36_eq : trip_k0_t1.sl.r_36 (F := F) arg1 arg2 (harg1.unread x0) (harg2.unread x1) k = tMx x0 x1 k.val 14 := by
  unfold trip_k0_t1.sl.r_36 trip_k0_t1.sl.v5
  rw [r_34_eq harg1 harg2 x0 x1 k, r_8_eq harg1 x0 k, rx x0 harg1 k 13 (by decide) _ (k0_off14_eq k) _, gx x1 harg2 13 (by decide) _ rfl _]
  rfl

theorem r_39_eq : trip_k0_t1.sl.r_39 (F := F) arg1 arg2 (harg1.unread x0) (harg2.unread x1) k = tMn x0 x1 k.val 16 := by
  unfold trip_k0_t1.sl.r_39 trip_k0_t1.sl.r_38 trip_k0_t1.sl.v5
  rw [r_35_eq harg1 harg2 x0 x1 k, r_8_eq harg1 x0 k, rx x0 harg1 k 14 (by decide) _ (k0_off15_eq k) _, rx x0 harg1 k 15 (by decide) _ (k0_off16_eq k) _, gx x1 harg2 14 (by decide) _ rfl _, gx x1 harg2 15 (by decide) _ rfl _]
  rfl

theorem r_40_eq : trip_k0_t1.sl.r_40 (F := F) arg1 arg2 (harg1.unread x0) (harg2.unread x1) k = tMx x0 x1 k.val 16 := by
  unfold trip_k0_t1.sl.r_40 trip_k0_t1.sl.r_37 trip_k0_t1.sl.v5
  rw [r_36_eq harg1 harg2 x0 x1 k, r_8_eq harg1 x0 k, rx x0 harg1 k 14 (by decide) _ (k0_off15_eq k) _, rx x0 harg1 k 15 (by decide) _ (k0_off16_eq k) _, gx x1 harg2 14 (by decide) _ rfl _, gx x1 harg2 15 (by decide) _ rfl _]
  rfl

theorem r_43_eq : trip_k0_t1.sl.r_43 (F := F) arg1 arg2 (harg1.unread x0) (harg2.unread x1) k = tMx x0 x1 k.val 17 := by
  unfold trip_k0_t1.sl.r_43 trip_k0_t1.sl.r_42 trip_k0_t1.sl.r_41 trip_k0_t1.sl.v5
  rw [r_40_eq harg1 harg2 x0 x1 k, r_8_eq harg1 x0 k, rx x0 harg1 k 16 (by decide) _ (k0_off17_eq k) _, gx x1 harg2 16 (by decide) _ rfl _]
  rfl

theorem r_44_eq : trip_k0_t1.sl.r_44 (F := F) arg1 arg2 (harg1.unread x0) (harg2.unread x1) k = tMn x0 x1 k.val 18 := by
  unfold trip_k0_t1.sl.r_44 trip_k0_t1.sl.r_42 trip_k0_t1.sl.r_41 trip_k0_t1.sl.v5
  rw [r_39_eq harg1 harg2 x0 x1 k, r_8_eq harg1 x0 k, rx x0 harg1 k 16 (by decide) _ (k0_off17_eq k) _, rx x0 harg1 k 17 (by decide) _ (k0_off18_eq k) _, gx x1 harg2 16 (by decide) _ rfl _, gx x1 harg2 17 (by decide) _ rfl _]
  rfl

theorem r_46_eq : trip_k0_t1.sl.r_46 (F := F) arg1 arg2 (harg1.unread x0) (harg2.unread x1) k = tMn x0 x1 k.val 19 := by
  unfold trip_k0_t1.sl.r_46 trip_k0_t1.sl.v5
  rw [r_44_eq harg1 harg2 x0 x1 k, r_8_eq harg1 x0 k, rx x0 harg1 k 18 (by decide) _ (k0_off19_eq k) _, gx x1 harg2 18 (by decide) _ rfl _]
  rfl

theorem r_47_eq : trip_k0_t1.sl.r_47 (F := F) arg1 arg2 (harg1.unread x0) (harg2.unread x1) k = tMx x0 x1 k.val 19 := by
  unfold trip_k0_t1.sl.r_47 trip_k0_t1.sl.r_45 trip_k0_t1.sl.v5
  rw [r_43_eq harg1 harg2 x0 x1 k, r_8_eq harg1 x0 k, rx x0 harg1 k 17 (by decide) _ (k0_off18_eq k) _, rx x0 harg1 k 18 (by decide) _ (k0_off19_eq k) _, gx x1 harg2 17 (by decide) _ rfl _, gx x1 harg2 18 (by decide) _ rfl _]
  rfl

theorem r_49_eq : trip_k0_t1.sl.r_49 (F := F) arg1 arg2 (harg1.unread x0) (harg2.unread x1) k = tMn x0 x1 k.val 21 := by
  unfold trip_k0_t1.sl.r_49 trip_k0_t1.sl.r_48 trip_k0_t1.sl.v5
  rw [r_46_eq harg1 harg2 x0 x1 k, r_8_eq harg1 x0 k, rx x0 harg1 k 19 (by decide) _ (k0_off20_eq k) _, rx x0 harg1 k 20 (by decide) _ (k0_off21_eq k) _, gx x1 harg2 19 (by decide) _ rfl _, gx x1 harg2 20 (by decide) _ rfl _]
  rfl

theorem r_50_eq : trip_k0_t1.sl.r_50 (F := F) arg1 arg2 (harg1.unread x0) (harg2.unread x1) k = tMx x0 x1 k.val 21 := by
  unfold trip_k0_t1.sl.r_50 trip_k0_t1.sl.r_48 trip_k0_t1.sl.v5
  rw [r_47_eq harg1 harg2 x0 x1 k, r_8_eq harg1 x0 k, rx x0 harg1 k 19 (by decide) _ (k0_off20_eq k) _, rx x0 harg1 k 20 (by decide) _ (k0_off21_eq k) _, gx x1 harg2 19 (by decide) _ rfl _, gx x1 harg2 20 (by decide) _ rfl _]
  rfl

theorem r_52_eq : trip_k0_t1.sl.r_52 (F := F) arg1 arg2 (harg1.unread x0) (harg2.unread x1) k = tMx x0 x1 k.val 22 := by
  unfold trip_k0_t1.sl.r_52 trip_k0_t1.sl.r_51 trip_k0_t1.sl.v5
  rw [r_50_eq harg1 harg2 x0 x1 k, r_8_eq harg1 x0 k, rx x0 harg1 k 21 (by decide) _ (k0_off22_eq k) _, gx x1 harg2 21 (by decide) _ rfl _]
  rfl

theorem r_54_eq : trip_k0_t1.sl.r_54 (F := F) arg1 arg2 (harg1.unread x0) (harg2.unread x1) k = tMn x0 x1 k.val 23 := by
  unfold trip_k0_t1.sl.r_54 trip_k0_t1.sl.r_51 trip_k0_t1.sl.v5
  rw [r_49_eq harg1 harg2 x0 x1 k, r_8_eq harg1 x0 k, rx x0 harg1 k 21 (by decide) _ (k0_off22_eq k) _, rx x0 harg1 k 22 (by decide) _ (k0_off23_eq k) _, gx x1 harg2 21 (by decide) _ rfl _, gx x1 harg2 22 (by decide) _ rfl _]
  rfl

theorem r_55_eq : trip_k0_t1.sl.r_55 (F := F) arg1 arg2 (harg1.unread x0) (harg2.unread x1) k = tMn x0 x1 k.val 24 := by
  unfold trip_k0_t1.sl.r_55 trip_k0_t1.sl.v5
  rw [r_54_eq harg1 harg2 x0 x1 k, r_8_eq harg1 x0 k, rx x0 harg1 k 23 (by decide) _ (k0_off24_eq k) _, gx x1 harg2 23 (by decide) _ rfl _]
  rfl

theorem r_56_eq : trip_k0_t1.sl.r_56 (F := F) arg1 arg2 (harg1.unread x0) (harg2.unread x1) k = tMx x0 x1 k.val 24 := by
  unfold trip_k0_t1.sl.r_56 trip_k0_t1.sl.r_53 trip_k0_t1.sl.v5
  rw [r_52_eq harg1 harg2 x0 x1 k, r_8_eq harg1 x0 k, rx x0 harg1 k 22 (by decide) _ (k0_off23_eq k) _, rx x0 harg1 k 23 (by decide) _ (k0_off24_eq k) _, gx x1 harg2 22 (by decide) _ rfl _, gx x1 harg2 23 (by decide) _ rfl _]
  rfl

theorem r_58_eq : trip_k0_t1.sl.r_58 (F := F) arg1 arg2 (harg1.unread x0) (harg2.unread x1) k = tMn x0 x1 k.val 26 := by
  unfold trip_k0_t1.sl.r_58 trip_k0_t1.sl.r_57 trip_k0_t1.sl.v5
  rw [r_55_eq harg1 harg2 x0 x1 k, r_8_eq harg1 x0 k, rx x0 harg1 k 24 (by decide) _ (k0_off25_eq k) _, rx x0 harg1 k 25 (by decide) _ (k0_off26_eq k) _, gx x1 harg2 24 (by decide) _ rfl _, gx x1 harg2 25 (by decide) _ rfl _]
  rfl

theorem r_59_eq : trip_k0_t1.sl.r_59 (F := F) arg1 arg2 (harg1.unread x0) (harg2.unread x1) k = tMx x0 x1 k.val 26 := by
  unfold trip_k0_t1.sl.r_59 trip_k0_t1.sl.r_57 trip_k0_t1.sl.v5
  rw [r_56_eq harg1 harg2 x0 x1 k, r_8_eq harg1 x0 k, rx x0 harg1 k 24 (by decide) _ (k0_off25_eq k) _, rx x0 harg1 k 25 (by decide) _ (k0_off26_eq k) _, gx x1 harg2 24 (by decide) _ rfl _, gx x1 harg2 25 (by decide) _ rfl _]
  rfl

theorem r_60_eq : trip_k0_t1.sl.r_60 (F := F) arg1 arg2 (harg1.unread x0) (harg2.unread x1) k = tMn x0 x1 k.val 27 := by
  unfold trip_k0_t1.sl.r_60 trip_k0_t1.sl.v5
  rw [r_58_eq harg1 harg2 x0 x1 k, r_8_eq harg1 x0 k, rx x0 harg1 k 26 (by decide) _ (k0_off27_eq k) _, gx x1 harg2 26 (by decide) _ rfl _]
  rfl

theorem r_61_eq : trip_k0_t1.sl.r_61 (F := F) arg1 arg2 (harg1.unread x0) (harg2.unread x1) k = tMx x0 x1 k.val 27 := by
  unfold trip_k0_t1.sl.r_61 trip_k0_t1.sl.v5
  rw [r_59_eq harg1 harg2 x0 x1 k, r_8_eq harg1 x0 k, rx x0 harg1 k 26 (by decide) _ (k0_off27_eq k) _, gx x1 harg2 26 (by decide) _ rfl _]
  rfl

theorem r_63_eq : trip_k0_t1.sl.r_63 (F := F) arg1 arg2 (harg1.unread x0) (harg2.unread x1) k = tMn x0 x1 k.val 29 := by
  unfold trip_k0_t1.sl.r_63 trip_k0_t1.sl.r_62 trip_k0_t1.sl.v5
  rw [r_60_eq harg1 harg2 x0 x1 k, r_8_eq harg1 x0 k, rx x0 harg1 k 27 (by decide) _ (k0_off28_eq k) _, rx x0 harg1 k 28 (by decide) _ (k0_off29_eq k) _, gx x1 harg2 27 (by decide) _ rfl _, gx x1 harg2 28 (by decide) _ rfl _]
  rfl

theorem r_64_eq : trip_k0_t1.sl.r_64 (F := F) arg1 arg2 (harg1.unread x0) (harg2.unread x1) k = tMx x0 x1 k.val 29 := by
  unfold trip_k0_t1.sl.r_64 trip_k0_t1.sl.r_62 trip_k0_t1.sl.v5
  rw [r_61_eq harg1 harg2 x0 x1 k, r_8_eq harg1 x0 k, rx x0 harg1 k 27 (by decide) _ (k0_off28_eq k) _, rx x0 harg1 k 28 (by decide) _ (k0_off29_eq k) _, gx x1 harg2 27 (by decide) _ rfl _, gx x1 harg2 28 (by decide) _ rfl _]
  rfl

theorem r_66_eq : trip_k0_t1.sl.r_66 (F := F) arg1 arg2 (harg1.unread x0) (harg2.unread x1) k = tMx x0 x1 k.val 30 := by
  unfold trip_k0_t1.sl.r_66 trip_k0_t1.sl.r_65 trip_k0_t1.sl.v5
  rw [r_64_eq harg1 harg2 x0 x1 k, r_8_eq harg1 x0 k, rx x0 harg1 k 29 (by decide) _ (k0_off30_eq k) _, gx x1 harg2 29 (by decide) _ rfl _]
  rfl

theorem r_68_eq : trip_k0_t1.sl.r_68 (F := F) arg1 arg2 (harg1.unread x0) (harg2.unread x1) k = tMn x0 x1 k.val 31 := by
  unfold trip_k0_t1.sl.r_68 trip_k0_t1.sl.r_65 trip_k0_t1.sl.v5
  rw [r_63_eq harg1 harg2 x0 x1 k, r_8_eq harg1 x0 k, rx x0 harg1 k 29 (by decide) _ (k0_off30_eq k) _, rx x0 harg1 k 30 (by decide) _ (k0_off31_eq k) _, gx x1 harg2 29 (by decide) _ rfl _, gx x1 harg2 30 (by decide) _ rfl _]
  rfl

theorem r_69_eq : trip_k0_t1.sl.r_69 (F := F) arg1 arg2 (harg1.unread x0) (harg2.unread x1) k = tMn x0 x1 k.val 32 := by
  unfold trip_k0_t1.sl.r_69 trip_k0_t1.sl.v5
  rw [r_68_eq harg1 harg2 x0 x1 k, r_8_eq harg1 x0 k, rx x0 harg1 k 31 (by decide) _ (k0_off32_eq k) _, gx x1 harg2 31 (by decide) _ rfl _]
  rfl

theorem r_70_eq : trip_k0_t1.sl.r_70 (F := F) arg1 arg2 (harg1.unread x0) (harg2.unread x1) k = tMx x0 x1 k.val 32 := by
  unfold trip_k0_t1.sl.r_70 trip_k0_t1.sl.r_67 trip_k0_t1.sl.v5
  rw [r_66_eq harg1 harg2 x0 x1 k, r_8_eq harg1 x0 k, rx x0 harg1 k 30 (by decide) _ (k0_off31_eq k) _, rx x0 harg1 k 31 (by decide) _ (k0_off32_eq k) _, gx x1 harg2 30 (by decide) _ rfl _, gx x1 harg2 31 (by decide) _ rfl _]
  rfl

theorem r_72_eq : trip_k0_t1.sl.r_72 (F := F) arg1 arg2 (harg1.unread x0) (harg2.unread x1) k = tMn x0 x1 k.val 34 := by
  unfold trip_k0_t1.sl.r_72 trip_k0_t1.sl.r_71 trip_k0_t1.sl.v5
  rw [r_69_eq harg1 harg2 x0 x1 k, r_8_eq harg1 x0 k, rx x0 harg1 k 32 (by decide) _ (k0_off33_eq k) _, rx x0 harg1 k 33 (by decide) _ (k0_off34_eq k) _, gx x1 harg2 32 (by decide) _ rfl _, gx x1 harg2 33 (by decide) _ rfl _]
  rfl

theorem r_73_eq : trip_k0_t1.sl.r_73 (F := F) arg1 arg2 (harg1.unread x0) (harg2.unread x1) k = tMx x0 x1 k.val 34 := by
  unfold trip_k0_t1.sl.r_73 trip_k0_t1.sl.r_71 trip_k0_t1.sl.v5
  rw [r_70_eq harg1 harg2 x0 x1 k, r_8_eq harg1 x0 k, rx x0 harg1 k 32 (by decide) _ (k0_off33_eq k) _, rx x0 harg1 k 33 (by decide) _ (k0_off34_eq k) _, gx x1 harg2 32 (by decide) _ rfl _, gx x1 harg2 33 (by decide) _ rfl _]
  rfl

theorem r_75_eq : trip_k0_t1.sl.r_75 (F := F) arg1 arg2 (harg1.unread x0) (harg2.unread x1) k = tMn x0 x1 k.val 35 := by
  unfold trip_k0_t1.sl.r_75 trip_k0_t1.sl.r_74 trip_k0_t1.sl.v5
  rw [r_72_eq harg1 harg2 x0 x1 k, r_8_eq harg1 x0 k, rx x0 harg1 k 34 (by decide) _ (k0_off35_eq k) _, gx x1 harg2 34 (by decide) _ rfl _]
  rfl

theorem r_76_eq : trip_k0_t1.sl.r_76 (F := F) arg1 arg2 (harg1.unread x0) (harg2.unread x1) k = tMx x0 x1 k.val 35 := by
  unfold trip_k0_t1.sl.r_76 trip_k0_t1.sl.r_74 trip_k0_t1.sl.v5
  rw [r_73_eq harg1 harg2 x0 x1 k, r_8_eq harg1 x0 k, rx x0 harg1 k 34 (by decide) _ (k0_off35_eq k) _, gx x1 harg2 34 (by decide) _ rfl _]
  rfl

theorem r_79_eq : trip_k0_t1.sl.r_79 (F := F) arg1 arg2 (harg1.unread x0) (harg2.unread x1) k = tMn x0 x1 k.val 37 := by
  unfold trip_k0_t1.sl.r_79 trip_k0_t1.sl.r_78 trip_k0_t1.sl.v5
  rw [r_75_eq harg1 harg2 x0 x1 k, r_8_eq harg1 x0 k, rx x0 harg1 k 35 (by decide) _ (k0_off36_eq k) _, rx x0 harg1 k 36 (by decide) _ (k0_off37_eq k) _, gx x1 harg2 35 (by decide) _ rfl _, gx x1 harg2 36 (by decide) _ rfl _]
  rfl

theorem r_80_eq : trip_k0_t1.sl.r_80 (F := F) arg1 arg2 (harg1.unread x0) (harg2.unread x1) k = tMx x0 x1 k.val 37 := by
  unfold trip_k0_t1.sl.r_80 trip_k0_t1.sl.r_77 trip_k0_t1.sl.v5
  rw [r_76_eq harg1 harg2 x0 x1 k, r_8_eq harg1 x0 k, rx x0 harg1 k 35 (by decide) _ (k0_off36_eq k) _, rx x0 harg1 k 36 (by decide) _ (k0_off37_eq k) _, gx x1 harg2 35 (by decide) _ rfl _, gx x1 harg2 36 (by decide) _ rfl _]
  rfl

theorem r_82_eq : trip_k0_t1.sl.r_82 (F := F) arg1 arg2 (harg1.unread x0) (harg2.unread x1) k = tMx x0 x1 k.val 38 := by
  unfold trip_k0_t1.sl.r_82 trip_k0_t1.sl.r_81 trip_k0_t1.sl.v5
  rw [r_8_eq harg1 x0 k, r_80_eq harg1 harg2 x0 x1 k, rx x0 harg1 k 37 (by decide) _ (k0_off38_eq k) _, gx x1 harg2 37 (by decide) _ rfl _]
  rfl

theorem r_83_eq : trip_k0_t1.sl.r_83 (F := F) arg1 arg2 (harg1.unread x0) (harg2.unread x1) k = tMn x0 x1 k.val 39 := by
  unfold trip_k0_t1.sl.r_83 trip_k0_t1.sl.r_81 trip_k0_t1.sl.v5
  rw [r_79_eq harg1 harg2 x0 x1 k, r_8_eq harg1 x0 k, rx x0 harg1 k 37 (by decide) _ (k0_off38_eq k) _, rx x0 harg1 k 38 (by decide) _ (k0_off39_eq k) _, gx x1 harg2 37 (by decide) _ rfl _, gx x1 harg2 38 (by decide) _ rfl _]
  rfl

theorem r_85_eq : trip_k0_t1.sl.r_85 (F := F) arg1 arg2 (harg1.unread x0) (harg2.unread x1) k = tMn x0 x1 k.val 40 := by
  unfold trip_k0_t1.sl.r_85 trip_k0_t1.sl.v5
  rw [r_8_eq harg1 x0 k, r_83_eq harg1 harg2 x0 x1 k, rx x0 harg1 k 39 (by decide) _ (k0_off40_eq k) _, gx x1 harg2 39 (by decide) _ rfl _]
  rfl

theorem r_86_eq : trip_k0_t1.sl.r_86 (F := F) arg1 arg2 (harg1.unread x0) (harg2.unread x1) k = tMx x0 x1 k.val 40 := by
  unfold trip_k0_t1.sl.r_86 trip_k0_t1.sl.r_84 trip_k0_t1.sl.v5
  rw [r_8_eq harg1 x0 k, r_82_eq harg1 harg2 x0 x1 k, rx x0 harg1 k 38 (by decide) _ (k0_off39_eq k) _, rx x0 harg1 k 39 (by decide) _ (k0_off40_eq k) _, gx x1 harg2 38 (by decide) _ rfl _, gx x1 harg2 39 (by decide) _ rfl _]
  rfl

theorem r_88_eq : trip_k0_t1.sl.r_88 (F := F) arg1 arg2 (harg1.unread x0) (harg2.unread x1) k = tMn x0 x1 k.val 42 := by
  unfold trip_k0_t1.sl.r_88 trip_k0_t1.sl.r_87 trip_k0_t1.sl.v5
  rw [r_8_eq harg1 x0 k, r_85_eq harg1 harg2 x0 x1 k, rx x0 harg1 k 40 (by decide) _ (k0_off41_eq k) _, rx x0 harg1 k 41 (by decide) _ (k0_off42_eq k) _, gx x1 harg2 40 (by decide) _ rfl _, gx x1 harg2 41 (by decide) _ rfl _]
  rfl

theorem r_89_eq : trip_k0_t1.sl.r_89 (F := F) arg1 arg2 (harg1.unread x0) (harg2.unread x1) k = tMx x0 x1 k.val 42 := by
  unfold trip_k0_t1.sl.r_89 trip_k0_t1.sl.r_87 trip_k0_t1.sl.v5
  rw [r_8_eq harg1 x0 k, r_86_eq harg1 harg2 x0 x1 k, rx x0 harg1 k 40 (by decide) _ (k0_off41_eq k) _, rx x0 harg1 k 41 (by decide) _ (k0_off42_eq k) _, gx x1 harg2 40 (by decide) _ rfl _, gx x1 harg2 41 (by decide) _ rfl _]
  rfl

theorem r_91_eq : trip_k0_t1.sl.r_91 (F := F) arg1 arg2 (harg1.unread x0) (harg2.unread x1) k = tMx x0 x1 k.val 43 := by
  unfold trip_k0_t1.sl.r_91 trip_k0_t1.sl.r_90 trip_k0_t1.sl.v5
  rw [r_8_eq harg1 x0 k, r_89_eq harg1 harg2 x0 x1 k, rx x0 harg1 k 42 (by decide) _ (k0_off43_eq k) _, gx x1 harg2 42 (by decide) _ rfl _]
  rfl

theorem r_93_eq : trip_k0_t1.sl.r_93 (F := F) arg1 arg2 (harg1.unread x0) (harg2.unread x1) k = tMn x0 x1 k.val 44 := by
  unfold trip_k0_t1.sl.r_93 trip_k0_t1.sl.r_90 trip_k0_t1.sl.v5
  rw [r_8_eq harg1 x0 k, r_88_eq harg1 harg2 x0 x1 k, rx x0 harg1 k 42 (by decide) _ (k0_off43_eq k) _, rx x0 harg1 k 43 (by decide) _ (k0_off44_eq k) _, gx x1 harg2 42 (by decide) _ rfl _, gx x1 harg2 43 (by decide) _ rfl _]
  rfl

theorem r_94_eq : trip_k0_t1.sl.r_94 (F := F) arg1 arg2 (harg1.unread x0) (harg2.unread x1) k = tMn x0 x1 k.val 45 := by
  unfold trip_k0_t1.sl.r_94 trip_k0_t1.sl.v5
  rw [r_8_eq harg1 x0 k, r_93_eq harg1 harg2 x0 x1 k, rx x0 harg1 k 44 (by decide) _ (k0_off45_eq k) _, gx x1 harg2 44 (by decide) _ rfl _]
  rfl

theorem r_95_eq : trip_k0_t1.sl.r_95 (F := F) arg1 arg2 (harg1.unread x0) (harg2.unread x1) k = tMx x0 x1 k.val 45 := by
  unfold trip_k0_t1.sl.r_95 trip_k0_t1.sl.r_92 trip_k0_t1.sl.v5
  rw [r_8_eq harg1 x0 k, r_91_eq harg1 harg2 x0 x1 k, rx x0 harg1 k 43 (by decide) _ (k0_off44_eq k) _, rx x0 harg1 k 44 (by decide) _ (k0_off45_eq k) _, gx x1 harg2 43 (by decide) _ rfl _, gx x1 harg2 44 (by decide) _ rfl _]
  rfl

theorem r_97_eq : trip_k0_t1.sl.r_97 (F := F) arg1 arg2 (harg1.unread x0) (harg2.unread x1) k = tMn x0 x1 k.val 47 := by
  unfold trip_k0_t1.sl.r_97 trip_k0_t1.sl.r_96 trip_k0_t1.sl.v5
  rw [r_8_eq harg1 x0 k, r_94_eq harg1 harg2 x0 x1 k, rx x0 harg1 k 45 (by decide) _ (k0_off46_eq k) _, rx x0 harg1 k 46 (by decide) _ (k0_off47_eq k) _, gx x1 harg2 45 (by decide) _ rfl _, gx x1 harg2 46 (by decide) _ rfl _]
  rfl

theorem r_98_eq : trip_k0_t1.sl.r_98 (F := F) arg1 arg2 (harg1.unread x0) (harg2.unread x1) k = tMx x0 x1 k.val 47 := by
  unfold trip_k0_t1.sl.r_98 trip_k0_t1.sl.r_96 trip_k0_t1.sl.v5
  rw [r_8_eq harg1 x0 k, r_95_eq harg1 harg2 x0 x1 k, rx x0 harg1 k 45 (by decide) _ (k0_off46_eq k) _, rx x0 harg1 k 46 (by decide) _ (k0_off47_eq k) _, gx x1 harg2 45 (by decide) _ rfl _, gx x1 harg2 46 (by decide) _ rfl _]
  rfl

theorem r_100_eq : trip_k0_t1.sl.r_100 (F := F) arg1 arg2 (harg1.unread x0) (harg2.unread x1) k = tSc x0 x1 k.val := by
  unfold trip_k0_t1.sl.r_100 trip_k0_t1.sl.r_99 trip_k0_t1.sl.v5
  rw [r_8_eq harg1 x0 k, r_97_eq harg1 harg2 x0 x1 k, r_98_eq harg1 harg2 x0 x1 k, rx x0 harg1 k 47 (by decide) _ (k0_off48_eq k) _, gx x1 harg2 47 (by decide) _ rfl _]
  rfl

theorem r_101_eq : trip_k0_t1.sl.r_101 (F := F) arg1 arg2 (harg1.unread x0) (harg2.unread x1) k = tZp x0 x1 k.val := by
  unfold trip_k0_t1.sl.r_101 trip_k0_t1.sl.r_99 trip_k0_t1.sl.v5
  rw [r_8_eq harg1 x0 k, r_97_eq harg1 harg2 x0 x1 k, r_98_eq harg1 harg2 x0 x1 k, rx x0 harg1 k 47 (by decide) _ (k0_off48_eq k) _, gx x1 harg2 47 (by decide) _ rfl _]
  rfl

theorem r_102_eq : trip_k0_t1.sl.r_102 (F := F) arg1 arg2 (harg1.unread x0) (harg2.unread x1) k = trunci 8 (fptosi 32 (tZp x0 x1 k.val)) natLt_8_32 := by
  unfold trip_k0_t1.sl.r_102 trip_k0_t1.sl.r_99 trip_k0_t1.sl.v5
  rw [r_8_eq harg1 x0 k, r_97_eq harg1 harg2 x0 x1 k, r_98_eq harg1 harg2 x0 x1 k, rx x0 harg1 k 47 (by decide) _ (k0_off48_eq k) _, gx x1 harg2 47 (by decide) _ rfl _]
  rfl

end

end Cert.KernelIdeal.Q
end
-- ==== Proof.QRead.lean ====
module

public import proofs.«01_k».proof.Proof.QChain

/-! The first pass over a slab stores the 48 normalised groups; the second reads them back. -/

@[expose] public section

set_option maxRecDepth 4000
set_option maxHeartbeats 2000000

noncomputable section

namespace Cert.KernelIdeal.Q

open Idealize.ShloMosaic Idealize.ShloMosaic.ValueIdx Cert.KernelIdeal.Gen

variable {F : FTy → Type} [FloatOps F]

section
variable {arg1 : Memref sig .tc .vmem S128x6144 .bf16} (harg1 : arg1.IsWhole) {arg2 : Memref sig .tc .vmem S1x6144 .f32} (harg2 : arg2.IsWhole) (arg3 : Memref sig .tc .vmem S128x6144 .bf16)
  (x0 : Vec F S128x6144 .bf16) (x1 : Vec F S1x6144 .f32) (k : Fin k0_t1_loop.trips)

/-- Every piece of a list of stores is the part of `G` its rectangle names. -/
def Agree {s : Shape} {e : EltTy} (L : List (View.Piece (Elt F) s e)) (G : s.Idx → Elt F e) : Prop :=
  ∀ p ∈ L, ∀ z : p.1.shape.Idx, p.2 z = G (p.1.emb z)

omit [FloatOps F] in
theorem Agree.nil {s : Shape} {e : EltTy} (G : s.Idx → Elt F e) : Agree (F := F) [] G := fun p hp => absurd hp List.not_mem_nil

omit [FloatOps F] in
theorem Agree.cons {s : Shape} {e : EltTy} {G : s.Idx → Elt F e} {L : List (View.Piece (Elt F) s e)} {p : View.Piece (Elt F) s e}
    (hp : ∀ z : p.1.shape.Idx, p.2 z = G (p.1.emb z)) (hL : Agree L G) : Agree (p :: L) G :=
  List.forall_mem_cons.2 ⟨hp, hL⟩

omit [FloatOps F] in
theorem Agree.append {s : Shape} {e : EltTy} {G : s.Idx → Elt F e} {L L' : List (View.Piece (Elt F) s e)}
    (hL : Agree L G) (hL' : Agree L' G) : Agree (L ++ L') G := fun p hp => (List.mem_append.1 hp).elim (hL p) (hL' p)

theorem inbT (k : Fin k0_t1_loop.trips) (g n : ℕ) (hg : 128 * g + 128 ≤ n) {off : Fin 2 → ℕ} (hoff : off = ![32 * k.val, 128 * g]) (a : Fin 2) :
    off a + S32x128.size a ≤ (⟨2, ![128, n]⟩ : Shape).size a := by
  subst hoff
  have hk : k.val < 4 := lt_of_lt_of_eq k.isLt (by decide)
  match a with
  | ⟨0, _⟩ => show 32 * k.val + 32 ≤ 128; omega
  | ⟨1, _⟩ => exact hg

omit [FloatOps F] in
theorem ag {α : Type} (n : ℕ) (T : ℕ → ℕ → S32x128.Idx → α) (k g : ℕ) (off : Fin 2 → ℕ) (hoff : off = ![32 * k, 128 * g])
    (hb : ∀ a, off a + S32x128.size a ≤ (⟨2, ![128, n]⟩ : Shape).size a) (w : S32x128.Idx → α) (h : w = T k g) (z : S32x128.Idx) :
    w z = tiled T ((Rect.unit (s := ⟨2, ![128, n]⟩) off S32x128.size hb).emb z) := by
  subst h; exact (tiled_emb T k g off hoff hb z).symm

/-- Reading back a tile out of stores that agree with a tiling. -/
theorem rcov (v : View sig .tc .vmem S128x6144 .bf16) (L : List (View.Piece (Elt F) S128x6144 .bf16)) (T : ℕ → ℕ → S32x128.Idx → Elt F .bf16)
    (hL : Agree L (tiled T)) (k g : ℕ) (off : Fin 2 → ℕ) (hoff : off = ![32 * k, 128 * g])
    (hb : ∀ a, off a + S32x128.size a ≤ S128x6144.size a) (j : ℕ) (hj : (L.map Sigma.fst)[j]? = some (Rect.unit (s := S128x6144) off S32x128.size hb)) :
    v.readCov L (Rect.unit (s := S128x6144) off S32x128.size hb).toLoadRect = T k g := by
  rw [View.readCov_eq_canon']
  funext z
  obtain ⟨p, hp, hpr⟩ := List.mem_map.1 (List.mem_of_getElem? hj)
  refine (View.canon_apply_of_pieces (tiled T) L hL ((Rect.unit (s := S128x6144) off S32x128.size hb).emb z) ⟨p, hp, ?_⟩).trans
    (tiled_emb T k g off hoff hb z)
  rw [hpr, ← Rect.map_emb_univ]
  exact Finset.mem_map_of_mem _ (Finset.mem_univ z)

include harg1 harg2 in
theorem HW_agree : Agree (trip_k0_t1.sl.HW_arg3_48 (F := F) arg1 arg2 (harg1.unread x0) (harg2.unread x1) k) (tiled (tXn x0 x1)) := by
  unfold trip_k0_t1.sl.HW_arg3_48
  refine Agree.cons ?_ ?_
  · refine ag 6144 (tXn x0 x1) k.val 47 _ (k0_off48_eq k) (inbT k 47 6144 (by decide) (k0_off48_eq k)) _ ?_
    unfold trip_k0_t1.sl.r_99; rw [r_8_eq harg1 x0 k, rx x0 harg1 k 47 (by decide) _ (k0_off48_eq k) _, gx x1 harg2 47 (by decide) _ rfl _]; rfl
  refine Agree.cons ?_ ?_
  · refine ag 6144 (tXn x0 x1) k.val 46 _ (k0_off47_eq k) (inbT k 46 6144 (by decide) (k0_off47_eq k)) _ ?_
    rw [r_8_eq harg1 x0 k, rx x0 harg1 k 46 (by decide) _ (k0_off47_eq k) _, gx x1 harg2 46 (by decide) _ rfl _]; rfl
  refine Agree.cons ?_ ?_
  · refine ag 6144 (tXn x0 x1) k.val 45 _ (k0_off46_eq k) (inbT k 45 6144 (by decide) (k0_off46_eq k)) _ ?_
    unfold trip_k0_t1.sl.r_96; rw [r_8_eq harg1 x0 k, rx x0 harg1 k 45 (by decide) _ (k0_off46_eq k) _, gx x1 harg2 45 (by decide) _ rfl _]; rfl
  refine Agree.cons ?_ ?_
  · refine ag 6144 (tXn x0 x1) k.val 44 _ (k0_off45_eq k) (inbT k 44 6144 (by decide) (k0_off45_eq k)) _ ?_
    rw [r_8_eq harg1 x0 k, rx x0 harg1 k 44 (by decide) _ (k0_off45_eq k) _, gx x1 harg2 44 (by decide) _ rfl _]; rfl
  refine Agree.cons ?_ ?_
  · refine ag 6144 (tXn x0 x1) k.val 43 _ (k0_off44_eq k) (inbT k 43 6144 (by decide) (k0_off44_eq k)) _ ?_
    rw [r_8_eq harg1 x0 k, rx x0 harg1 k 43 (by decide) _ (k0_off44_eq k) _, gx x1 harg2 43 (by decide) _ rfl _]; rfl
  refine Agree.cons ?_ ?_
  · refine ag 6144 (tXn x0 x1) k.val 42 _ (k0_off43_eq k) (inbT k 42 6144 (by decide) (k0_off43_eq k)) _ ?_
    unfold trip_k0_t1.sl.r_90; rw [r_8_eq harg1 x0 k, rx x0 harg1 k 42 (by decide) _ (k0_off43_eq k) _, gx x1 harg2 42 (by decide) _ rfl _]; rfl
  refine Agree.cons ?_ ?_
  · refine ag 6144 (tXn x0 x1) k.val 41 _ (k0_off42_eq k) (inbT k 41 6144 (by decide) (k0_off42_eq k)) _ ?_
    rw [r_8_eq harg1 x0 k, rx x0 harg1 k 41 (by decide) _ (k0_off42_eq k) _, gx x1 harg2 41 (by decide) _ rfl _]; rfl
  refine Agree.cons ?_ ?_
  · refine ag 6144 (tXn x0 x1) k.val 40 _ (k0_off41_eq k) (inbT k 40 6144 (by decide) (k0_off41_eq k)) _ ?_
    rw [r_8_eq harg1 x0 k, rx x0 harg1 k 40 (by decide) _ (k0_off41_eq k) _, gx x1 harg2 40 (by decide) _ rfl _]; rfl
  refine Agree.cons ?_ ?_
  · refine ag 6144 (tXn x0 x1) k.val 39 _ (k0_off40_eq k) (inbT k 39 6144 (by decide) (k0_off40_eq k)) _ ?_
    rw [r_8_eq harg1 x0 k, rx x0 harg1 k 39 (by decide) _ (k0_off40_eq k) _, gx x1 harg2 39 (by decide) _ rfl _]; rfl
  refine Agree.cons ?_ ?_
  · refine ag 6144 (tXn x0 x1) k.val 38 _ (k0_off39_eq k) (inbT k 38 6144 (by decide) (k0_off39_eq k)) _ ?_
    rw [r_8_eq harg1 x0 k, rx x0 harg1 k 38 (by decide) _ (k0_off39_eq k) _, gx x1 harg2 38 (by decide) _ rfl _]; rfl
  refine Agree.cons ?_ ?_
  · refine ag 6144 (tXn x0 x1) k.val 37 _ (k0_off38_eq k) (inbT k 37 6144 (by decide) (k0_off38_eq k)) _ ?_
    unfold trip_k0_t1.sl.r_81; rw [r_8_eq harg1 x0 k, rx x0 harg1 k 37 (by decide) _ (k0_off38_eq k) _, gx x1 harg2 37 (by decide) _ rfl _]; rfl
  refine Agree.cons ?_ ?_
  · refine ag 6144 (tXn x0 x1) k.val 36 _ (k0_off37_eq k) (inbT k 36 6144 (by decide) (k0_off37_eq k)) _ ?_
    rw [r_8_eq harg1 x0 k, rx x0 harg1 k 36 (by decide) _ (k0_off37_eq k) _, gx x1 harg2 36 (by decide) _ rfl _]; rfl
  refine Agree.cons ?_ ?_
  · refine ag 6144 (tXn x0 x1) k.val 35 _ (k0_off36_eq k) (inbT k 35 6144 (by decide) (k0_off36_eq k)) _ ?_
    rw [r_8_eq harg1 x0 k, rx x0 harg1 k 35 (by decide) _ (k0_off36_eq k) _, gx x1 harg2 35 (by decide) _ rfl _]; rfl
  refine Agree.cons ?_ ?_
  · refine ag 6144 (tXn x0 x1) k.val 34 _ (k0_off35_eq k) (inbT k 34 6144 (by decide) (k0_off35_eq k)) _ ?_
    unfold trip_k0_t1.sl.r_74; rw [r_8_eq harg1 x0 k, rx x0 harg1 k 34 (by decide) _ (k0_off35_eq k) _, gx x1 harg2 34 (by decide) _ rfl _]; rfl
  refine Agree.cons ?_ ?_
  · refine ag 6144 (tXn x0 x1) k.val 33 _ (k0_off34_eq k) (inbT k 33 6144 (by decide) (k0_off34_eq k)) _ ?_
    rw [r_8_eq harg1 x0 k, rx x0 harg1 k 33 (by decide) _ (k0_off34_eq k) _, gx x1 harg2 33 (by decide) _ rfl _]; rfl
  refine Agree.cons ?_ ?_
  · refine ag 6144 (tXn x0 x1) k.val 32 _ (k0_off33_eq k) (inbT k 32 6144 (by decide) (k0_off33_eq k)) _ ?_
    rw [r_8_eq harg1 x0 k, rx x0 harg1 k 32 (by decide) _ (k0_off33_eq k) _, gx x1 harg2 32 (by decide) _ rfl _]; rfl
  refine Agree.cons ?_ ?_
  · refine ag 6144 (tXn x0 x1) k.val 31 _ (k0_off32_eq k) (inbT k 31 6144 (by decide) (k0_off32_eq k)) _ ?_
    rw [r_8_eq harg1 x0 k, rx x0 harg1 k 31 (by decide) _ (k0_off32_eq k) _, gx x1 harg2 31 (by decide) _ rfl _]; rfl
  refine Agree.cons ?_ ?_
  · refine ag 6144 (tXn x0 x1) k.val 30 _ (k0_off31_eq k) (inbT k 30 6144 (by decide) (k0_off31_eq k)) _ ?_
    rw [r_8_eq harg1 x0 k, rx x0 harg1 k 30 (by decide) _ (k0_off31_eq k) _, gx x1 harg2 30 (by decide) _ rfl _]; rfl
  refine Agree.cons ?_ ?_
  · refine ag 6144 (tXn x0 x1) k.val 29 _ (k0_off30_eq k) (inbT k 29 6144 (by decide) (k0_off30_eq k)) _ ?_
    unfold trip_k0_t1.sl.r_65; rw [r_8_eq harg1 x0 k, rx x0 harg1 k 29 (by decide) _ (k0_off30_eq k) _, gx x1 harg2 29 (by decide) _ rfl _]; rfl
  refine Agree.cons ?_ ?_
  · refine ag 6144 (tXn x0 x1) k.val 28 _ (k0_off29_eq k) (inbT k 28 6144 (by decide) (k0_off29_eq k)) _ ?_
    rw [r_8_eq harg1 x0 k, rx x0 harg1 k 28 (by decide) _ (k0_off29_eq k) _, gx x1 harg2 28 (by decide) _ rfl _]; rfl
  refine Agree.cons ?_ ?_
  · refine ag 6144 (tXn x0 x1) k.val 27 _ (k0_off28_eq k) (inbT k 27 6144 (by decide) (k0_off28_eq k)) _ ?_
    rw [r_8_eq harg1 x0 k, rx x0 harg1 k 27 (by decide) _ (k0_off28_eq k) _, gx x1 harg2 27 (by decide) _ rfl _]; rfl
  refine Agree.cons ?_ ?_
  · refine ag 6144 (tXn x0 x1) k.val 26 _ (k0_off27_eq k) (inbT k 26 6144 (by decide) (k0_off27_eq k)) _ ?_
    rw [r_8_eq harg1 x0 k, rx x0 harg1 k 26 (by decide) _ (k0_off27_eq k) _, gx x1 harg2 26 (by decide) _ rfl _]; rfl
  refine Agree.cons ?_ ?_
  · refine ag 6144 (tXn x0 x1) k.val 25 _ (k0_off26_eq k) (inbT k 25 6144 (by decide) (k0_off26_eq k)) _ ?_
    rw [r_8_eq harg1 x0 k, rx x0 harg1 k 25 (by decide) _ (k0_off26_eq k) _, gx x1 harg2 25 (by decide) _ rfl _]; rfl
  refine Agree.cons ?_ ?_
  · refine ag 6144 (tXn x0 x1) k.val 24 _ (k0_off25_eq k) (inbT k 24 6144 (by decide) (k0_off25_eq k)) _ ?_
    unfold trip_k0_t1.sl.r_57; rw [r_8_eq harg1 x0 k, rx x0 harg1 k 24 (by decide) _ (k0_off25_eq k) _, gx x1 harg2 24 (by decide) _ rfl _]; rfl
  refine Agree.cons ?_ ?_
  · refine ag 6144 (tXn x0 x1) k.val 23 _ (k0_off24_eq k) (inbT k 23 6144 (by decide) (k0_off24_eq k)) _ ?_
    rw [r_8_eq harg1 x0 k, rx x0 harg1 k 23 (by decide) _ (k0_off24_eq k) _, gx x1 harg2 23 (by decide) _ rfl _]; rfl
  refine Agree.cons ?_ ?_
  · refine ag 6144 (tXn x0 x1) k.val 22 _ (k0_off23_eq k) (inbT k 22 6144 (by decide) (k0_off23_eq k)) _ ?_
    rw [r_8_eq harg1 x0 k, rx x0 harg1 k 22 (by decide) _ (k0_off23_eq k) _, gx x1 harg2 22 (by decide) _ rfl _]; rfl
  refine Agree.cons ?_ ?_
  · refine ag 6144 (tXn x0 x1) k.val 21 _ (k0_off22_eq k) (inbT k 21 6144 (by decide) (k0_off22_eq k)) _ ?_
    unfold trip_k0_t1.sl.r_51; rw [r_8_eq harg1 x0 k, rx x0 harg1 k 21 (by decide) _ (k0_off22_eq k) _, gx x1 harg2 21 (by decide) _ rfl _]; rfl
  refine Agree.cons ?_ ?_
  · refine ag 6144 (tXn x0 x1) k.val 20 _ (k0_off21_eq k) (inbT k 20 6144 (by decide) (k0_off21_eq k)) _ ?_
    rw [r_8_eq harg1 x0 k, rx x0 harg1 k 20 (by decide) _ (k0_off21_eq k) _, gx x1 harg2 20 (by decide) _ rfl _]; rfl
  refine Agree.cons ?_ ?_
  · refine ag 6144 (tXn x0 x1) k.val 19 _ (k0_off20_eq k) (inbT k 19 6144 (by decide) (k0_off20_eq k)) _ ?_
    rw [r_8_eq harg1 x0 k, rx x0 harg1 k 19 (by decide) _ (k0_off20_eq k) _, gx x1 harg2 19 (by decide) _ rfl _]; rfl
  refine Agree.cons ?_ ?_
  · refine ag 6144 (tXn x0 x1) k.val 18 _ (k0_off19_eq k) (inbT k 18 6144 (by decide) (k0_off19_eq k)) _ ?_
    rw [r_8_eq harg1 x0 k, rx x0 harg1 k 18 (by decide) _ (k0_off19_eq k) _, gx x1 harg2 18 (by decide) _ rfl _]; rfl
  refine Agree.cons ?_ ?_
  · refine ag 6144 (tXn x0 x1) k.val 17 _ (k0_off18_eq k) (inbT k 17 6144 (by decide) (k0_off18_eq k)) _ ?_
    rw [r_8_eq harg1 x0 k, rx x0 harg1 k 17 (by decide) _ (k0_off18_eq k) _, gx x1 harg2 17 (by decide) _ rfl _]; rfl
  refine Agree.cons ?_ ?_
  · refine ag 6144 (tXn x0 x1) k.val 16 _ (k0_off17_eq k) (inbT k 16 6144 (by decide) (k0_off17_eq k)) _ ?_
    unfold trip_k0_t1.sl.r_42 trip_k0_t1.sl.r_41; rw [r_8_eq harg1 x0 k, rx x0 harg1 k 16 (by decide) _ (k0_off17_eq k) _, gx x1 harg2 16 (by decide) _ rfl _]; rfl
  refine Agree.cons ?_ ?_
  · refine ag 6144 (tXn x0 x1) k.val 15 _ (k0_off16_eq k) (inbT k 15 6144 (by decide) (k0_off16_eq k)) _ ?_
    rw [r_8_eq harg1 x0 k, rx x0 harg1 k 15 (by decide) _ (k0_off16_eq k) _, gx x1 harg2 15 (by decide) _ rfl _]; rfl
  refine Agree.cons ?_ ?_
  · refine ag 6144 (tXn x0 x1) k.val 14 _ (k0_off15_eq k) (inbT k 14 6144 (by decide) (k0_off15_eq k)) _ ?_
    rw [r_8_eq harg1 x0 k, rx x0 harg1 k 14 (by decide) _ (k0_off15_eq k) _, gx x1 harg2 14 (by decide) _ rfl _]; rfl
  refine Agree.cons ?_ ?_
  · refine ag 6144 (tXn x0 x1) k.val 13 _ (k0_off14_eq k) (inbT k 13 6144 (by decide) (k0_off14_eq k)) _ ?_
    rw [r_8_eq harg1 x0 k, rx x0 harg1 k 13 (by decide) _ (k0_off14_eq k) _, gx x1 harg2 13 (by decide) _ rfl _]; rfl
  refine Agree.cons ?_ ?_
  · refine ag 6144 (tXn x0 x1) k.val 12 _ (k0_off13_eq k) (inbT k 12 6144 (by decide) (k0_off13_eq k)) _ ?_
    rw [r_8_eq harg1 x0 k, rx x0 harg1 k 12 (by decide) _ (k0_off13_eq k) _, gx x1 harg2 12 (by decide) _ rfl _]; rfl
  refine Agree.cons ?_ ?_
  · refine ag 6144 (tXn x0 x1) k.val 11 _ (k0_off12_eq k) (inbT k 11 6144 (by decide) (k0_off12_eq k)) _ ?_
    unfold trip_k0_t1.sl.r_32; rw [r_8_eq harg1 x0 k, rx x0 harg1 k 11 (by decide) _ (k0_off12_eq k) _, gx x1 harg2 11 (by decide) _ rfl _]; rfl
  refine Agree.cons ?_ ?_
  · refine ag 6144 (tXn x0 x1) k.val 10 _ (k0_off11_eq k) (inbT k 10 6144 (by decide) (k0_off11_eq k)) _ ?_
    rw [r_8_eq harg1 x0 k, rx x0 harg1 k 10 (by decide) _ (k0_off11_eq k) _, gx x1 harg2 10 (by decide) _ rfl _]; rfl
  refine Agree.cons ?_ ?_
  · refine ag 6144 (tXn x0 x1) k.val 9 _ (k0_off10_eq k) (inbT k 9 6144 (by decide) (k0_off10_eq k)) _ ?_
    rw [r_8_eq harg1 x0 k, rx x0 harg1 k 9 (by decide) _ (k0_off10_eq k) _, gx x1 harg2 9 (by decide) _ rfl _]; rfl
  refine Agree.cons ?_ ?_
  · refine ag 6144 (tXn x0 x1) k.val 8 _ (k0_off9_eq k) (inbT k 8 6144 (by decide) (k0_off9_eq k)) _ ?_
    unfold trip_k0_t1.sl.r_26 trip_k0_t1.sl.r_25; rw [r_8_eq harg1 x0 k, rx x0 harg1 k 8 (by decide) _ (k0_off9_eq k) _, gx x1 harg2 8 (by decide) _ rfl _]; rfl
  refine Agree.cons ?_ ?_
  · refine ag 6144 (tXn x0 x1) k.val 7 _ (k0_off8_eq k) (inbT k 7 6144 (by decide) (k0_off8_eq k)) _ ?_
    rw [r_8_eq harg1 x0 k, rx x0 harg1 k 7 (by decide) _ (k0_off8_eq k) _, gx x1 harg2 7 (by decide) _ rfl _]; rfl
  refine Agree.cons ?_ ?_
  · refine ag 6144 (tXn x0 x1) k.val 6 _ (k0_off7_eq k) (inbT k 6 6144 (by decide) (k0_off7_eq k)) _ ?_
    rw [r_8_eq harg1 x0 k, rx x0 harg1 k 6 (by decide) _ (k0_off7_eq k) _, gx x1 harg2 6 (by decide) _ rfl _]; rfl
  refine Agree.cons ?_ ?_
  · refine ag 6144 (tXn x0 x1) k.val 5 _ (k0_off6_eq k) (inbT k 5 6144 (by decide) (k0_off6_eq k)) _ ?_
    rw [r_8_eq harg1 x0 k, rx x0 harg1 k 5 (by decide) _ (k0_off6_eq k) _, gx x1 harg2 5 (by decide) _ rfl _]; rfl
  refine Agree.cons ?_ ?_
  · refine ag 6144 (tXn x0 x1) k.val 4 _ (k0_off5_eq k) (inbT k 4 6144 (by decide) (k0_off5_eq k)) _ ?_
    rw [r_8_eq harg1 x0 k, rx x0 harg1 k 4 (by decide) _ (k0_off5_eq k) _, gx x1 harg2 4 (by decide) _ rfl _]; rfl
  refine Agree.cons ?_ ?_
  · refine ag 6144 (tXn x0 x1) k.val 3 _ (k0_off4_eq k) (inbT k 3 6144 (by decide) (k0_off4_eq k)) _ ?_
    unfold trip_k0_t1.sl.r_16 trip_k0_t1.sl.r_15; rw [r_8_eq harg1 x0 k, rx x0 harg1 k 3 (by decide) _ (k0_off4_eq k) _, gx x1 harg2 3 (by decide) _ rfl _]; rfl
  refine Agree.cons ?_ ?_
  · refine ag 6144 (tXn x0 x1) k.val 2 _ (k0_off3_eq k) (inbT k 2 6144 (by decide) (k0_off3_eq k)) _ ?_
    rw [r_8_eq harg1 x0 k, rx x0 harg1 k 2 (by decide) _ (k0_off3_eq k) _, gx x1 harg2 2 (by decide) _ rfl _]; rfl
  refine Agree.cons ?_ ?_
  · refine ag 6144 (tXn x0 x1) k.val 1 _ (k0_off2_eq k) (inbT k 1 6144 (by decide) (k0_off2_eq k)) _ ?_
    rw [r_8_eq harg1 x0 k, rx x0 harg1 k 1 (by decide) _ (k0_off2_eq k) _, gx x1 harg2 1 (by decide) _ rfl _]; rfl
  refine Agree.cons ?_ ?_
  · refine ag 6144 (tXn x0 x1) k.val 0 _ (k0_off1_eq k) (inbT k 0 6144 (by decide) (k0_off1_eq k)) _ ?_
    rw [r_8_eq harg1 x0 k, rx x0 harg1 k 0 (by decide) _ (k0_off1_eq k) _, gx x1 harg2 0 (by decide) _ rfl _]; rfl
  exact Agree.nil _

theorem v1691_eq : trip_k0_t1.sl.v1691 (F := F) arg1 arg2 arg3 (harg1.unread x0) (harg2.unread x1) k = tXn x0 x1 k.val 0 := by
  unfold trip_k0_t1.sl.v1691
  exact rcov _ _ _ (HW_agree harg1 harg2 x0 x1 k) k.val 0 _ (k0_off1_eq k) _ 47 rfl

theorem v1729_eq : trip_k0_t1.sl.v1729 (F := F) arg1 arg2 arg3 (harg1.unread x0) (harg2.unread x1) k = tXn x0 x1 k.val 1 := by
  unfold trip_k0_t1.sl.v1729
  exact rcov _ _ _ (HW_agree harg1 harg2 x0 x1 k) k.val 1 _ (k0_off2_eq k) _ 46 rfl

theorem v1771_eq : trip_k0_t1.sl.v1771 (F := F) arg1 arg2 arg3 (harg1.unread x0) (harg2.unread x1) k = tXn x0 x1 k.val 2 := by
  unfold trip_k0_t1.sl.v1771
  exact rcov _ _ _ (HW_agree harg1 harg2 x0 x1 k) k.val 2 _ (k0_off3_eq k) _ 45 rfl

theorem v1809_eq : trip_k0_t1.sl.v1809 (F := F) arg1 arg2 arg3 (harg1.unread x0) (harg2.unread x1) k = tXn x0 x1 k.val 3 := by
  unfold trip_k0_t1.sl.v1809
  exact rcov _ _ _ (HW_agree harg1 harg2 x0 x1 k) k.val 3 _ (k0_off4_eq k) _ 44 rfl

theorem v1851_eq : trip_k0_t1.sl.v1851 (F := F) arg1 arg2 arg3 (harg1.unread x0) (harg2.unread x1) k = tXn x0 x1 k.val 4 := by
  unfold trip_k0_t1.sl.v1851
  exact rcov _ _ _ (HW_agree harg1 harg2 x0 x1 k) k.val 4 _ (k0_off5_eq k) _ 43 rfl

theorem v1889_eq : trip_k0_t1.sl.v1889 (F := F) arg1 arg2 arg3 (harg1.unread x0) (harg2.unread x1) k = tXn x0 x1 k.val 5 := by
  unfold trip_k0_t1.sl.v1889
  exact rcov _ _ _ (HW_agree harg1 harg2 x0 x1 k) k.val 5 _ (k0_off6_eq k) _ 42 rfl

theorem v1931_eq : trip_k0_t1.sl.v1931 (F := F) arg1 arg2 arg3 (harg1.unread x0) (harg2.unread x1) k = tXn x0 x1 k.val 6 := by
  unfold trip_k0_t1.sl.v1931
  exact rcov _ _ _ (HW_agree harg1 harg2 x0 x1 k) k.val 6 _ (k0_off7_eq k) _ 41 rfl

theorem v1969_eq : trip_k0_t1.sl.v1969 (F := F) arg1 arg2 arg3 (harg1.unread x0) (harg2.unread x1) k = tXn x0 x1 k.val 7 := by
  unfold trip_k0_t1.sl.v1969
  exact rcov _ _ _ (HW_agree harg1 harg2 x0 x1 k) k.val 7 _ (k0_off8_eq k) _ 40 rfl

theorem v2011_eq : trip_k0_t1.sl.v2011 (F := F) arg1 arg2 arg3 (harg1.unread x0) (harg2.unread x1) k = tXn x0 x1 k.val 8 := by
  unfold trip_k0_t1.sl.v2011
  exact rcov _ _ _ (HW_agree harg1 harg2 x0 x1 k) k.val 8 _ (k0_off9_eq k) _ 39 rfl

theorem v2049_eq : trip_k0_t1.sl.v2049 (F := F) arg1 arg2 arg3 (harg1.unread x0) (harg2.unread x1) k = tXn x0 x1 k.val 9 := by
  unfold trip_k0_t1.sl.v2049
  exact rcov _ _ _ (HW_agree harg1 harg2 x0 x1 k) k.val 9 _ (k0_off10_eq k) _ 38 rfl

theorem v2091_eq : trip_k0_t1.sl.v2091 (F := F) arg1 arg2 arg3 (harg1.unread x0) (harg2.unread x1) k = tXn x0 x1 k.val 10 := by
  unfold trip_k0_t1.sl.v2091
  exact rcov _ _ _ (HW_agree harg1 harg2 x0 x1 k) k.val 10 _ (k0_off11_eq k) _ 37 rfl

theorem v2129_eq : trip_k0_t1.sl.v2129 (F := F) arg1 arg2 arg3 (harg1.unread x0) (harg2.unread x1) k = tXn x0 x1 k.val 11 := by
  unfold trip_k0_t1.sl.v2129
  exact rcov _ _ _ (HW_agree harg1 harg2 x0 x1 k) k.val 11 _ (k0_off12_eq k) _ 36 rfl

theorem v2171_eq : trip_k0_t1.sl.v2171 (F := F) arg1 arg2 arg3 (harg1.unread x0) (harg2.unread x1) k = tXn x0 x1 k.val 12 := by
  unfold trip_k0_t1.sl.v2171
  exact rcov _ _ _ (HW_agree harg1 harg2 x0 x1 k) k.val 12 _ (k0_off13_eq k) _ 35 rfl

theorem v2209_eq : trip_k0_t1.sl.v2209 (F := F) arg1 arg2 arg3 (harg1.unread x0) (harg2.unread x1) k = tXn x0 x1 k.val 13 := by
  unfold trip_k0_t1.sl.v2209
  exact rcov _ _ _ (HW_agree harg1 harg2 x0 x1 k) k.val 13 _ (k0_off14_eq k) _ 34 rfl

theorem v2251_eq : trip_k0_t1.sl.v2251 (F := F) arg1 arg2 arg3 (harg1.unread x0) (harg2.unread x1) k = tXn x0 x1 k.val 14 := by
  unfold trip_k0_t1.sl.v2251
  exact rcov _ _ _ (HW_agree harg1 harg2 x0 x1 k) k.val 14 _ (k0_off15_eq k) _ 33 rfl

theorem v2289_eq : trip_k0_t1.sl.v2289 (F := F) arg1 arg2 arg3 (harg1.unread x0) (harg2.unread x1) k = tXn x0 x1 k.val 15 := by
  unfold trip_k0_t1.sl.v2289
  exact rcov _ _ _ (HW_agree harg1 harg2 x0 x1 k) k.val 15 _ (k0_off16_eq k) _ 32 rfl

theorem v2331_eq : trip_k0_t1.sl.v2331 (F := F) arg1 arg2 arg3 (harg1.unread x0) (harg2.unread x1) k = tXn x0 x1 k.val 16 := by
  unfold trip_k0_t1.sl.v2331
  exact rcov _ _ _ (HW_agree harg1 harg2 x0 x1 k) k.val 16 _ (k0_off17_eq k) _ 31 rfl

theorem v2369_eq : trip_k0_t1.sl.v2369 (F := F) arg1 arg2 arg3 (harg1.unread x0) (harg2.unread x1) k = tXn x0 x1 k.val 17 := by
  unfold trip_k0_t1.sl.v2369
  exact rcov _ _ _ (HW_agree harg1 harg2 x0 x1 k) k.val 17 _ (k0_off18_eq k) _ 30 rfl

theorem v2411_eq : trip_k0_t1.sl.v2411 (F := F) arg1 arg2 arg3 (harg1.unread x0) (harg2.unread x1) k = tXn x0 x1 k.val 18 := by
  unfold trip_k0_t1.sl.v2411
  exact rcov _ _ _ (HW_agree harg1 harg2 x0 x1 k) k.val 18 _ (k0_off19_eq k) _ 29 rfl

theorem v2449_eq : trip_k0_t1.sl.v2449 (F := F) arg1 arg2 arg3 (harg1.unread x0) (harg2.unread x1) k = tXn x0 x1 k.val 19 := by
  unfold trip_k0_t1.sl.v2449
  exact rcov _ _ _ (HW_agree harg1 harg2 x0 x1 k) k.val 19 _ (k0_off20_eq k) _ 28 rfl

theorem v2491_eq : trip_k0_t1.sl.v2491 (F := F) arg1 arg2 arg3 (harg1.unread x0) (harg2.unread x1) k = tXn x0 x1 k.val 20 := by
  unfold trip_k0_t1.sl.v2491
  exact rcov _ _ _ (HW_agree harg1 harg2 x0 x1 k) k.val 20 _ (k0_off21_eq k) _ 27 rfl

theorem v2529_eq : trip_k0_t1.sl.v2529 (F := F) arg1 arg2 arg3 (harg1.unread x0) (harg2.unread x1) k = tXn x0 x1 k.val 21 := by
  unfold trip_k0_t1.sl.v2529
  exact rcov _ _ _ (HW_agree harg1 harg2 x0 x1 k) k.val 21 _ (k0_off22_eq k) _ 26 rfl

theorem v2571_eq : trip_k0_t1.sl.v2571 (F := F) arg1 arg2 arg3 (harg1.unread x0) (harg2.unread x1) k = tXn x0 x1 k.val 22 := by
  unfold trip_k0_t1.sl.v2571
  exact rcov _ _ _ (HW_agree harg1 harg2 x0 x1 k) k.val 22 _ (k0_off23_eq k) _ 25 rfl

theorem v2609_eq : trip_k0_t1.sl.v2609 (F := F) arg1 arg2 arg3 (harg1.unread x0) (harg2.unread x1) k = tXn x0 x1 k.val 23 := by
  unfold trip_k0_t1.sl.v2609
  exact rcov _ _ _ (HW_agree harg1 harg2 x0 x1 k) k.val 23 _ (k0_off24_eq k) _ 24 rfl

theorem v2651_eq : trip_k0_t1.sl.v2651 (F := F) arg1 arg2 arg3 (harg1.unread x0) (harg2.unread x1) k = tXn x0 x1 k.val 24 := by
  unfold trip_k0_t1.sl.v2651
  exact rcov _ _ _ (HW_agree harg1 harg2 x0 x1 k) k.val 24 _ (k0_off25_eq k) _ 23 rfl

theorem v2689_eq : trip_k0_t1.sl.v2689 (F := F) arg1 arg2 arg3 (harg1.unread x0) (harg2.unread x1) k = tXn x0 x1 k.val 25 := by
  unfold trip_k0_t1.sl.v2689
  exact rcov _ _ _ (HW_agree harg1 harg2 x0 x1 k) k.val 25 _ (k0_off26_eq k) _ 22 rfl

theorem v2731_eq : trip_k0_t1.sl.v2731 (F := F) arg1 arg2 arg3 (harg1.unread x0) (harg2.unread x1) k = tXn x0 x1 k.val 26 := by
  unfold trip_k0_t1.sl.v2731
  exact rcov _ _ _ (HW_agree harg1 harg2 x0 x1 k) k.val 26 _ (k0_off27_eq k) _ 21 rfl

theorem v2769_eq : trip_k0_t1.sl.v2769 (F := F) arg1 arg2 arg3 (harg1.unread x0) (harg2.unread x1) k = tXn x0 x1 k.val 27 := by
  unfold trip_k0_t1.sl.v2769
  exact rcov _ _ _ (HW_agree harg1 harg2 x0 x1 k) k.val 27 _ (k0_off28_eq k) _ 20 rfl

theorem v2811_eq : trip_k0_t1.sl.v2811 (F := F) arg1 arg2 arg3 (harg1.unread x0) (harg2.unread x1) k = tXn x0 x1 k.val 28 := by
  unfold trip_k0_t1.sl.v2811
  exact rcov _ _ _ (HW_agree harg1 harg2 x0 x1 k) k.val 28 _ (k0_off29_eq k) _ 19 rfl

theorem v2849_eq : trip_k0_t1.sl.v2849 (F := F) arg1 arg2 arg3 (harg1.unread x0) (harg2.unread x1) k = tXn x0 x1 k.val 29 := by
  unfold trip_k0_t1.sl.v2849
  exact rcov _ _ _ (HW_agree harg1 harg2 x0 x1 k) k.val 29 _ (k0_off30_eq k) _ 18 rfl

theorem v2891_eq : trip_k0_t1.sl.v2891 (F := F) arg1 arg2 arg3 (harg1.unread x0) (harg2.unread x1) k = tXn x0 x1 k.val 30 := by
  unfold trip_k0_t1.sl.v2891
  exact rcov _ _ _ (HW_agree harg1 harg2 x0 x1 k) k.val 30 _ (k0_off31_eq k) _ 17 rfl

theorem v2929_eq : trip_k0_t1.sl.v2929 (F := F) arg1 arg2 arg3 (harg1.unread x0) (harg2.unread x1) k = tXn x0 x1 k.val 31 := by
  unfold trip_k0_t1.sl.v2929
  exact rcov _ _ _ (HW_agree harg1 harg2 x0 x1 k) k.val 31 _ (k0_off32_eq k) _ 16 rfl

theorem v2971_eq : trip_k0_t1.sl.v2971 (F := F) arg1 arg2 arg3 (harg1.unread x0) (harg2.unread x1) k = tXn x0 x1 k.val 32 := by
  unfold trip_k0_t1.sl.v2971
  exact rcov _ _ _ (HW_agree harg1 harg2 x0 x1 k) k.val 32 _ (k0_off33_eq k) _ 15 rfl

theorem v3009_eq : trip_k0_t1.sl.v3009 (F := F) arg1 arg2 arg3 (harg1.unread x0) (harg2.unread x1) k = tXn x0 x1 k.val 33 := by
  unfold trip_k0_t1.sl.v3009
  exact rcov _ _ _ (HW_agree harg1 harg2 x0 x1 k) k.val 33 _ (k0_off34_eq k) _ 14 rfl

theorem v3051_eq : trip_k0_t1.sl.v3051 (F := F) arg1 arg2 arg3 (harg1.unread x0) (harg2.unread x1) k = tXn x0 x1 k.val 34 := by
  unfold trip_k0_t1.sl.v3051
  exact rcov _ _ _ (HW_agree harg1 harg2 x0 x1 k) k.val 34 _ (k0_off35_eq k) _ 13 rfl

theorem v3089_eq : trip_k0_t1.sl.v3089 (F := F) arg1 arg2 arg3 (harg1.unread x0) (harg2.unread x1) k = tXn x0 x1 k.val 35 := by
  unfold trip_k0_t1.sl.v3089
  exact rcov _ _ _ (HW_agree harg1 harg2 x0 x1 k) k.val 35 _ (k0_off36_eq k) _ 12 rfl

theorem v3131_eq : trip_k0_t1.sl.v3131 (F := F) arg1 arg2 arg3 (harg1.unread x0) (harg2.unread x1) k = tXn x0 x1 k.val 36 := by
  unfold trip_k0_t1.sl.v3131
  exact rcov _ _ _ (HW_agree harg1 harg2 x0 x1 k) k.val 36 _ (k0_off37_eq k) _ 11 rfl

theorem v3169_eq : trip_k0_t1.sl.v3169 (F := F) arg1 arg2 arg3 (harg1.unread x0) (harg2.unread x1) k = tXn x0 x1 k.val 37 := by
  unfold trip_k0_t1.sl.v3169
  exact rcov _ _ _ (HW_agree harg1 harg2 x0 x1 k) k.val 37 _ (k0_off38_eq k) _ 10 rfl

theorem v3211_eq : trip_k0_t1.sl.v3211 (F := F) arg1 arg2 arg3 (harg1.unread x0) (harg2.unread x1) k = tXn x0 x1 k.val 38 := by
  unfold trip_k0_t1.sl.v3211
  exact rcov _ _ _ (HW_agree harg1 harg2 x0 x1 k) k.val 38 _ (k0_off39_eq k) _ 9 rfl

theorem v3249_eq : trip_k0_t1.sl.v3249 (F := F) arg1 arg2 arg3 (harg1.unread x0) (harg2.unread x1) k = tXn x0 x1 k.val 39 := by
  unfold trip_k0_t1.sl.v3249
  exact rcov _ _ _ (HW_agree harg1 harg2 x0 x1 k) k.val 39 _ (k0_off40_eq k) _ 8 rfl

theorem v3291_eq : trip_k0_t1.sl.v3291 (F := F) arg1 arg2 arg3 (harg1.unread x0) (harg2.unread x1) k = tXn x0 x1 k.val 40 := by
  unfold trip_k0_t1.sl.v3291
  exact rcov _ _ _ (HW_agree harg1 harg2 x0 x1 k) k.val 40 _ (k0_off41_eq k) _ 7 rfl

theorem v3329_eq : trip_k0_t1.sl.v3329 (F := F) arg1 arg2 arg3 (harg1.unread x0) (harg2.unread x1) k = tXn x0 x1 k.val 41 := by
  unfold trip_k0_t1.sl.v3329
  exact rcov _ _ _ (HW_agree harg1 harg2 x0 x1 k) k.val 41 _ (k0_off42_eq k) _ 6 rfl

theorem v3371_eq : trip_k0_t1.sl.v3371 (F := F) arg1 arg2 arg3 (harg1.unread x0) (harg2.unread x1) k = tXn x0 x1 k.val 42 := by
  unfold trip_k0_t1.sl.v3371
  exact rcov _ _ _ (HW_agree harg1 harg2 x0 x1 k) k.val 42 _ (k0_off43_eq k) _ 5 rfl

theorem v3409_eq : trip_k0_t1.sl.v3409 (F := F) arg1 arg2 arg3 (harg1.unread x0) (harg2.unread x1) k = tXn x0 x1 k.val 43 := by
  unfold trip_k0_t1.sl.v3409
  exact rcov _ _ _ (HW_agree harg1 harg2 x0 x1 k) k.val 43 _ (k0_off44_eq k) _ 4 rfl

theorem v3451_eq : trip_k0_t1.sl.v3451 (F := F) arg1 arg2 arg3 (harg1.unread x0) (harg2.unread x1) k = tXn x0 x1 k.val 44 := by
  unfold trip_k0_t1.sl.v3451
  exact rcov _ _ _ (HW_agree harg1 harg2 x0 x1 k) k.val 44 _ (k0_off45_eq k) _ 3 rfl

theorem v3489_eq : trip_k0_t1.sl.v3489 (F := F) arg1 arg2 arg3 (harg1.unread x0) (harg2.unread x1) k = tXn x0 x1 k.val 45 := by
  unfold trip_k0_t1.sl.v3489
  exact rcov _ _ _ (HW_agree harg1 harg2 x0 x1 k) k.val 45 _ (k0_off46_eq k) _ 2 rfl

theorem v3531_eq : trip_k0_t1.sl.v3531 (F := F) arg1 arg2 arg3 (harg1.unread x0) (harg2.unread x1) k = tXn x0 x1 k.val 46 := by
  unfold trip_k0_t1.sl.v3531
  exact rcov _ _ _ (HW_agree harg1 harg2 x0 x1 k) k.val 46 _ (k0_off47_eq k) _ 1 rfl

theorem v3569_eq : trip_k0_t1.sl.v3569 (F := F) arg1 arg2 arg3 (harg1.unread x0) (harg2.unread x1) k = tXn x0 x1 k.val 47 := by
  unfold trip_k0_t1.sl.v3569
  exact rcov _ _ _ (HW_agree harg1 harg2 x0 x1 k) k.val 47 _ (k0_off48_eq k) _ 0 rfl

end

end Cert.KernelIdeal.Q
end
-- ==== Proof.QCodes.lean ====
module

public import proofs.«01_k».proof.Proof.QRead

/-! The second pass over a slab: the packed codes and the dequantised groups, as the printed run names them. -/

@[expose] public section

set_option maxRecDepth 4000
set_option maxHeartbeats 2000000

noncomputable section

namespace Cert.KernelIdeal.Q

open Idealize.ShloMosaic Idealize.ShloMosaic.ValueIdx Cert.KernelIdeal.Gen

variable {F : FTy → Type} [FloatOps F]

section
variable {arg1 : Memref sig .tc .vmem S128x6144 .bf16} (harg1 : arg1.IsWhole) {arg2 : Memref sig .tc .vmem S1x6144 .f32} (harg2 : arg2.IsWhole) (arg3 : Memref sig .tc .vmem S128x6144 .bf16)
  (x0 : Vec F S128x6144 .bf16) (x1 : Vec F S1x6144 .f32) (k : Fin k0_t1_loop.trips)

theorem a_47 : k0_pay1 (trip_k0_t1.sl.r_180 (F := F) arg1 arg2 (harg1.unread x0) (harg2.unread x1) k) (trip_k0_t1.sl.r_181 (F := F) arg1 arg2 (harg1.unread x0) (harg2.unread x1) k) (trip_k0_t1.sl.r_182 (F := F) arg1 arg2 arg3 (harg1.unread x0) (harg2.unread x1) k) = tA x0 x1 k.val 47 := by
  unfold trip_k0_t1.sl.r_182 trip_k0_t1.sl.r_181 trip_k0_t1.sl.r_180
  rw [r_100_eq harg1 harg2 x0 x1 k, r_101_eq harg1 harg2 x0 x1 k, v3569_eq harg1 harg2 arg3 x0 x1 k]
  unfold tA aV codeV
  rw [← ess_col (tSc x0 x1 k.val) 47 (by decide) slices_S32x128_o0_47_S32x1, ← ess_col (tZp x0 x1 k.val) 47 (by decide) slices_S32x128_o0_47_S32x1]
  rfl

theorem a_46 : k0_pay458 (trip_k0_t1.sl.r_100 (F := F) arg1 arg2 (harg1.unread x0) (harg2.unread x1) k) (trip_k0_t1.sl.r_101 (F := F) arg1 arg2 (harg1.unread x0) (harg2.unread x1) k) (trip_k0_t1.sl.r_178 (F := F) arg1 arg2 arg3 (harg1.unread x0) (harg2.unread x1) k) = tA x0 x1 k.val 46 := by
  unfold trip_k0_t1.sl.r_178
  rw [r_100_eq harg1 harg2 x0 x1 k, r_101_eq harg1 harg2 x0 x1 k, v3531_eq harg1 harg2 arg3 x0 x1 k]
  unfold tA aV codeV
  rw [← ess_col (tSc x0 x1 k.val) 46 (by decide) slices_S32x128_o0_46_S32x1, ← ess_col (tZp x0 x1 k.val) 46 (by decide) slices_S32x128_o0_46_S32x1]
  rfl

theorem a_45 : k0_pay452 (trip_k0_t1.sl.r_100 (F := F) arg1 arg2 (harg1.unread x0) (harg2.unread x1) k) (trip_k0_t1.sl.r_101 (F := F) arg1 arg2 (harg1.unread x0) (harg2.unread x1) k) (trip_k0_t1.sl.v3489 (F := F) arg1 arg2 arg3 (harg1.unread x0) (harg2.unread x1) k) = tA x0 x1 k.val 45 := by
  rw [r_100_eq harg1 harg2 x0 x1 k, r_101_eq harg1 harg2 x0 x1 k, v3489_eq harg1 harg2 arg3 x0 x1 k]
  unfold tA aV codeV
  rw [← ess_col (tSc x0 x1 k.val) 45 (by decide) slices_S32x128_o0_45_S32x1, ← ess_col (tZp x0 x1 k.val) 45 (by decide) slices_S32x128_o0_45_S32x1]
  rfl

theorem a_44 : k0_pay446 (trip_k0_t1.sl.r_100 (F := F) arg1 arg2 (harg1.unread x0) (harg2.unread x1) k) (trip_k0_t1.sl.r_101 (F := F) arg1 arg2 (harg1.unread x0) (harg2.unread x1) k) (trip_k0_t1.sl.v3451 (F := F) arg1 arg2 arg3 (harg1.unread x0) (harg2.unread x1) k) = tA x0 x1 k.val 44 := by
  rw [r_100_eq harg1 harg2 x0 x1 k, r_101_eq harg1 harg2 x0 x1 k, v3451_eq harg1 harg2 arg3 x0 x1 k]
  unfold tA aV codeV
  rw [← ess_col (tSc x0 x1 k.val) 44 (by decide) slices_S32x128_o0_44_S32x1, ← ess_col (tZp x0 x1 k.val) 44 (by decide) slices_S32x128_o0_44_S32x1]
  rfl

theorem a_43 : k0_pay440 (trip_k0_t1.sl.r_100 (F := F) arg1 arg2 (harg1.unread x0) (harg2.unread x1) k) (trip_k0_t1.sl.r_101 (F := F) arg1 arg2 (harg1.unread x0) (harg2.unread x1) k) (trip_k0_t1.sl.v3409 (F := F) arg1 arg2 arg3 (harg1.unread x0) (harg2.unread x1) k) = tA x0 x1 k.val 43 := by
  rw [r_100_eq harg1 harg2 x0 x1 k, r_101_eq harg1 harg2 x0 x1 k, v3409_eq harg1 harg2 arg3 x0 x1 k]
  unfold tA aV codeV
  rw [← ess_col (tSc x0 x1 k.val) 43 (by decide) slices_S32x128_o0_43_S32x1, ← ess_col (tZp x0 x1 k.val) 43 (by decide) slices_S32x128_o0_43_S32x1]
  rfl

theorem a_42 : trip_k0_t1.sl.r_174 (F := F) arg1 arg2 arg3 (harg1.unread x0) (harg2.unread x1) k = tA x0 x1 k.val 42 := by
  unfold trip_k0_t1.sl.r_174
  rw [r_100_eq harg1 harg2 x0 x1 k, r_101_eq harg1 harg2 x0 x1 k, v3371_eq harg1 harg2 arg3 x0 x1 k]
  unfold tA aV codeV
  rw [← ess_col (tSc x0 x1 k.val) 42 (by decide) slices_S32x128_o0_42_S32x1, ← ess_col (tZp x0 x1 k.val) 42 (by decide) slices_S32x128_o0_42_S32x1]
  rfl

theorem a_41 : k0_pay430 (trip_k0_t1.sl.r_170 (F := F) arg1 arg2 (harg1.unread x0) (harg2.unread x1) k) (trip_k0_t1.sl.r_171 (F := F) arg1 arg2 (harg1.unread x0) (harg2.unread x1) k) (trip_k0_t1.sl.r_172 (F := F) arg1 arg2 arg3 (harg1.unread x0) (harg2.unread x1) k) = tA x0 x1 k.val 41 := by
  unfold trip_k0_t1.sl.r_172 trip_k0_t1.sl.r_171 trip_k0_t1.sl.r_170
  rw [r_100_eq harg1 harg2 x0 x1 k, r_101_eq harg1 harg2 x0 x1 k, v3329_eq harg1 harg2 arg3 x0 x1 k]
  unfold tA aV codeV
  rw [← ess_col (tSc x0 x1 k.val) 41 (by decide) slices_S32x128_o0_41_S32x1, ← ess_col (tZp x0 x1 k.val) 41 (by decide) slices_S32x128_o0_41_S32x1]
  rfl

theorem a_40 : k0_pay425 (trip_k0_t1.sl.r_100 (F := F) arg1 arg2 (harg1.unread x0) (harg2.unread x1) k) (trip_k0_t1.sl.r_101 (F := F) arg1 arg2 (harg1.unread x0) (harg2.unread x1) k) (trip_k0_t1.sl.r_168 (F := F) arg1 arg2 arg3 (harg1.unread x0) (harg2.unread x1) k) = tA x0 x1 k.val 40 := by
  unfold trip_k0_t1.sl.r_168
  rw [r_100_eq harg1 harg2 x0 x1 k, r_101_eq harg1 harg2 x0 x1 k, v3291_eq harg1 harg2 arg3 x0 x1 k]
  unfold tA aV codeV
  rw [← ess_col (tSc x0 x1 k.val) 40 (by decide) slices_S32x128_o0_40_S32x1, ← ess_col (tZp x0 x1 k.val) 40 (by decide) slices_S32x128_o0_40_S32x1]
  rfl

theorem a_39 : k0_pay419 (trip_k0_t1.sl.r_100 (F := F) arg1 arg2 (harg1.unread x0) (harg2.unread x1) k) (trip_k0_t1.sl.r_101 (F := F) arg1 arg2 (harg1.unread x0) (harg2.unread x1) k) (trip_k0_t1.sl.v3249 (F := F) arg1 arg2 arg3 (harg1.unread x0) (harg2.unread x1) k) = tA x0 x1 k.val 39 := by
  rw [r_100_eq harg1 harg2 x0 x1 k, r_101_eq harg1 harg2 x0 x1 k, v3249_eq harg1 harg2 arg3 x0 x1 k]
  unfold tA aV codeV
  rw [← ess_col (tSc x0 x1 k.val) 39 (by decide) slices_S32x128_o0_39_S32x1, ← ess_col (tZp x0 x1 k.val) 39 (by decide) slices_S32x128_o0_39_S32x1]
  rfl

theorem a_38 : k0_pay413 (trip_k0_t1.sl.r_100 (F := F) arg1 arg2 (harg1.unread x0) (harg2.unread x1) k) (trip_k0_t1.sl.r_101 (F := F) arg1 arg2 (harg1.unread x0) (harg2.unread x1) k) (trip_k0_t1.sl.v3211 (F := F) arg1 arg2 arg3 (harg1.unread x0) (harg2.unread x1) k) = tA x0 x1 k.val 38 := by
  rw [r_100_eq harg1 harg2 x0 x1 k, r_101_eq harg1 harg2 x0 x1 k, v3211_eq harg1 harg2 arg3 x0 x1 k]
  unfold tA aV codeV
  rw [← ess_col (tSc x0 x1 k.val) 38 (by decide) slices_S32x128_o0_38_S32x1, ← ess_col (tZp x0 x1 k.val) 38 (by decide) slices_S32x128_o0_38_S32x1]
  rfl

theorem a_37 : k0_pay407 (trip_k0_t1.sl.r_100 (F := F) arg1 arg2 (harg1.unread x0) (harg2.unread x1) k) (trip_k0_t1.sl.r_101 (F := F) arg1 arg2 (harg1.unread x0) (harg2.unread x1) k) (trip_k0_t1.sl.v3169 (F := F) arg1 arg2 arg3 (harg1.unread x0) (harg2.unread x1) k) = tA x0 x1 k.val 37 := by
  rw [r_100_eq harg1 harg2 x0 x1 k, r_101_eq harg1 harg2 x0 x1 k, v3169_eq harg1 harg2 arg3 x0 x1 k]
  unfold tA aV codeV
  rw [← ess_col (tSc x0 x1 k.val) 37 (by decide) slices_S32x128_o0_37_S32x1, ← ess_col (tZp x0 x1 k.val) 37 (by decide) slices_S32x128_o0_37_S32x1]
  rfl

theorem a_36 : trip_k0_t1.sl.r_164 (F := F) arg1 arg2 arg3 (harg1.unread x0) (harg2.unread x1) k = tA x0 x1 k.val 36 := by
  unfold trip_k0_t1.sl.r_164
  rw [r_100_eq harg1 harg2 x0 x1 k, r_101_eq harg1 harg2 x0 x1 k, v3131_eq harg1 harg2 arg3 x0 x1 k]
  unfold tA aV codeV
  rw [← ess_col (tSc x0 x1 k.val) 36 (by decide) slices_S32x128_o0_36_S32x1, ← ess_col (tZp x0 x1 k.val) 36 (by decide) slices_S32x128_o0_36_S32x1]
  rfl

theorem a_35 : k0_pay397 (trip_k0_t1.sl.r_160 (F := F) arg1 arg2 (harg1.unread x0) (harg2.unread x1) k) (trip_k0_t1.sl.r_161 (F := F) arg1 arg2 (harg1.unread x0) (harg2.unread x1) k) (trip_k0_t1.sl.r_162 (F := F) arg1 arg2 arg3 (harg1.unread x0) (harg2.unread x1) k) = tA x0 x1 k.val 35 := by
  unfold trip_k0_t1.sl.r_162 trip_k0_t1.sl.r_161 trip_k0_t1.sl.r_160
  rw [r_100_eq harg1 harg2 x0 x1 k, r_101_eq harg1 harg2 x0 x1 k, v3089_eq harg1 harg2 arg3 x0 x1 k]
  unfold tA aV codeV
  rw [← ess_col (tSc x0 x1 k.val) 35 (by decide) slices_S32x128_o0_35_S32x1, ← ess_col (tZp x0 x1 k.val) 35 (by decide) slices_S32x128_o0_35_S32x1]
  rfl

theorem a_34 : k0_pay392 (trip_k0_t1.sl.r_100 (F := F) arg1 arg2 (harg1.unread x0) (harg2.unread x1) k) (trip_k0_t1.sl.r_101 (F := F) arg1 arg2 (harg1.unread x0) (harg2.unread x1) k) (trip_k0_t1.sl.r_158 (F := F) arg1 arg2 arg3 (harg1.unread x0) (harg2.unread x1) k) = tA x0 x1 k.val 34 := by
  unfold trip_k0_t1.sl.r_158
  rw [r_100_eq harg1 harg2 x0 x1 k, r_101_eq harg1 harg2 x0 x1 k, v3051_eq harg1 harg2 arg3 x0 x1 k]
  unfold tA aV codeV
  rw [← ess_col (tSc x0 x1 k.val) 34 (by decide) slices_S32x128_o0_34_S32x1, ← ess_col (tZp x0 x1 k.val) 34 (by decide) slices_S32x128_o0_34_S32x1]
  rfl

theorem a_33 : k0_pay386 (trip_k0_t1.sl.r_100 (F := F) arg1 arg2 (harg1.unread x0) (harg2.unread x1) k) (trip_k0_t1.sl.r_101 (F := F) arg1 arg2 (harg1.unread x0) (harg2.unread x1) k) (trip_k0_t1.sl.v3009 (F := F) arg1 arg2 arg3 (harg1.unread x0) (harg2.unread x1) k) = tA x0 x1 k.val 33 := by
  rw [r_100_eq harg1 harg2 x0 x1 k, r_101_eq harg1 harg2 x0 x1 k, v3009_eq harg1 harg2 arg3 x0 x1 k]
  unfold tA aV codeV
  rw [← ess_col (tSc x0 x1 k.val) 33 (by decide) slices_S32x128_o0_33_S32x1, ← ess_col (tZp x0 x1 k.val) 33 (by decide) slices_S32x128_o0_33_S32x1]
  rfl

theorem a_32 : k0_pay380 (trip_k0_t1.sl.r_100 (F := F) arg1 arg2 (harg1.unread x0) (harg2.unread x1) k) (trip_k0_t1.sl.r_101 (F := F) arg1 arg2 (harg1.unread x0) (harg2.unread x1) k) (trip_k0_t1.sl.v2971 (F := F) arg1 arg2 arg3 (harg1.unread x0) (harg2.unread x1) k) = tA x0 x1 k.val 32 := by
  rw [r_100_eq harg1 harg2 x0 x1 k, r_101_eq harg1 harg2 x0 x1 k, v2971_eq harg1 harg2 arg3 x0 x1 k]
  unfold tA aV codeV
  rw [← ess_col (tSc x0 x1 k.val) 32 (by decide) slices_S32x128_o0_32_S32x1, ← ess_col (tZp x0 x1 k.val) 32 (by decide) slices_S32x128_o0_32_S32x1]
  rfl

theorem a_31 : k0_pay374 (trip_k0_t1.sl.r_100 (F := F) arg1 arg2 (harg1.unread x0) (harg2.unread x1) k) (trip_k0_t1.sl.r_101 (F := F) arg1 arg2 (harg1.unread x0) (harg2.unread x1) k) (trip_k0_t1.sl.v2929 (F := F) arg1 arg2 arg3 (harg1.unread x0) (harg2.unread x1) k) = tA x0 x1 k.val 31 := by
  rw [r_100_eq harg1 harg2 x0 x1 k, r_101_eq harg1 harg2 x0 x1 k, v2929_eq harg1 harg2 arg3 x0 x1 k]
  unfold tA aV codeV
  rw [← ess_col (tSc x0 x1 k.val) 31 (by decide) slices_S32x128_o0_31_S32x1, ← ess_col (tZp x0 x1 k.val) 31 (by decide) slices_S32x128_o0_31_S32x1]
  rfl

theorem a_30 : trip_k0_t1.sl.r_154 (F := F) arg1 arg2 arg3 (harg1.unread x0) (harg2.unread x1) k = tA x0 x1 k.val 30 := by
  unfold trip_k0_t1.sl.r_154
  rw [r_100_eq harg1 harg2 x0 x1 k, r_101_eq harg1 harg2 x0 x1 k, v2891_eq harg1 harg2 arg3 x0 x1 k]
  unfold tA aV codeV
  rw [← ess_col (tSc x0 x1 k.val) 30 (by decide) slices_S32x128_o0_30_S32x1, ← ess_col (tZp x0 x1 k.val) 30 (by decide) slices_S32x128_o0_30_S32x1]
  rfl

theorem a_29 : k0_pay364 (trip_k0_t1.sl.r_150 (F := F) arg1 arg2 (harg1.unread x0) (harg2.unread x1) k) (trip_k0_t1.sl.r_151 (F := F) arg1 arg2 (harg1.unread x0) (harg2.unread x1) k) (trip_k0_t1.sl.r_152 (F := F) arg1 arg2 arg3 (harg1.unread x0) (harg2.unread x1) k) = tA x0 x1 k.val 29 := by
  unfold trip_k0_t1.sl.r_152 trip_k0_t1.sl.r_151 trip_k0_t1.sl.r_150
  rw [r_100_eq harg1 harg2 x0 x1 k, r_101_eq harg1 harg2 x0 x1 k, v2849_eq harg1 harg2 arg3 x0 x1 k]
  unfold tA aV codeV
  rw [← ess_col (tSc x0 x1 k.val) 29 (by decide) slices_S32x128_o0_29_S32x1, ← ess_col (tZp x0 x1 k.val) 29 (by decide) slices_S32x128_o0_29_S32x1]
  rfl

theorem a_28 : k0_pay359 (trip_k0_t1.sl.r_100 (F := F) arg1 arg2 (harg1.unread x0) (harg2.unread x1) k) (trip_k0_t1.sl.r_101 (F := F) arg1 arg2 (harg1.unread x0) (harg2.unread x1) k) (trip_k0_t1.sl.r_148 (F := F) arg1 arg2 arg3 (harg1.unread x0) (harg2.unread x1) k) = tA x0 x1 k.val 28 := by
  unfold trip_k0_t1.sl.r_148
  rw [r_100_eq harg1 harg2 x0 x1 k, r_101_eq harg1 harg2 x0 x1 k, v2811_eq harg1 harg2 arg3 x0 x1 k]
  unfold tA aV codeV
  rw [← ess_col (tSc x0 x1 k.val) 28 (by decide) slices_S32x128_o0_28_S32x1, ← ess_col (tZp x0 x1 k.val) 28 (by decide) slices_S32x128_o0_28_S32x1]
  rfl

theorem a_27 : k0_pay353 (trip_k0_t1.sl.r_100 (F := F) arg1 arg2 (harg1.unread x0) (harg2.unread x1) k) (trip_k0_t1.sl.r_101 (F := F) arg1 arg2 (harg1.unread x0) (harg2.unread x1) k) (trip_k0_t1.sl.v2769 (F := F) arg1 arg2 arg3 (harg1.unread x0) (harg2.unread x1) k) = tA x0 x1 k.val 27 := by
  rw [r_100_eq harg1 harg2 x0 x1 k, r_101_eq harg1 harg2 x0 x1 k, v2769_eq harg1 harg2 arg3 x0 x1 k]
  unfold tA aV codeV
  rw [← ess_col (tSc x0 x1 k.val) 27 (by decide) slices_S32x128_o0_27_S32x1, ← ess_col (tZp x0 x1 k.val) 27 (by decide) slices_S32x128_o0_27_S32x1]
  rfl

theorem a_26 : k0_pay347 (trip_k0_t1.sl.r_100 (F := F) arg1 arg2 (harg1.unread x0) (harg2.unread x1) k) (trip_k0_t1.sl.r_101 (F := F) arg1 arg2 (harg1.unread x0) (harg2.unread x1) k) (trip_k0_t1.sl.v2731 (F := F) arg1 arg2 arg3 (harg1.unread x0) (harg2.unread x1) k) = tA x0 x1 k.val 26 := by
  rw [r_100_eq harg1 harg2 x0 x1 k, r_101_eq harg1 harg2 x0 x1 k, v2731_eq harg1 harg2 arg3 x0 x1 k]
  unfold tA aV codeV
  rw [← ess_col (tSc x0 x1 k.val) 26 (by decide) slices_S32x128_o0_26_S32x1, ← ess_col (tZp x0 x1 k.val) 26 (by decide) slices_S32x128_o0_26_S32x1]
  rfl

theorem a_25 : k0_pay341 (trip_k0_t1.sl.r_100 (F := F) arg1 arg2 (harg1.unread x0) (harg2.unread x1) k) (trip_k0_t1.sl.r_101 (F := F) arg1 arg2 (harg1.unread x0) (harg2.unread x1) k) (trip_k0_t1.sl.v2689 (F := F) arg1 arg2 arg3 (harg1.unread x0) (harg2.unread x1) k) = tA x0 x1 k.val 25 := by
  rw [r_100_eq harg1 harg2 x0 x1 k, r_101_eq harg1 harg2 x0 x1 k, v2689_eq harg1 harg2 arg3 x0 x1 k]
  unfold tA aV codeV
  rw [← ess_col (tSc x0 x1 k.val) 25 (by decide) slices_S32x128_o0_25_S32x1, ← ess_col (tZp x0 x1 k.val) 25 (by decide) slices_S32x128_o0_25_S32x1]
  rfl

theorem a_24 : trip_k0_t1.sl.r_144 (F := F) arg1 arg2 arg3 (harg1.unread x0) (harg2.unread x1) k = tA x0 x1 k.val 24 := by
  unfold trip_k0_t1.sl.r_144
  rw [r_100_eq harg1 harg2 x0 x1 k, r_101_eq harg1 harg2 x0 x1 k, v2651_eq harg1 harg2 arg3 x0 x1 k]
  unfold tA aV codeV
  rw [← ess_col (tSc x0 x1 k.val) 24 (by decide) slices_S32x128_o0_24_S32x1, ← ess_col (tZp x0 x1 k.val) 24 (by decide) slices_S32x128_o0_24_S32x1]
  rfl

theorem a_23 : k0_pay331 (trip_k0_t1.sl.r_140 (F := F) arg1 arg2 (harg1.unread x0) (harg2.unread x1) k) (trip_k0_t1.sl.r_141 (F := F) arg1 arg2 (harg1.unread x0) (harg2.unread x1) k) (trip_k0_t1.sl.r_142 (F := F) arg1 arg2 arg3 (harg1.unread x0) (harg2.unread x1) k) = tA x0 x1 k.val 23 := by
  unfold trip_k0_t1.sl.r_142 trip_k0_t1.sl.r_141 trip_k0_t1.sl.r_140
  rw [r_100_eq harg1 harg2 x0 x1 k, r_101_eq harg1 harg2 x0 x1 k, v2609_eq harg1 harg2 arg3 x0 x1 k]
  unfold tA aV codeV
  rw [← ess_col (tSc x0 x1 k.val) 23 (by decide) slices_S32x128_o0_23_S32x1, ← ess_col (tZp x0 x1 k.val) 23 (by decide) slices_S32x128_o0_23_S32x1]
  rfl

theorem a_22 : k0_pay326 (trip_k0_t1.sl.r_100 (F := F) arg1 arg2 (harg1.unread x0) (harg2.unread x1) k) (trip_k0_t1.sl.r_101 (F := F) arg1 arg2 (harg1.unread x0) (harg2.unread x1) k) (trip_k0_t1.sl.r_138 (F := F) arg1 arg2 arg3 (harg1.unread x0) (harg2.unread x1) k) = tA x0 x1 k.val 22 := by
  unfold trip_k0_t1.sl.r_138
  rw [r_100_eq harg1 harg2 x0 x1 k, r_101_eq harg1 harg2 x0 x1 k, v2571_eq harg1 harg2 arg3 x0 x1 k]
  unfold tA aV codeV
  rw [← ess_col (tSc x0 x1 k.val) 22 (by decide) slices_S32x128_o0_22_S32x1, ← ess_col (tZp x0 x1 k.val) 22 (by decide) slices_S32x128_o0_22_S32x1]
  rfl

theorem a_21 : k0_pay320 (trip_k0_t1.sl.r_100 (F := F) arg1 arg2 (harg1.unread x0) (harg2.unread x1) k) (trip_k0_t1.sl.r_101 (F := F) arg1 arg2 (harg1.unread x0) (harg2.unread x1) k) (trip_k0_t1.sl.v2529 (F := F) arg1 arg2 arg3 (harg1.unread x0) (harg2.unread x1) k) = tA x0 x1 k.val 21 := by
  rw [r_100_eq harg1 harg2 x0 x1 k, r_101_eq harg1 harg2 x0 x1 k, v2529_eq harg1 harg2 arg3 x0 x1 k]
  unfold tA aV codeV
  rw [← ess_col (tSc x0 x1 k.val) 21 (by decide) slices_S32x128_o0_21_S32x1, ← ess_col (tZp x0 x1 k.val) 21 (by decide) slices_S32x128_o0_21_S32x1]
  rfl

theorem a_20 : k0_pay314 (trip_k0_t1.sl.r_100 (F := F) arg1 arg2 (harg1.unread x0) (harg2.unread x1) k) (trip_k0_t1.sl.r_101 (F := F) arg1 arg2 (harg1.unread x0) (harg2.unread x1) k) (trip_k0_t1.sl.v2491 (F := F) arg1 arg2 arg3 (harg1.unread x0) (harg2.unread x1) k) = tA x0 x1 k.val 20 := by
  rw [r_100_eq harg1 harg2 x0 x1 k, r_101_eq harg1 harg2 x0 x1 k, v2491_eq harg1 harg2 arg3 x0 x1 k]
  unfold tA aV codeV
  rw [← ess_col (tSc x0 x1 k.val) 20 (by decide) slices_S32x128_o0_20_S32x1, ← ess_col (tZp x0 x1 k.val) 20 (by decide) slices_S32x128_o0_20_S32x1]
  rfl

theorem a_19 : k0_pay308 (trip_k0_t1.sl.r_100 (F := F) arg1 arg2 (harg1.unread x0) (harg2.unread x1) k) (trip_k0_t1.sl.r_101 (F := F) arg1 arg2 (harg1.unread x0) (harg2.unread x1) k) (trip_k0_t1.sl.v2449 (F := F) arg1 arg2 arg3 (harg1.unread x0) (harg2.unread x1) k) = tA x0 x1 k.val 19 := by
  rw [r_100_eq harg1 harg2 x0 x1 k, r_101_eq harg1 harg2 x0 x1 k, v2449_eq harg1 harg2 arg3 x0 x1 k]
  unfold tA aV codeV
  rw [← ess_col (tSc x0 x1 k.val) 19 (by decide) slices_S32x128_o0_19_S32x1, ← ess_col (tZp x0 x1 k.val) 19 (by decide) slices_S32x128_o0_19_S32x1]
  rfl

theorem a_18 : trip_k0_t1.sl.r_134 (F := F) arg1 arg2 arg3 (harg1.unread x0) (harg2.unread x1) k = tA x0 x1 k.val 18 := by
  unfold trip_k0_t1.sl.r_134
  rw [r_100_eq harg1 harg2 x0 x1 k, r_101_eq harg1 harg2 x0 x1 k, v2411_eq harg1 harg2 arg3 x0 x1 k]
  unfold tA aV codeV
  rw [← ess_col (tSc x0 x1 k.val) 18 (by decide) slices_S32x128_o0_18_S32x1, ← ess_col (tZp x0 x1 k.val) 18 (by decide) slices_S32x128_o0_18_S32x1]
  rfl

theorem a_17 : k0_pay298 (trip_k0_t1.sl.r_130 (F := F) arg1 arg2 (harg1.unread x0) (harg2.unread x1) k) (trip_k0_t1.sl.r_131 (F := F) arg1 arg2 (harg1.unread x0) (harg2.unread x1) k) (trip_k0_t1.sl.r_132 (F := F) arg1 arg2 arg3 (harg1.unread x0) (harg2.unread x1) k) = tA x0 x1 k.val 17 := by
  unfold trip_k0_t1.sl.r_132 trip_k0_t1.sl.r_131 trip_k0_t1.sl.r_130
  rw [r_100_eq harg1 harg2 x0 x1 k, r_101_eq harg1 harg2 x0 x1 k, v2369_eq harg1 harg2 arg3 x0 x1 k]
  unfold tA aV codeV
  rw [← ess_col (tSc x0 x1 k.val) 17 (by decide) slices_S32x128_o0_17_S32x1, ← ess_col (tZp x0 x1 k.val) 17 (by decide) slices_S32x128_o0_17_S32x1]
  rfl

theorem a_16 : k0_pay293 (trip_k0_t1.sl.r_100 (F := F) arg1 arg2 (harg1.unread x0) (harg2.unread x1) k) (trip_k0_t1.sl.r_101 (F := F) arg1 arg2 (harg1.unread x0) (harg2.unread x1) k) (trip_k0_t1.sl.r_128 (F := F) arg1 arg2 arg3 (harg1.unread x0) (harg2.unread x1) k) = tA x0 x1 k.val 16 := by
  unfold trip_k0_t1.sl.r_128
  rw [r_100_eq harg1 harg2 x0 x1 k, r_101_eq harg1 harg2 x0 x1 k, v2331_eq harg1 harg2 arg3 x0 x1 k]
  unfold tA aV codeV
  rw [← ess_col (tSc x0 x1 k.val) 16 (by decide) slices_S32x128_o0_16_S32x1, ← ess_col (tZp x0 x1 k.val) 16 (by decide) slices_S32x128_o0_16_S32x1]
  rfl

theorem a_15 : k0_pay287 (trip_k0_t1.sl.r_100 (F := F) arg1 arg2 (harg1.unread x0) (harg2.unread x1) k) (trip_k0_t1.sl.r_101 (F := F) arg1 arg2 (harg1.unread x0) (harg2.unread x1) k) (trip_k0_t1.sl.v2289 (F := F) arg1 arg2 arg3 (harg1.unread x0) (harg2.unread x1) k) = tA x0 x1 k.val 15 := by
  rw [r_100_eq harg1 harg2 x0 x1 k, r_101_eq harg1 harg2 x0 x1 k, v2289_eq harg1 harg2 arg3 x0 x1 k]
  unfold tA aV codeV
  rw [← ess_col (tSc x0 x1 k.val) 15 (by decide) slices_S32x128_o0_15_S32x1, ← ess_col (tZp x0 x1 k.val) 15 (by decide) slices_S32x128_o0_15_S32x1]
  rfl

theorem a_14 : k0_pay281 (trip_k0_t1.sl.r_100 (F := F) arg1 arg2 (harg1.unread x0) (harg2.unread x1) k) (trip_k0_t1.sl.r_101 (F := F) arg1 arg2 (harg1.unread x0) (harg2.unread x1) k) (trip_k0_t1.sl.v2251 (F := F) arg1 arg2 arg3 (harg1.unread x0) (harg2.unread x1) k) = tA x0 x1 k.val 14 := by
  rw [r_100_eq harg1 harg2 x0 x1 k, r_101_eq harg1 harg2 x0 x1 k, v2251_eq harg1 harg2 arg3 x0 x1 k]
  unfold tA aV codeV
  rw [← ess_col (tSc x0 x1 k.val) 14 (by decide) slices_S32x128_o0_14_S32x1, ← ess_col (tZp x0 x1 k.val) 14 (by decide) slices_S32x128_o0_14_S32x1]
  rfl

theorem a_13 : k0_pay275 (trip_k0_t1.sl.r_100 (F := F) arg1 arg2 (harg1.unread x0) (harg2.unread x1) k) (trip_k0_t1.sl.r_101 (F := F) arg1 arg2 (harg1.unread x0) (harg2.unread x1) k) (trip_k0_t1.sl.v2209 (F := F) arg1 arg2 arg3 (harg1.unread x0) (harg2.unread x1) k) = tA x0 x1 k.val 13 := by
  rw [r_100_eq harg1 harg2 x0 x1 k, r_101_eq harg1 harg2 x0 x1 k, v2209_eq harg1 harg2 arg3 x0 x1 k]
  unfold tA aV codeV
  rw [← ess_col (tSc x0 x1 k.val) 13 (by decide) slices_S32x128_o0_13_S32x1, ← ess_col (tZp x0 x1 k.val) 13 (by decide) slices_S32x128_o0_13_S32x1]
  rfl

theorem a_12 : trip_k0_t1.sl.r_124 (F := F) arg1 arg2 arg3 (harg1.unread x0) (harg2.unread x1) k = tA x0 x1 k.val 12 := by
  unfold trip_k0_t1.sl.r_124
  rw [r_100_eq harg1 harg2 x0 x1 k, r_101_eq harg1 harg2 x0 x1 k, v2171_eq harg1 harg2 arg3 x0 x1 k]
  unfold tA aV codeV
  rw [← ess_col (tSc x0 x1 k.val) 12 (by decide) slices_S32x128_o0_12_S32x1, ← ess_col (tZp x0 x1 k.val) 12 (by decide) slices_S32x128_o0_12_S32x1]
  rfl

theorem a_11 : k0_pay265 (trip_k0_t1.sl.r_120 (F := F) arg1 arg2 (harg1.unread x0) (harg2.unread x1) k) (trip_k0_t1.sl.r_121 (F := F) arg1 arg2 (harg1.unread x0) (harg2.unread x1) k) (trip_k0_t1.sl.r_122 (F := F) arg1 arg2 arg3 (harg1.unread x0) (harg2.unread x1) k) = tA x0 x1 k.val 11 := by
  unfold trip_k0_t1.sl.r_122 trip_k0_t1.sl.r_121 trip_k0_t1.sl.r_120
  rw [r_100_eq harg1 harg2 x0 x1 k, r_101_eq harg1 harg2 x0 x1 k, v2129_eq harg1 harg2 arg3 x0 x1 k]
  unfold tA aV codeV
  rw [← ess_col (tSc x0 x1 k.val) 11 (by decide) slices_S32x128_o0_11_S32x1, ← ess_col (tZp x0 x1 k.val) 11 (by decide) slices_S32x128_o0_11_S32x1]
  rfl

theorem a_10 : k0_pay260 (trip_k0_t1.sl.r_100 (F := F) arg1 arg2 (harg1.unread x0) (harg2.unread x1) k) (trip_k0_t1.sl.r_101 (F := F) arg1 arg2 (harg1.unread x0) (harg2.unread x1) k) (trip_k0_t1.sl.r_118 (F := F) arg1 arg2 arg3 (harg1.unread x0) (harg2.unread x1) k) = tA x0 x1 k.val 10 := by
  unfold trip_k0_t1.sl.r_118
  rw [r_100_eq harg1 harg2 x0 x1 k, r_101_eq harg1 harg2 x0 x1 k, v2091_eq harg1 harg2 arg3 x0 x1 k]
  unfold tA aV codeV
  rw [← ess_col (tSc x0 x1 k.val) 10 (by decide) slices_S32x128_o0_10_S32x1, ← ess_col (tZp x0 x1 k.val) 10 (by decide) slices_S32x128_o0_10_S32x1]
  rfl

theorem a_9 : k0_pay254 (trip_k0_t1.sl.r_100 (F := F) arg1 arg2 (harg1.unread x0) (harg2.unread x1) k) (trip_k0_t1.sl.r_101 (F := F) arg1 arg2 (harg1.unread x0) (harg2.unread x1) k) (trip_k0_t1.sl.v2049 (F := F) arg1 arg2 arg3 (harg1.unread x0) (harg2.unread x1) k) = tA x0 x1 k.val 9 := by
  rw [r_100_eq harg1 harg2 x0 x1 k, r_101_eq harg1 harg2 x0 x1 k, v2049_eq harg1 harg2 arg3 x0 x1 k]
  unfold tA aV codeV
  rw [← ess_col (tSc x0 x1 k.val) 9 (by decide) slices_S32x128_o0_9_S32x1, ← ess_col (tZp x0 x1 k.val) 9 (by decide) slices_S32x128_o0_9_S32x1]
  rfl

theorem a_8 : k0_pay248 (trip_k0_t1.sl.r_100 (F := F) arg1 arg2 (harg1.unread x0) (harg2.unread x1) k) (trip_k0_t1.sl.r_101 (F := F) arg1 arg2 (harg1.unread x0) (harg2.unread x1) k) (trip_k0_t1.sl.v2011 (F := F) arg1 arg2 arg3 (harg1.unread x0) (harg2.unread x1) k) = tA x0 x1 k.val 8 := by
  rw [r_100_eq harg1 harg2 x0 x1 k, r_101_eq harg1 harg2 x0 x1 k, v2011_eq harg1 harg2 arg3 x0 x1 k]
  unfold tA aV codeV
  rw [← ess_col (tSc x0 x1 k.val) 8 (by decide) slices_S32x128_o0_8_S32x1, ← ess_col (tZp x0 x1 k.val) 8 (by decide) slices_S32x128_o0_8_S32x1]
  rfl

theorem a_7 : k0_pay242 (trip_k0_t1.sl.r_100 (F := F) arg1 arg2 (harg1.unread x0) (harg2.unread x1) k) (trip_k0_t1.sl.r_101 (F := F) arg1 arg2 (harg1.unread x0) (harg2.unread x1) k) (trip_k0_t1.sl.v1969 (F := F) arg1 arg2 arg3 (harg1.unread x0) (harg2.unread x1) k) = tA x0 x1 k.val 7 := by
  rw [r_100_eq harg1 harg2 x0 x1 k, r_101_eq harg1 harg2 x0 x1 k, v1969_eq harg1 harg2 arg3 x0 x1 k]
  unfold tA aV codeV
  rw [← ess_col (tSc x0 x1 k.val) 7 (by decide) slices_S32x128_o0_7_S32x1, ← ess_col (tZp x0 x1 k.val) 7 (by decide) slices_S32x128_o0_7_S32x1]
  rfl

theorem a_6 : trip_k0_t1.sl.r_114 (F := F) arg1 arg2 arg3 (harg1.unread x0) (harg2.unread x1) k = tA x0 x1 k.val 6 := by
  unfold trip_k0_t1.sl.r_114
  rw [r_100_eq harg1 harg2 x0 x1 k, r_101_eq harg1 harg2 x0 x1 k, v1931_eq harg1 harg2 arg3 x0 x1 k]
  unfold tA aV codeV
  rw [← ess_col (tSc x0 x1 k.val) 6 (by decide) slices_S32x128_o0_6_S32x1, ← ess_col (tZp x0 x1 k.val) 6 (by decide) slices_S32x128_o0_6_S32x1]
  rfl

theorem a_5 : k0_pay232 (trip_k0_t1.sl.r_110 (F := F) arg1 arg2 (harg1.unread x0) (harg2.unread x1) k) (trip_k0_t1.sl.r_111 (F := F) arg1 arg2 (harg1.unread x0) (harg2.unread x1) k) (trip_k0_t1.sl.r_112 (F := F) arg1 arg2 arg3 (harg1.unread x0) (harg2.unread x1) k) = tA x0 x1 k.val 5 := by
  unfold trip_k0_t1.sl.r_112 trip_k0_t1.sl.r_111 trip_k0_t1.sl.r_110
  rw [r_100_eq harg1 harg2 x0 x1 k, r_101_eq harg1 harg2 x0 x1 k, v1889_eq harg1 harg2 arg3 x0 x1 k]
  unfold tA aV codeV
  rw [← ess_col (tSc x0 x1 k.val) 5 (by decide) slices_S32x128_o0_5_S32x1, ← ess_col (tZp x0 x1 k.val) 5 (by decide) slices_S32x128_o0_5_S32x1]
  rfl

theorem a_4 : k0_pay227 (trip_k0_t1.sl.r_100 (F := F) arg1 arg2 (harg1.unread x0) (harg2.unread x1) k) (trip_k0_t1.sl.r_101 (F := F) arg1 arg2 (harg1.unread x0) (harg2.unread x1) k) (trip_k0_t1.sl.r_108 (F := F) arg1 arg2 arg3 (harg1.unread x0) (harg2.unread x1) k) = tA x0 x1 k.val 4 := by
  unfold trip_k0_t1.sl.r_108
  rw [r_100_eq harg1 harg2 x0 x1 k, r_101_eq harg1 harg2 x0 x1 k, v1851_eq harg1 harg2 arg3 x0 x1 k]
  unfold tA aV codeV
  rw [← ess_col (tSc x0 x1 k.val) 4 (by decide) slices_S32x128_o0_4_S32x1, ← ess_col (tZp x0 x1 k.val) 4 (by decide) slices_S32x128_o0_4_S32x1]
  rfl

theorem a_3 : k0_pay221 (trip_k0_t1.sl.r_100 (F := F) arg1 arg2 (harg1.unread x0) (harg2.unread x1) k) (trip_k0_t1.sl.r_101 (F := F) arg1 arg2 (harg1.unread x0) (harg2.unread x1) k) (trip_k0_t1.sl.v1809 (F := F) arg1 arg2 arg3 (harg1.unread x0) (harg2.unread x1) k) = tA x0 x1 k.val 3 := by
  rw [r_100_eq harg1 harg2 x0 x1 k, r_101_eq harg1 harg2 x0 x1 k, v1809_eq harg1 harg2 arg3 x0 x1 k]
  unfold tA aV codeV
  rw [← ess_col (tSc x0 x1 k.val) 3 (by decide) slices_S32x128_o0_3_S32x1, ← ess_col (tZp x0 x1 k.val) 3 (by decide) slices_S32x128_o0_3_S32x1]
  rfl

theorem a_2 : k0_pay215 (trip_k0_t1.sl.r_100 (F := F) arg1 arg2 (harg1.unread x0) (harg2.unread x1) k) (trip_k0_t1.sl.r_101 (F := F) arg1 arg2 (harg1.unread x0) (harg2.unread x1) k) (trip_k0_t1.sl.v1771 (F := F) arg1 arg2 arg3 (harg1.unread x0) (harg2.unread x1) k) = tA x0 x1 k.val 2 := by
  rw [r_100_eq harg1 harg2 x0 x1 k, r_101_eq harg1 harg2 x0 x1 k, v1771_eq harg1 harg2 arg3 x0 x1 k]
  unfold tA aV codeV
  rw [← ess_col (tSc x0 x1 k.val) 2 (by decide) slices_S32x128_o0_2_S32x1, ← ess_col (tZp x0 x1 k.val) 2 (by decide) slices_S32x128_o0_2_S32x1]
  rfl

theorem a_1 : k0_pay209 (trip_k0_t1.sl.r_100 (F := F) arg1 arg2 (harg1.unread x0) (harg2.unread x1) k) (trip_k0_t1.sl.r_101 (F := F) arg1 arg2 (harg1.unread x0) (harg2.unread x1) k) (trip_k0_t1.sl.v1729 (F := F) arg1 arg2 arg3 (harg1.unread x0) (harg2.unread x1) k) = tA x0 x1 k.val 1 := by
  rw [r_100_eq harg1 harg2 x0 x1 k, r_101_eq harg1 harg2 x0 x1 k, v1729_eq harg1 harg2 arg3 x0 x1 k]
  unfold tA aV codeV
  rw [← ess_col (tSc x0 x1 k.val) 1 (by decide) slices_S32x128_o0_1_S32x1, ← ess_col (tZp x0 x1 k.val) 1 (by decide) slices_S32x128_o0_1_S32x1]
  rfl

theorem a_0 : trip_k0_t1.sl.r_104 (F := F) arg1 arg2 arg3 (harg1.unread x0) (harg2.unread x1) k = tA x0 x1 k.val 0 := by
  unfold trip_k0_t1.sl.r_104
  rw [r_100_eq harg1 harg2 x0 x1 k, r_101_eq harg1 harg2 x0 x1 k, v1691_eq harg1 harg2 arg3 x0 x1 k]
  unfold tA aV codeV
  rw [← ess_col (tSc x0 x1 k.val) 0 (by decide) slices_S32x128_o0_0_S32x1, ← ess_col (tZp x0 x1 k.val) 0 (by decide) slices_S32x128_o0_0_S32x1]
  rfl

theorem pair_23 : k0_pay2 (k0_pay199 trip_k0_t1.sl.v5) (k0_pay200 trip_k0_t1.sl.v5) (trip_k0_t1.sl.r_179 (F := F) arg1 arg2 arg3 (harg1.unread x0) (harg2.unread x1) k) (trip_k0_t1.sl.r_182 (F := F) arg1 arg2 arg3 (harg1.unread x0) (harg2.unread x1) k) = tPair x0 x1 k.val 23 := by
  unfold trip_k0_t1.sl.r_182 trip_k0_t1.sl.r_179 trip_k0_t1.sl.r_178 trip_k0_t1.sl.v5
  rw [r_100_eq harg1 harg2 x0 x1 k, r_101_eq harg1 harg2 x0 x1 k, v3531_eq harg1 harg2 arg3 x0 x1 k, v3569_eq harg1 harg2 arg3 x0 x1 k]
  show _ = pairV (tCode x0 x1 k.val 46) (tCode x0 x1 k.val 47)
  unfold pairV tCode codeV
  rw [← ess_col (tSc x0 x1 k.val) 46 (by decide) slices_S32x128_o0_46_S32x1, ← ess_col (tZp x0 x1 k.val) 46 (by decide) slices_S32x128_o0_46_S32x1, ← ess_col (tSc x0 x1 k.val) 47 (by decide) slices_S32x128_o0_47_S32x1, ← ess_col (tZp x0 x1 k.val) 47 (by decide) slices_S32x128_o0_47_S32x1]
  rfl

theorem pair_22 : k0_pay453 (trip_k0_t1.sl.r_100 (F := F) arg1 arg2 (harg1.unread x0) (harg2.unread x1) k) (trip_k0_t1.sl.r_101 (F := F) arg1 arg2 (harg1.unread x0) (harg2.unread x1) k) (k0_pay199 trip_k0_t1.sl.v5) (k0_pay200 trip_k0_t1.sl.v5) (trip_k0_t1.sl.r_177 (F := F) arg1 arg2 arg3 (harg1.unread x0) (harg2.unread x1) k) (k0_pay448 (k0_pay199 trip_k0_t1.sl.v5)) (trip_k0_t1.sl.v3489 (F := F) arg1 arg2 arg3 (harg1.unread x0) (harg2.unread x1) k) = tPair x0 x1 k.val 22 := by
  unfold trip_k0_t1.sl.r_177 trip_k0_t1.sl.v5
  rw [r_100_eq harg1 harg2 x0 x1 k, r_101_eq harg1 harg2 x0 x1 k, v3451_eq harg1 harg2 arg3 x0 x1 k, v3489_eq harg1 harg2 arg3 x0 x1 k]
  show _ = pairV (tCode x0 x1 k.val 44) (tCode x0 x1 k.val 45)
  unfold pairV tCode codeV
  rw [← ess_col (tSc x0 x1 k.val) 44 (by decide) slices_S32x128_o0_44_S32x1, ← ess_col (tZp x0 x1 k.val) 44 (by decide) slices_S32x128_o0_44_S32x1, ← ess_col (tSc x0 x1 k.val) 45 (by decide) slices_S32x128_o0_45_S32x1, ← ess_col (tZp x0 x1 k.val) 45 (by decide) slices_S32x128_o0_45_S32x1]
  rfl

theorem pair_21 : k0_pay442 (k0_pay199 trip_k0_t1.sl.v5) (k0_pay200 trip_k0_t1.sl.v5) (trip_k0_t1.sl.r_175 (F := F) arg1 arg2 arg3 (harg1.unread x0) (harg2.unread x1) k) (trip_k0_t1.sl.r_176 (F := F) arg1 arg2 arg3 (harg1.unread x0) (harg2.unread x1) k) 0#32 = tPair x0 x1 k.val 21 := by
  unfold trip_k0_t1.sl.r_176 trip_k0_t1.sl.r_175 trip_k0_t1.sl.r_173 trip_k0_t1.sl.v5
  rw [r_100_eq harg1 harg2 x0 x1 k, r_101_eq harg1 harg2 x0 x1 k, v3371_eq harg1 harg2 arg3 x0 x1 k, v3409_eq harg1 harg2 arg3 x0 x1 k]
  show _ = pairV (tCode x0 x1 k.val 42) (tCode x0 x1 k.val 43)
  unfold pairV tCode codeV
  rw [← ess_col (tSc x0 x1 k.val) 42 (by decide) slices_S32x128_o0_42_S32x1, ← ess_col (tZp x0 x1 k.val) 42 (by decide) slices_S32x128_o0_42_S32x1, ← ess_col (tSc x0 x1 k.val) 43 (by decide) slices_S32x128_o0_43_S32x1, ← ess_col (tZp x0 x1 k.val) 43 (by decide) slices_S32x128_o0_43_S32x1]
  rfl

theorem pair_20 : k0_pay431 (k0_pay199 trip_k0_t1.sl.v5) (k0_pay200 trip_k0_t1.sl.v5) (trip_k0_t1.sl.r_169 (F := F) arg1 arg2 arg3 (harg1.unread x0) (harg2.unread x1) k) (trip_k0_t1.sl.r_172 (F := F) arg1 arg2 arg3 (harg1.unread x0) (harg2.unread x1) k) = tPair x0 x1 k.val 20 := by
  unfold trip_k0_t1.sl.r_172 trip_k0_t1.sl.r_169 trip_k0_t1.sl.r_168 trip_k0_t1.sl.v5
  rw [r_100_eq harg1 harg2 x0 x1 k, r_101_eq harg1 harg2 x0 x1 k, v3291_eq harg1 harg2 arg3 x0 x1 k, v3329_eq harg1 harg2 arg3 x0 x1 k]
  show _ = pairV (tCode x0 x1 k.val 40) (tCode x0 x1 k.val 41)
  unfold pairV tCode codeV
  rw [← ess_col (tSc x0 x1 k.val) 40 (by decide) slices_S32x128_o0_40_S32x1, ← ess_col (tZp x0 x1 k.val) 40 (by decide) slices_S32x128_o0_40_S32x1, ← ess_col (tSc x0 x1 k.val) 41 (by decide) slices_S32x128_o0_41_S32x1, ← ess_col (tZp x0 x1 k.val) 41 (by decide) slices_S32x128_o0_41_S32x1]
  rfl

theorem pair_19 : k0_pay420 (trip_k0_t1.sl.r_100 (F := F) arg1 arg2 (harg1.unread x0) (harg2.unread x1) k) (trip_k0_t1.sl.r_101 (F := F) arg1 arg2 (harg1.unread x0) (harg2.unread x1) k) (k0_pay199 trip_k0_t1.sl.v5) (k0_pay200 trip_k0_t1.sl.v5) (trip_k0_t1.sl.r_167 (F := F) arg1 arg2 arg3 (harg1.unread x0) (harg2.unread x1) k) (k0_pay415 (k0_pay199 trip_k0_t1.sl.v5)) (trip_k0_t1.sl.v3249 (F := F) arg1 arg2 arg3 (harg1.unread x0) (harg2.unread x1) k) = tPair x0 x1 k.val 19 := by
  unfold trip_k0_t1.sl.r_167 trip_k0_t1.sl.v5
  rw [r_100_eq harg1 harg2 x0 x1 k, r_101_eq harg1 harg2 x0 x1 k, v3211_eq harg1 harg2 arg3 x0 x1 k, v3249_eq harg1 harg2 arg3 x0 x1 k]
  show _ = pairV (tCode x0 x1 k.val 38) (tCode x0 x1 k.val 39)
  unfold pairV tCode codeV
  rw [← ess_col (tSc x0 x1 k.val) 38 (by decide) slices_S32x128_o0_38_S32x1, ← ess_col (tZp x0 x1 k.val) 38 (by decide) slices_S32x128_o0_38_S32x1, ← ess_col (tSc x0 x1 k.val) 39 (by decide) slices_S32x128_o0_39_S32x1, ← ess_col (tZp x0 x1 k.val) 39 (by decide) slices_S32x128_o0_39_S32x1]
  rfl

theorem pair_18 : k0_pay409 (k0_pay199 trip_k0_t1.sl.v5) (k0_pay200 trip_k0_t1.sl.v5) (trip_k0_t1.sl.r_165 (F := F) arg1 arg2 arg3 (harg1.unread x0) (harg2.unread x1) k) (trip_k0_t1.sl.r_166 (F := F) arg1 arg2 arg3 (harg1.unread x0) (harg2.unread x1) k) 0#32 = tPair x0 x1 k.val 18 := by
  unfold trip_k0_t1.sl.r_166 trip_k0_t1.sl.r_165 trip_k0_t1.sl.r_163 trip_k0_t1.sl.v5
  rw [r_100_eq harg1 harg2 x0 x1 k, r_101_eq harg1 harg2 x0 x1 k, v3131_eq harg1 harg2 arg3 x0 x1 k, v3169_eq harg1 harg2 arg3 x0 x1 k]
  show _ = pairV (tCode x0 x1 k.val 36) (tCode x0 x1 k.val 37)
  unfold pairV tCode codeV
  rw [← ess_col (tSc x0 x1 k.val) 36 (by decide) slices_S32x128_o0_36_S32x1, ← ess_col (tZp x0 x1 k.val) 36 (by decide) slices_S32x128_o0_36_S32x1, ← ess_col (tSc x0 x1 k.val) 37 (by decide) slices_S32x128_o0_37_S32x1, ← ess_col (tZp x0 x1 k.val) 37 (by decide) slices_S32x128_o0_37_S32x1]
  rfl

theorem pair_17 : k0_pay398 (k0_pay199 trip_k0_t1.sl.v5) (k0_pay200 trip_k0_t1.sl.v5) (trip_k0_t1.sl.r_159 (F := F) arg1 arg2 arg3 (harg1.unread x0) (harg2.unread x1) k) (trip_k0_t1.sl.r_162 (F := F) arg1 arg2 arg3 (harg1.unread x0) (harg2.unread x1) k) = tPair x0 x1 k.val 17 := by
  unfold trip_k0_t1.sl.r_162 trip_k0_t1.sl.r_159 trip_k0_t1.sl.r_158 trip_k0_t1.sl.v5
  rw [r_100_eq harg1 harg2 x0 x1 k, r_101_eq harg1 harg2 x0 x1 k, v3051_eq harg1 harg2 arg3 x0 x1 k, v3089_eq harg1 harg2 arg3 x0 x1 k]
  show _ = pairV (tCode x0 x1 k.val 34) (tCode x0 x1 k.val 35)
  unfold pairV tCode codeV
  rw [← ess_col (tSc x0 x1 k.val) 34 (by decide) slices_S32x128_o0_34_S32x1, ← ess_col (tZp x0 x1 k.val) 34 (by decide) slices_S32x128_o0_34_S32x1, ← ess_col (tSc x0 x1 k.val) 35 (by decide) slices_S32x128_o0_35_S32x1, ← ess_col (tZp x0 x1 k.val) 35 (by decide) slices_S32x128_o0_35_S32x1]
  rfl

theorem pair_16 : k0_pay387 (trip_k0_t1.sl.r_100 (F := F) arg1 arg2 (harg1.unread x0) (harg2.unread x1) k) (trip_k0_t1.sl.r_101 (F := F) arg1 arg2 (harg1.unread x0) (harg2.unread x1) k) (k0_pay199 trip_k0_t1.sl.v5) (k0_pay200 trip_k0_t1.sl.v5) (trip_k0_t1.sl.r_157 (F := F) arg1 arg2 arg3 (harg1.unread x0) (harg2.unread x1) k) (k0_pay382 (k0_pay199 trip_k0_t1.sl.v5)) (trip_k0_t1.sl.v3009 (F := F) arg1 arg2 arg3 (harg1.unread x0) (harg2.unread x1) k) = tPair x0 x1 k.val 16 := by
  unfold trip_k0_t1.sl.r_157 trip_k0_t1.sl.v5
  rw [r_100_eq harg1 harg2 x0 x1 k, r_101_eq harg1 harg2 x0 x1 k, v2971_eq harg1 harg2 arg3 x0 x1 k, v3009_eq harg1 harg2 arg3 x0 x1 k]
  show _ = pairV (tCode x0 x1 k.val 32) (tCode x0 x1 k.val 33)
  unfold pairV tCode codeV
  rw [← ess_col (tSc x0 x1 k.val) 32 (by decide) slices_S32x128_o0_32_S32x1, ← ess_col (tZp x0 x1 k.val) 32 (by decide) slices_S32x128_o0_32_S32x1, ← ess_col (tSc x0 x1 k.val) 33 (by decide) slices_S32x128_o0_33_S32x1, ← ess_col (tZp x0 x1 k.val) 33 (by decide) slices_S32x128_o0_33_S32x1]
  rfl

theorem pair_15 : k0_pay376 (k0_pay199 trip_k0_t1.sl.v5) (k0_pay200 trip_k0_t1.sl.v5) (trip_k0_t1.sl.r_155 (F := F) arg1 arg2 arg3 (harg1.unread x0) (harg2.unread x1) k) (trip_k0_t1.sl.r_156 (F := F) arg1 arg2 arg3 (harg1.unread x0) (harg2.unread x1) k) 0#32 = tPair x0 x1 k.val 15 := by
  unfold trip_k0_t1.sl.r_156 trip_k0_t1.sl.r_155 trip_k0_t1.sl.r_153 trip_k0_t1.sl.v5
  rw [r_100_eq harg1 harg2 x0 x1 k, r_101_eq harg1 harg2 x0 x1 k, v2891_eq harg1 harg2 arg3 x0 x1 k, v2929_eq harg1 harg2 arg3 x0 x1 k]
  show _ = pairV (tCode x0 x1 k.val 30) (tCode x0 x1 k.val 31)
  unfold pairV tCode codeV
  rw [← ess_col (tSc x0 x1 k.val) 30 (by decide) slices_S32x128_o0_30_S32x1, ← ess_col (tZp x0 x1 k.val) 30 (by decide) slices_S32x128_o0_30_S32x1, ← ess_col (tSc x0 x1 k.val) 31 (by decide) slices_S32x128_o0_31_S32x1, ← ess_col (tZp x0 x1 k.val) 31 (by decide) slices_S32x128_o0_31_S32x1]
  rfl

theorem pair_14 : k0_pay365 (k0_pay199 trip_k0_t1.sl.v5) (k0_pay200 trip_k0_t1.sl.v5) (trip_k0_t1.sl.r_149 (F := F) arg1 arg2 arg3 (harg1.unread x0) (harg2.unread x1) k) (trip_k0_t1.sl.r_152 (F := F) arg1 arg2 arg3 (harg1.unread x0) (harg2.unread x1) k) = tPair x0 x1 k.val 14 := by
  unfold trip_k0_t1.sl.r_152 trip_k0_t1.sl.r_149 trip_k0_t1.sl.r_148 trip_k0_t1.sl.v5
  rw [r_100_eq harg1 harg2 x0 x1 k, r_101_eq harg1 harg2 x0 x1 k, v2811_eq harg1 harg2 arg3 x0 x1 k, v2849_eq harg1 harg2 arg3 x0 x1 k]
  show _ = pairV (tCode x0 x1 k.val 28) (tCode x0 x1 k.val 29)
  unfold pairV tCode codeV
  rw [← ess_col (tSc x0 x1 k.val) 28 (by decide) slices_S32x128_o0_28_S32x1, ← ess_col (tZp x0 x1 k.val) 28 (by decide) slices_S32x128_o0_28_S32x1, ← ess_col (tSc x0 x1 k.val) 29 (by decide) slices_S32x128_o0_29_S32x1, ← ess_col (tZp x0 x1 k.val) 29 (by decide) slices_S32x128_o0_29_S32x1]
  rfl

theorem pair_13 : k0_pay354 (trip_k0_t1.sl.r_100 (F := F) arg1 arg2 (harg1.unread x0) (harg2.unread x1) k) (trip_k0_t1.sl.r_101 (F := F) arg1 arg2 (harg1.unread x0) (harg2.unread x1) k) (k0_pay199 trip_k0_t1.sl.v5) (k0_pay200 trip_k0_t1.sl.v5) (trip_k0_t1.sl.r_147 (F := F) arg1 arg2 arg3 (harg1.unread x0) (harg2.unread x1) k) (k0_pay349 (k0_pay199 trip_k0_t1.sl.v5)) (trip_k0_t1.sl.v2769 (F := F) arg1 arg2 arg3 (harg1.unread x0) (harg2.unread x1) k) = tPair x0 x1 k.val 13 := by
  unfold trip_k0_t1.sl.r_147 trip_k0_t1.sl.v5
  rw [r_100_eq harg1 harg2 x0 x1 k, r_101_eq harg1 harg2 x0 x1 k, v2731_eq harg1 harg2 arg3 x0 x1 k, v2769_eq harg1 harg2 arg3 x0 x1 k]
  show _ = pairV (tCode x0 x1 k.val 26) (tCode x0 x1 k.val 27)
  unfold pairV tCode codeV
  rw [← ess_col (tSc x0 x1 k.val) 26 (by decide) slices_S32x128_o0_26_S32x1, ← ess_col (tZp x0 x1 k.val) 26 (by decide) slices_S32x128_o0_26_S32x1, ← ess_col (tSc x0 x1 k.val) 27 (by decide) slices_S32x128_o0_27_S32x1, ← ess_col (tZp x0 x1 k.val) 27 (by decide) slices_S32x128_o0_27_S32x1]
  rfl

theorem pair_12 : k0_pay343 (k0_pay199 trip_k0_t1.sl.v5) (k0_pay200 trip_k0_t1.sl.v5) (trip_k0_t1.sl.r_145 (F := F) arg1 arg2 arg3 (harg1.unread x0) (harg2.unread x1) k) (trip_k0_t1.sl.r_146 (F := F) arg1 arg2 arg3 (harg1.unread x0) (harg2.unread x1) k) 0#32 = tPair x0 x1 k.val 12 := by
  unfold trip_k0_t1.sl.r_146 trip_k0_t1.sl.r_145 trip_k0_t1.sl.r_143 trip_k0_t1.sl.v5
  rw [r_100_eq harg1 harg2 x0 x1 k, r_101_eq harg1 harg2 x0 x1 k, v2651_eq harg1 harg2 arg3 x0 x1 k, v2689_eq harg1 harg2 arg3 x0 x1 k]
  show _ = pairV (tCode x0 x1 k.val 24) (tCode x0 x1 k.val 25)
  unfold pairV tCode codeV
  rw [← ess_col (tSc x0 x1 k.val) 24 (by decide) slices_S32x128_o0_24_S32x1, ← ess_col (tZp x0 x1 k.val) 24 (by decide) slices_S32x128_o0_24_S32x1, ← ess_col (tSc x0 x1 k.val) 25 (by decide) slices_S32x128_o0_25_S32x1, ← ess_col (tZp x0 x1 k.val) 25 (by decide) slices_S32x128_o0_25_S32x1]
  rfl

theorem pair_11 : k0_pay332 (k0_pay199 trip_k0_t1.sl.v5) (k0_pay200 trip_k0_t1.sl.v5) (trip_k0_t1.sl.r_139 (F := F) arg1 arg2 arg3 (harg1.unread x0) (harg2.unread x1) k) (trip_k0_t1.sl.r_142 (F := F) arg1 arg2 arg3 (harg1.unread x0) (harg2.unread x1) k) = tPair x0 x1 k.val 11 := by
  unfold trip_k0_t1.sl.r_142 trip_k0_t1.sl.r_139 trip_k0_t1.sl.r_138 trip_k0_t1.sl.v5
  rw [r_100_eq harg1 harg2 x0 x1 k, r_101_eq harg1 harg2 x0 x1 k, v2571_eq harg1 harg2 arg3 x0 x1 k, v2609_eq harg1 harg2 arg3 x0 x1 k]
  show _ = pairV (tCode x0 x1 k.val 22) (tCode x0 x1 k.val 23)
  unfold pairV tCode codeV
  rw [← ess_col (tSc x0 x1 k.val) 22 (by decide) slices_S32x128_o0_22_S32x1, ← ess_col (tZp x0 x1 k.val) 22 (by decide) slices_S32x128_o0_22_S32x1, ← ess_col (tSc x0 x1 k.val) 23 (by decide) slices_S32x128_o0_23_S32x1, ← ess_col (tZp x0 x1 k.val) 23 (by decide) slices_S32x128_o0_23_S32x1]
  rfl

theorem pair_10 : k0_pay321 (trip_k0_t1.sl.r_100 (F := F) arg1 arg2 (harg1.unread x0) (harg2.unread x1) k) (trip_k0_t1.sl.r_101 (F := F) arg1 arg2 (harg1.unread x0) (harg2.unread x1) k) (k0_pay199 trip_k0_t1.sl.v5) (k0_pay200 trip_k0_t1.sl.v5) (trip_k0_t1.sl.r_137 (F := F) arg1 arg2 arg3 (harg1.unread x0) (harg2.unread x1) k) (k0_pay316 (k0_pay199 trip_k0_t1.sl.v5)) (trip_k0_t1.sl.v2529 (F := F) arg1 arg2 arg3 (harg1.unread x0) (harg2.unread x1) k) = tPair x0 x1 k.val 10 := by
  unfold trip_k0_t1.sl.r_137 trip_k0_t1.sl.v5
  rw [r_100_eq harg1 harg2 x0 x1 k, r_101_eq harg1 harg2 x0 x1 k, v2491_eq harg1 harg2 arg3 x0 x1 k, v2529_eq harg1 harg2 arg3 x0 x1 k]
  show _ = pairV (tCode x0 x1 k.val 20) (tCode x0 x1 k.val 21)
  unfold pairV tCode codeV
  rw [← ess_col (tSc x0 x1 k.val) 20 (by decide) slices_S32x128_o0_20_S32x1, ← ess_col (tZp x0 x1 k.val) 20 (by decide) slices_S32x128_o0_20_S32x1, ← ess_col (tSc x0 x1 k.val) 21 (by decide) slices_S32x128_o0_21_S32x1, ← ess_col (tZp x0 x1 k.val) 21 (by decide) slices_S32x128_o0_21_S32x1]
  rfl

theorem pair_9 : k0_pay310 (k0_pay199 trip_k0_t1.sl.v5) (k0_pay200 trip_k0_t1.sl.v5) (trip_k0_t1.sl.r_135 (F := F) arg1 arg2 arg3 (harg1.unread x0) (harg2.unread x1) k) (trip_k0_t1.sl.r_136 (F := F) arg1 arg2 arg3 (harg1.unread x0) (harg2.unread x1) k) 0#32 = tPair x0 x1 k.val 9 := by
  unfold trip_k0_t1.sl.r_136 trip_k0_t1.sl.r_135 trip_k0_t1.sl.r_133 trip_k0_t1.sl.v5
  rw [r_100_eq harg1 harg2 x0 x1 k, r_101_eq harg1 harg2 x0 x1 k, v2411_eq harg1 harg2 arg3 x0 x1 k, v2449_eq harg1 harg2 arg3 x0 x1 k]
  show _ = pairV (tCode x0 x1 k.val 18) (tCode x0 x1 k.val 19)
  unfold pairV tCode codeV
  rw [← ess_col (tSc x0 x1 k.val) 18 (by decide) slices_S32x128_o0_18_S32x1, ← ess_col (tZp x0 x1 k.val) 18 (by decide) slices_S32x128_o0_18_S32x1, ← ess_col (tSc x0 x1 k.val) 19 (by decide) slices_S32x128_o0_19_S32x1, ← ess_col (tZp x0 x1 k.val) 19 (by decide) slices_S32x128_o0_19_S32x1]
  rfl

theorem pair_8 : k0_pay299 (k0_pay199 trip_k0_t1.sl.v5) (k0_pay200 trip_k0_t1.sl.v5) (trip_k0_t1.sl.r_129 (F := F) arg1 arg2 arg3 (harg1.unread x0) (harg2.unread x1) k) (trip_k0_t1.sl.r_132 (F := F) arg1 arg2 arg3 (harg1.unread x0) (harg2.unread x1) k) = tPair x0 x1 k.val 8 := by
  unfold trip_k0_t1.sl.r_132 trip_k0_t1.sl.r_129 trip_k0_t1.sl.r_128 trip_k0_t1.sl.v5
  rw [r_100_eq harg1 harg2 x0 x1 k, r_101_eq harg1 harg2 x0 x1 k, v2331_eq harg1 harg2 arg3 x0 x1 k, v2369_eq harg1 harg2 arg3 x0 x1 k]
  show _ = pairV (tCode x0 x1 k.val 16) (tCode x0 x1 k.val 17)
  unfold pairV tCode codeV
  rw [← ess_col (tSc x0 x1 k.val) 16 (by decide) slices_S32x128_o0_16_S32x1, ← ess_col (tZp x0 x1 k.val) 16 (by decide) slices_S32x128_o0_16_S32x1, ← ess_col (tSc x0 x1 k.val) 17 (by decide) slices_S32x128_o0_17_S32x1, ← ess_col (tZp x0 x1 k.val) 17 (by decide) slices_S32x128_o0_17_S32x1]
  rfl

theorem pair_7 : k0_pay288 (trip_k0_t1.sl.r_100 (F := F) arg1 arg2 (harg1.unread x0) (harg2.unread x1) k) (trip_k0_t1.sl.r_101 (F := F) arg1 arg2 (harg1.unread x0) (harg2.unread x1) k) (k0_pay199 trip_k0_t1.sl.v5) (k0_pay200 trip_k0_t1.sl.v5) (trip_k0_t1.sl.r_127 (F := F) arg1 arg2 arg3 (harg1.unread x0) (harg2.unread x1) k) (k0_pay283 (k0_pay199 trip_k0_t1.sl.v5)) (trip_k0_t1.sl.v2289 (F := F) arg1 arg2 arg3 (harg1.unread x0) (harg2.unread x1) k) = tPair x0 x1 k.val 7 := by
  unfold trip_k0_t1.sl.r_127 trip_k0_t1.sl.v5
  rw [r_100_eq harg1 harg2 x0 x1 k, r_101_eq harg1 harg2 x0 x1 k, v2251_eq harg1 harg2 arg3 x0 x1 k, v2289_eq harg1 harg2 arg3 x0 x1 k]
  show _ = pairV (tCode x0 x1 k.val 14) (tCode x0 x1 k.val 15)
  unfold pairV tCode codeV
  rw [← ess_col (tSc x0 x1 k.val) 14 (by decide) slices_S32x128_o0_14_S32x1, ← ess_col (tZp x0 x1 k.val) 14 (by decide) slices_S32x128_o0_14_S32x1, ← ess_col (tSc x0 x1 k.val) 15 (by decide) slices_S32x128_o0_15_S32x1, ← ess_col (tZp x0 x1 k.val) 15 (by decide) slices_S32x128_o0_15_S32x1]
  rfl

theorem pair_6 : k0_pay277 (k0_pay199 trip_k0_t1.sl.v5) (k0_pay200 trip_k0_t1.sl.v5) (trip_k0_t1.sl.r_125 (F := F) arg1 arg2 arg3 (harg1.unread x0) (harg2.unread x1) k) (trip_k0_t1.sl.r_126 (F := F) arg1 arg2 arg3 (harg1.unread x0) (harg2.unread x1) k) 0#32 = tPair x0 x1 k.val 6 := by
  unfold trip_k0_t1.sl.r_126 trip_k0_t1.sl.r_125 trip_k0_t1.sl.r_123 trip_k0_t1.sl.v5
  rw [r_100_eq harg1 harg2 x0 x1 k, r_101_eq harg1 harg2 x0 x1 k, v2171_eq harg1 harg2 arg3 x0 x1 k, v2209_eq harg1 harg2 arg3 x0 x1 k]
  show _ = pairV (tCode x0 x1 k.val 12) (tCode x0 x1 k.val 13)
  unfold pairV tCode codeV
  rw [← ess_col (tSc x0 x1 k.val) 12 (by decide) slices_S32x128_o0_12_S32x1, ← ess_col (tZp x0 x1 k.val) 12 (by decide) slices_S32x128_o0_12_S32x1, ← ess_col (tSc x0 x1 k.val) 13 (by decide) slices_S32x128_o0_13_S32x1, ← ess_col (tZp x0 x1 k.val) 13 (by decide) slices_S32x128_o0_13_S32x1]
  rfl

theorem pair_5 : k0_pay266 (k0_pay199 trip_k0_t1.sl.v5) (k0_pay200 trip_k0_t1.sl.v5) (trip_k0_t1.sl.r_119 (F := F) arg1 arg2 arg3 (harg1.unread x0) (harg2.unread x1) k) (trip_k0_t1.sl.r_122 (F := F) arg1 arg2 arg3 (harg1.unread x0) (harg2.unread x1) k) = tPair x0 x1 k.val 5 := by
  unfold trip_k0_t1.sl.r_122 trip_k0_t1.sl.r_119 trip_k0_t1.sl.r_118 trip_k0_t1.sl.v5
  rw [r_100_eq harg1 harg2 x0 x1 k, r_101_eq harg1 harg2 x0 x1 k, v2091_eq harg1 harg2 arg3 x0 x1 k, v2129_eq harg1 harg2 arg3 x0 x1 k]
  show _ = pairV (tCode x0 x1 k.val 10) (tCode x0 x1 k.val 11)
  unfold pairV tCode codeV
  rw [← ess_col (tSc x0 x1 k.val) 10 (by decide) slices_S32x128_o0_10_S32x1, ← ess_col (tZp x0 x1 k.val) 10 (by decide) slices_S32x128_o0_10_S32x1, ← ess_col (tSc x0 x1 k.val) 11 (by decide) slices_S32x128_o0_11_S32x1, ← ess_col (tZp x0 x1 k.val) 11 (by decide) slices_S32x128_o0_11_S32x1]
  rfl

theorem pair_4 : k0_pay255 (trip_k0_t1.sl.r_100 (F := F) arg1 arg2 (harg1.unread x0) (harg2.unread x1) k) (trip_k0_t1.sl.r_101 (F := F) arg1 arg2 (harg1.unread x0) (harg2.unread x1) k) (k0_pay199 trip_k0_t1.sl.v5) (k0_pay200 trip_k0_t1.sl.v5) (trip_k0_t1.sl.r_117 (F := F) arg1 arg2 arg3 (harg1.unread x0) (harg2.unread x1) k) (k0_pay250 (k0_pay199 trip_k0_t1.sl.v5)) (trip_k0_t1.sl.v2049 (F := F) arg1 arg2 arg3 (harg1.unread x0) (harg2.unread x1) k) = tPair x0 x1 k.val 4 := by
  unfold trip_k0_t1.sl.r_117 trip_k0_t1.sl.v5
  rw [r_100_eq harg1 harg2 x0 x1 k, r_101_eq harg1 harg2 x0 x1 k, v2011_eq harg1 harg2 arg3 x0 x1 k, v2049_eq harg1 harg2 arg3 x0 x1 k]
  show _ = pairV (tCode x0 x1 k.val 8) (tCode x0 x1 k.val 9)
  unfold pairV tCode codeV
  rw [← ess_col (tSc x0 x1 k.val) 8 (by decide) slices_S32x128_o0_8_S32x1, ← ess_col (tZp x0 x1 k.val) 8 (by decide) slices_S32x128_o0_8_S32x1, ← ess_col (tSc x0 x1 k.val) 9 (by decide) slices_S32x128_o0_9_S32x1, ← ess_col (tZp x0 x1 k.val) 9 (by decide) slices_S32x128_o0_9_S32x1]
  rfl

theorem pair_3 : k0_pay244 (k0_pay199 trip_k0_t1.sl.v5) (k0_pay200 trip_k0_t1.sl.v5) (trip_k0_t1.sl.r_115 (F := F) arg1 arg2 arg3 (harg1.unread x0) (harg2.unread x1) k) (trip_k0_t1.sl.r_116 (F := F) arg1 arg2 arg3 (harg1.unread x0) (harg2.unread x1) k) 0#32 = tPair x0 x1 k.val 3 := by
  unfold trip_k0_t1.sl.r_116 trip_k0_t1.sl.r_115 trip_k0_t1.sl.r_113 trip_k0_t1.sl.v5
  rw [r_100_eq harg1 harg2 x0 x1 k, r_101_eq harg1 harg2 x0 x1 k, v1931_eq harg1 harg2 arg3 x0 x1 k, v1969_eq harg1 harg2 arg3 x0 x1 k]
  show _ = pairV (tCode x0 x1 k.val 6) (tCode x0 x1 k.val 7)
  unfold pairV tCode codeV
  rw [← ess_col (tSc x0 x1 k.val) 6 (by decide) slices_S32x128_o0_6_S32x1, ← ess_col (tZp x0 x1 k.val) 6 (by decide) slices_S32x128_o0_6_S32x1, ← ess_col (tSc x0 x1 k.val) 7 (by decide) slices_S32x128_o0_7_S32x1, ← ess_col (tZp x0 x1 k.val) 7 (by decide) slices_S32x128_o0_7_S32x1]
  rfl

theorem pair_2 : k0_pay233 (k0_pay199 trip_k0_t1.sl.v5) (k0_pay200 trip_k0_t1.sl.v5) (trip_k0_t1.sl.r_109 (F := F) arg1 arg2 arg3 (harg1.unread x0) (harg2.unread x1) k) (trip_k0_t1.sl.r_112 (F := F) arg1 arg2 arg3 (harg1.unread x0) (harg2.unread x1) k) = tPair x0 x1 k.val 2 := by
  unfold trip_k0_t1.sl.r_112 trip_k0_t1.sl.r_109 trip_k0_t1.sl.r_108 trip_k0_t1.sl.v5
  rw [r_100_eq harg1 harg2 x0 x1 k, r_101_eq harg1 harg2 x0 x1 k, v1851_eq harg1 harg2 arg3 x0 x1 k, v1889_eq harg1 harg2 arg3 x0 x1 k]
  show _ = pairV (tCode x0 x1 k.val 4) (tCode x0 x1 k.val 5)
  unfold pairV tCode codeV
  rw [← ess_col (tSc x0 x1 k.val) 4 (by decide) slices_S32x128_o0_4_S32x1, ← ess_col (tZp x0 x1 k.val) 4 (by decide) slices_S32x128_o0_4_S32x1, ← ess_col (tSc x0 x1 k.val) 5 (by decide) slices_S32x128_o0_5_S32x1, ← ess_col (tZp x0 x1 k.val) 5 (by decide) slices_S32x128_o0_5_S32x1]
  rfl

theorem pair_1 : k0_pay222 (trip_k0_t1.sl.r_100 (F := F) arg1 arg2 (harg1.unread x0) (harg2.unread x1) k) (trip_k0_t1.sl.r_101 (F := F) arg1 arg2 (harg1.unread x0) (harg2.unread x1) k) (k0_pay199 trip_k0_t1.sl.v5) (k0_pay200 trip_k0_t1.sl.v5) (trip_k0_t1.sl.r_107 (F := F) arg1 arg2 arg3 (harg1.unread x0) (harg2.unread x1) k) (k0_pay217 (k0_pay199 trip_k0_t1.sl.v5)) (trip_k0_t1.sl.v1809 (F := F) arg1 arg2 arg3 (harg1.unread x0) (harg2.unread x1) k) = tPair x0 x1 k.val 1 := by
  unfold trip_k0_t1.sl.r_107 trip_k0_t1.sl.v5
  rw [r_100_eq harg1 harg2 x0 x1 k, r_101_eq harg1 harg2 x0 x1 k, v1771_eq harg1 harg2 arg3 x0 x1 k, v1809_eq harg1 harg2 arg3 x0 x1 k]
  show _ = pairV (tCode x0 x1 k.val 2) (tCode x0 x1 k.val 3)
  unfold pairV tCode codeV
  rw [← ess_col (tSc x0 x1 k.val) 2 (by decide) slices_S32x128_o0_2_S32x1, ← ess_col (tZp x0 x1 k.val) 2 (by decide) slices_S32x128_o0_2_S32x1, ← ess_col (tSc x0 x1 k.val) 3 (by decide) slices_S32x128_o0_3_S32x1, ← ess_col (tZp x0 x1 k.val) 3 (by decide) slices_S32x128_o0_3_S32x1]
  rfl

theorem pair_0 : k0_pay211 (k0_pay199 trip_k0_t1.sl.v5) (k0_pay200 trip_k0_t1.sl.v5) (trip_k0_t1.sl.r_105 (F := F) arg1 arg2 arg3 (harg1.unread x0) (harg2.unread x1) k) (trip_k0_t1.sl.r_106 (F := F) arg1 arg2 arg3 (harg1.unread x0) (harg2.unread x1) k) 0#32 = tPair x0 x1 k.val 0 := by
  unfold trip_k0_t1.sl.r_106 trip_k0_t1.sl.r_105 trip_k0_t1.sl.r_103 trip_k0_t1.sl.v5
  rw [r_100_eq harg1 harg2 x0 x1 k, r_101_eq harg1 harg2 x0 x1 k, v1691_eq harg1 harg2 arg3 x0 x1 k, v1729_eq harg1 harg2 arg3 x0 x1 k]
  show _ = pairV (tCode x0 x1 k.val 0) (tCode x0 x1 k.val 1)
  unfold pairV tCode codeV
  rw [← ess_col (tSc x0 x1 k.val) 0 (by decide) slices_S32x128_o0_0_S32x1, ← ess_col (tZp x0 x1 k.val) 0 (by decide) slices_S32x128_o0_0_S32x1, ← ess_col (tSc x0 x1 k.val) 1 (by decide) slices_S32x128_o0_1_S32x1, ← ess_col (tZp x0 x1 k.val) 1 (by decide) slices_S32x128_o0_1_S32x1]
  rfl

end

end Cert.KernelIdeal.Q
end
-- ==== Proof.QTrip.lean ====
module

public import proofs.«01_k».proof.Proof.QCodes

/-! One trip of the slab loop, then all of them: what the quantiser leaves in each of its five output blocks. -/

@[expose] public section

set_option maxRecDepth 4000
set_option maxHeartbeats 2000000

noncomputable section

namespace Cert.KernelIdeal.Q

open Idealize.ShloMosaic Idealize.ShloMosaic.ValueIdx Cert.KernelIdeal.Gen

variable {F : FTy → Type} [FloatOps F]

section
variable {arg1 : Memref sig .tc .vmem S128x6144 .bf16} (harg1 : arg1.IsWhole) {arg2 : Memref sig .tc .vmem S1x6144 .f32} (harg2 : arg2.IsWhole) (arg3 : Memref sig .tc .vmem S128x6144 .bf16)
  (x0 : Vec F S128x6144 .bf16) (x1 : Vec F S1x6144 .f32) (k : Fin k0_t1_loop.trips)

omit [FloatOps F] in
theorem agb {α : Type} (T : ℕ → S32x48.Idx → α) (k : ℕ) (off : Fin 2 → ℕ) (hoff : off = ![32 * k, 0])
    (hb : ∀ a, off a + S32x48.size a ≤ S128x48.size a) (w : S32x48.Idx → α) (h : w = T k) (z : S32x48.Idx) :
    w z = banded T ((Rect.unit (s := S128x48) off S32x48.size hb).emb z) := by
  subst h; exact (banded_emb T k off hoff hb z).symm

theorem inbB (k : Fin k0_t1_loop.trips) {off : Fin 2 → ℕ} (hoff : off = ![32 * k.val, 0]) (a : Fin 2) :
    off a + S32x48.size a ≤ S128x48.size a := by
  subst hoff
  have hk : k.val < 4 := lt_of_lt_of_eq k.isLt (by decide)
  match a with
  | ⟨0, _⟩ => show 32 * k.val + 32 ≤ 128; omega
  | ⟨1, _⟩ => show 0 + 48 ≤ 48; omega

theorem scale_eq : k0_pay196 trip_k0_t1.sl.v5 (trip_k0_t1.sl.r_8 (F := F) arg1 (harg1.unread x0) k) (trip_k0_t1.sl.r_97 arg1 arg2 (harg1.unread x0) (harg2.unread x1) k)
    (trip_k0_t1.sl.r_98 arg1 arg2 (harg1.unread x0) (harg2.unread x1) k) (trip_k0_t1.sl.r_99 arg1 (harg1.unread x0) k)
    (View.readAt (Elt F) arg2.view (Rect.unit (s := S1x6144) ![0, 6016] S1x128.size inb_S1x6144_S1x128_0_6016).toLoadRect (harg2.unread x1)) = tScale x0 x1 k.val := by
  have h : trip_k0_t1.sl.r_100 (F := F) arg1 arg2 (harg1.unread x0) (harg2.unread x1) k = tSc x0 x1 k.val := r_100_eq harg1 harg2 x0 x1 k
  unfold trip_k0_t1.sl.r_100 at h
  unfold k0_pay196 tScale
  rw [h]

section
variable (c : Dev nD) (i : grid0.Coords) (harg3 : arg3.IsWhole)
  (arg4 : Memref sig .tc .vmem S128x3072 .i8) (harg4 : arg4.IsWhole) (arg5 : Memref sig .tc .vmem S128x48 .f32) (harg5 : arg5.IsWhole)
  (arg6 : Memref sig .tc .vmem S128x48 .i8) (harg6 : arg6.IsWhole) (arg7 : Memref sig .tc .vmem S128x6144 .bf16) (harg7 : arg7.IsWhole)

theorem trip_agree (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) :
    Agree (tripL_k0_t1 (F := F) Variants.none c none i arg1 harg1 arg2 harg2 arg3 harg3 arg4 harg4 arg5 harg5 arg6 harg6 arg7 harg7 (harg1.unread x0) (harg2.unread x1) k f3 f4 f5 f6 f7).1 (tiled (tXn x0 x1))
    ∧ Agree (tripL_k0_t1 (F := F) Variants.none c none i arg1 harg1 arg2 harg2 arg3 harg3 arg4 harg4 arg5 harg5 arg6 harg6 arg7 harg7 (harg1.unread x0) (harg2.unread x1) k f3 f4 f5 f6 f7).2.1 (tiled (tPair x0 x1))
    ∧ Agree (tripL_k0_t1 (F := F) Variants.none c none i arg1 harg1 arg2 harg2 arg3 harg3 arg4 harg4 arg5 harg5 arg6 harg6 arg7 harg7 (harg1.unread x0) (harg2.unread x1) k f3 f4 f5 f6 f7).2.2.1 (banded (tScale x0 x1))
    ∧ Agree (tripL_k0_t1 (F := F) Variants.none c none i arg1 harg1 arg2 harg2 arg3 harg3 arg4 harg4 arg5 harg5 arg6 harg6 arg7 harg7 (harg1.unread x0) (harg2.unread x1) k f3 f4 f5 f6 f7).2.2.2.1 (banded (tZero x0 x1))
    ∧ Agree (tripL_k0_t1 (F := F) Variants.none c none i arg1 harg1 arg2 harg2 arg3 harg3 arg4 harg4 arg5 harg5 arg6 harg6 arg7 harg7 (harg1.unread x0) (harg2.unread x1) k f3 f4 f5 f6 f7).2.2.2.2 (tiled (tA x0 x1)) := by
  unfold tripL_k0_t1 trip_k0_t1
  dsimp only
  refine ⟨HW_agree harg1 harg2 x0 x1 k, ?_, ?_, ?_, ?_⟩
  · refine Agree.cons (p := ⟨_, _⟩) ?_ ?_
    · exact ag 3072 (tPair x0 x1) k.val 23 _ (k0_off73_eq k) (inbT k 23 3072 (by decide) (k0_off73_eq k)) _ (pair_23 harg1 harg2 arg3 x0 x1 k)
    refine Agree.cons (p := ⟨_, _⟩) ?_ ?_
    · exact ag 3072 (tPair x0 x1) k.val 22 _ (k0_off72_eq k) (inbT k 22 3072 (by decide) (k0_off72_eq k)) _ (pair_22 harg1 harg2 arg3 x0 x1 k)
    refine Agree.cons (p := ⟨_, _⟩) ?_ ?_
    · exact ag 3072 (tPair x0 x1) k.val 21 _ (k0_off71_eq k) (inbT k 21 3072 (by decide) (k0_off71_eq k)) _ (pair_21 harg1 harg2 arg3 x0 x1 k)
    refine Agree.cons (p := ⟨_, _⟩) ?_ ?_
    · exact ag 3072 (tPair x0 x1) k.val 20 _ (k0_off70_eq k) (inbT k 20 3072 (by decide) (k0_off70_eq k)) _ (pair_20 harg1 harg2 arg3 x0 x1 k)
    refine Agree.cons (p := ⟨_, _⟩) ?_ ?_
    · exact ag 3072 (tPair x0 x1) k.val 19 _ (k0_off69_eq k) (inbT k 19 3072 (by decide) (k0_off69_eq k)) _ (pair_19 harg1 harg2 arg3 x0 x1 k)
    refine Agree.cons (p := ⟨_, _⟩) ?_ ?_
    · exact ag 3072 (tPair x0 x1) k.val 18 _ (k0_off68_eq k) (inbT k 18 3072 (by decide) (k0_off68_eq k)) _ (pair_18 harg1 harg2 arg3 x0 x1 k)
    refine Agree.cons (p := ⟨_, _⟩) ?_ ?_
    · exact ag 3072 (tPair x0 x1) k.val 17 _ (k0_off67_eq k) (inbT k 17 3072 (by decide) (k0_off67_eq k)) _ (pair_17 harg1 harg2 arg3 x0 x1 k)
    refine Agree.cons (p := ⟨_, _⟩) ?_ ?_
    · exact ag 3072 (tPair x0 x1) k.val 16 _ (k0_off66_eq k) (inbT k 16 3072 (by decide) (k0_off66_eq k)) _ (pair_16 harg1 harg2 arg3 x0 x1 k)
    refine Agree.cons (p := ⟨_, _⟩) ?_ ?_
    · exact ag 3072 (tPair x0 x1) k.val 15 _ (k0_off65_eq k) (inbT k 15 3072 (by decide) (k0_off65_eq k)) _ (pair_15 harg1 harg2 arg3 x0 x1 k)
    refine Agree.cons (p := ⟨_, _⟩) ?_ ?_
    · exact ag 3072 (tPair x0 x1) k.val 14 _ (k0_off64_eq k) (inbT k 14 3072 (by decide) (k0_off64_eq k)) _ (pair_14 harg1 harg2 arg3 x0 x1 k)
    refine Agree.cons (p := ⟨_, _⟩) ?_ ?_
    · exact ag 3072 (tPair x0 x1) k.val 13 _ (k0_off63_eq k) (inbT k 13 3072 (by decide) (k0_off63_eq k)) _ (pair_13 harg1 harg2 arg3 x0 x1 k)
    refine Agree.cons (p := ⟨_, _⟩) ?_ ?_
    · exact ag 3072 (tPair x0 x1) k.val 12 _ (k0_off62_eq k) (inbT k 12 3072 (by decide) (k0_off62_eq k)) _ (pair_12 harg1 harg2 arg3 x0 x1 k)
    refine Agree.cons (p := ⟨_, _⟩) ?_ ?_
    · exact ag 3072 (tPair x0 x1) k.val 11 _ (k0_off61_eq k) (inbT k 11 3072 (by decide) (k0_off61_eq k)) _ (pair_11 harg1 harg2 arg3 x0 x1 k)
    refine Agree.cons (p := ⟨_, _⟩) ?_ ?_
    · exact ag 3072 (tPair x0 x1) k.val 10 _ (k0_off60_eq k) (inbT k 10 3072 (by decide) (k0_off60_eq k)) _ (pair_10 harg1 harg2 arg3 x0 x1 k)
    refine Agree.cons (p := ⟨_, _⟩) ?_ ?_
    · exact ag 3072 (tPair x0 x1) k.val 9 _ (k0_off59_eq k) (inbT k 9 3072 (by decide) (k0_off59_eq k)) _ (pair_9 harg1 harg2 arg3 x0 x1 k)
    refine Agree.cons (p := ⟨_, _⟩) ?_ ?_
    · exact ag 3072 (tPair x0 x1) k.val 8 _ (k0_off58_eq k) (inbT k 8 3072 (by decide) (k0_off58_eq k)) _ (pair_8 harg1 harg2 arg3 x0 x1 k)
    refine Agree.cons (p := ⟨_, _⟩) ?_ ?_
    · exact ag 3072 (tPair x0 x1) k.val 7 _ (k0_off57_eq k) (inbT k 7 3072 (by decide) (k0_off57_eq k)) _ (pair_7 harg1 harg2 arg3 x0 x1 k)
    refine Agree.cons (p := ⟨_, _⟩) ?_ ?_
    · exact ag 3072 (tPair x0 x1) k.val 6 _ (k0_off56_eq k) (inbT k 6 3072 (by decide) (k0_off56_eq k)) _ (pair_6 harg1 harg2 arg3 x0 x1 k)
    refine Agree.cons (p := ⟨_, _⟩) ?_ ?_
    · exact ag 3072 (tPair x0 x1) k.val 5 _ (k0_off55_eq k) (inbT k 5 3072 (by decide) (k0_off55_eq k)) _ (pair_5 harg1 harg2 arg3 x0 x1 k)
    refine Agree.cons (p := ⟨_, _⟩) ?_ ?_
    · exact ag 3072 (tPair x0 x1) k.val 4 _ (k0_off54_eq k) (inbT k 4 3072 (by decide) (k0_off54_eq k)) _ (pair_4 harg1 harg2 arg3 x0 x1 k)
    refine Agree.cons (p := ⟨_, _⟩) ?_ ?_
    · exact ag 3072 (tPair x0 x1) k.val 3 _ (k0_off53_eq k) (inbT k 3 3072 (by decide) (k0_off53_eq k)) _ (pair_3 harg1 harg2 arg3 x0 x1 k)
    refine Agree.cons (p := ⟨_, _⟩) ?_ ?_
    · exact ag 3072 (tPair x0 x1) k.val 2 _ (k0_off52_eq k) (inbT k 2 3072 (by decide) (k0_off52_eq k)) _ (pair_2 harg1 harg2 arg3 x0 x1 k)
    refine Agree.cons (p := ⟨_, _⟩) ?_ ?_
    · exact ag 3072 (tPair x0 x1) k.val 1 _ (k0_off51_eq k) (inbT k 1 3072 (by decide) (k0_off51_eq k)) _ (pair_1 harg1 harg2 arg3 x0 x1 k)
    refine Agree.cons (p := ⟨_, _⟩) ?_ ?_
    · exact ag 3072 (tPair x0 x1) k.val 0 _ (k0_off50_eq k) (inbT k 0 3072 (by decide) (k0_off50_eq k)) _ (pair_0 harg1 harg2 arg3 x0 x1 k)
    exact Agree.nil _
  · refine Agree.cons (p := ⟨_, _⟩) ?_ (Agree.nil _)
    exact agb (tScale x0 x1) k.val _ (k0_off49_eq k) (inbB k (k0_off49_eq k)) _ (scale_eq harg1 harg2 x0 x1 k)
  · refine Agree.cons (p := ⟨_, _⟩) ?_ (Agree.nil _)
    refine agb (tZero x0 x1) k.val _ (k0_off49_eq k) (inbB k (k0_off49_eq k)) _ ?_
    rw [r_102_eq harg1 harg2 x0 x1 k]
    rfl
  · refine Agree.cons (p := ⟨_, _⟩) ?_ ?_
    · exact ag 6144 (tA x0 x1) k.val 47 _ (k0_off48_eq k) (inbT k 47 6144 (by decide) (k0_off48_eq k)) _ (a_47 harg1 harg2 arg3  x0 x1 k)
    refine Agree.cons (p := ⟨_, _⟩) ?_ ?_
    · exact ag 6144 (tA x0 x1) k.val 46 _ (k0_off47_eq k) (inbT k 46 6144 (by decide) (k0_off47_eq k)) _ (a_46 harg1 harg2 arg3  x0 x1 k)
    refine Agree.cons (p := ⟨_, _⟩) ?_ ?_
    · exact ag 6144 (tA x0 x1) k.val 45 _ (k0_off46_eq k) (inbT k 45 6144 (by decide) (k0_off46_eq k)) _ (a_45 harg1 harg2 arg3  x0 x1 k)
    refine Agree.cons (p := ⟨_, _⟩) ?_ ?_
    · exact ag 6144 (tA x0 x1) k.val 44 _ (k0_off45_eq k) (inbT k 44 6144 (by decide) (k0_off45_eq k)) _ (a_44 harg1 harg2 arg3  x0 x1 k)
    refine Agree.cons (p := ⟨_, _⟩) ?_ ?_
    · exact ag 6144 (tA x0 x1) k.val 43 _ (k0_off44_eq k) (inbT k 43 6144 (by decide) (k0_off44_eq k)) _ (a_43 harg1 harg2 arg3  x0 x1 k)
    refine Agree.cons (p := ⟨_, _⟩) ?_ ?_
    · exact ag 6144 (tA x0 x1) k.val 42 _ (k0_off43_eq k) (inbT k 42 6144 (by decide) (k0_off43_eq k)) _ (a_42 harg1 harg2 arg3  x0 x1 k)
    refine Agree.cons (p := ⟨_, _⟩) ?_ ?_
    · exact ag 6144 (tA x0 x1) k.val 41 _ (k0_off42_eq k) (inbT k 41 6144 (by decide) (k0_off42_eq k)) _ (a_41 harg1 harg2 arg3  x0 x1 k)
    refine Agree.cons (p := ⟨_, _⟩) ?_ ?_
    · exact ag 6144 (tA x0 x1) k.val 40 _ (k0_off41_eq k) (inbT k 40 6144 (by decide) (k0_off41_eq k)) _ (a_40 harg1 harg2 arg3  x0 x1 k)
    refine Agree.cons (p := ⟨_, _⟩) ?_ ?_
    · exact ag 6144 (tA x0 x1) k.val 39 _ (k0_off40_eq k) (inbT k 39 6144 (by decide) (k0_off40_eq k)) _ (a_39 harg1 harg2 arg3  x0 x1 k)
    refine Agree.cons (p := ⟨_, _⟩) ?_ ?_
    · exact ag 6144 (tA x0 x1) k.val 38 _ (k0_off39_eq k) (inbT k 38 6144 (by decide) (k0_off39_eq k)) _ (a_38 harg1 harg2 arg3  x0 x1 k)
    refine Agree.cons (p := ⟨_, _⟩) ?_ ?_
    · exact ag 6144 (tA x0 x1) k.val 37 _ (k0_off38_eq k) (inbT k 37 6144 (by decide) (k0_off38_eq k)) _ (a_37 harg1 harg2 arg3  x0 x1 k)
    refine Agree.cons (p := ⟨_, _⟩) ?_ ?_
    · exact ag 6144 (tA x0 x1) k.val 36 _ (k0_off37_eq k) (inbT k 36 6144 (by decide) (k0_off37_eq k)) _ (a_36 harg1 harg2 arg3  x0 x1 k)
    refine Agree.cons (p := ⟨_, _⟩) ?_ ?_
    · exact ag 6144 (tA x0 x1) k.val 35 _ (k0_off36_eq k) (inbT k 35 6144 (by decide) (k0_off36_eq k)) _ (a_35 harg1 harg2 arg3  x0 x1 k)
    refine Agree.cons (p := ⟨_, _⟩) ?_ ?_
    · exact ag 6144 (tA x0 x1) k.val 34 _ (k0_off35_eq k) (inbT k 34 6144 (by decide) (k0_off35_eq k)) _ (a_34 harg1 harg2 arg3  x0 x1 k)
    refine Agree.cons (p := ⟨_, _⟩) ?_ ?_
    · exact ag 6144 (tA x0 x1) k.val 33 _ (k0_off34_eq k) (inbT k 33 6144 (by decide) (k0_off34_eq k)) _ (a_33 harg1 harg2 arg3  x0 x1 k)
    refine Agree.cons (p := ⟨_, _⟩) ?_ ?_
    · exact ag 6144 (tA x0 x1) k.val 32 _ (k0_off33_eq k) (inbT k 32 6144 (by decide) (k0_off33_eq k)) _ (a_32 harg1 harg2 arg3  x0 x1 k)
    refine Agree.cons (p := ⟨_, _⟩) ?_ ?_
    · exact ag 6144 (tA x0 x1) k.val 31 _ (k0_off32_eq k) (inbT k 31 6144 (by decide) (k0_off32_eq k)) _ (a_31 harg1 harg2 arg3  x0 x1 k)
    refine Agree.cons (p := ⟨_, _⟩) ?_ ?_
    · exact ag 6144 (tA x0 x1) k.val 30 _ (k0_off31_eq k) (inbT k 30 6144 (by decide) (k0_off31_eq k)) _ (a_30 harg1 harg2 arg3  x0 x1 k)
    refine Agree.cons (p := ⟨_, _⟩) ?_ ?_
    · exact ag 6144 (tA x0 x1) k.val 29 _ (k0_off30_eq k) (inbT k 29 6144 (by decide) (k0_off30_eq k)) _ (a_29 harg1 harg2 arg3  x0 x1 k)
    refine Agree.cons (p := ⟨_, _⟩) ?_ ?_
    · exact ag 6144 (tA x0 x1) k.val 28 _ (k0_off29_eq k) (inbT k 28 6144 (by decide) (k0_off29_eq k)) _ (a_28 harg1 harg2 arg3  x0 x1 k)
    refine Agree.cons (p := ⟨_, _⟩) ?_ ?_
    · exact ag 6144 (tA x0 x1) k.val 27 _ (k0_off28_eq k) (inbT k 27 6144 (by decide) (k0_off28_eq k)) _ (a_27 harg1 harg2 arg3  x0 x1 k)
    refine Agree.cons (p := ⟨_, _⟩) ?_ ?_
    · exact ag 6144 (tA x0 x1) k.val 26 _ (k0_off27_eq k) (inbT k 26 6144 (by decide) (k0_off27_eq k)) _ (a_26 harg1 harg2 arg3  x0 x1 k)
    refine Agree.cons (p := ⟨_, _⟩) ?_ ?_
    · exact ag 6144 (tA x0 x1) k.val 25 _ (k0_off26_eq k) (inbT k 25 6144 (by decide) (k0_off26_eq k)) _ (a_25 harg1 harg2 arg3  x0 x1 k)
    refine Agree.cons (p := ⟨_, _⟩) ?_ ?_
    · exact ag 6144 (tA x0 x1) k.val 24 _ (k0_off25_eq k) (inbT k 24 6144 (by decide) (k0_off25_eq k)) _ (a_24 harg1 harg2 arg3  x0 x1 k)
    refine Agree.cons (p := ⟨_, _⟩) ?_ ?_
    · exact ag 6144 (tA x0 x1) k.val 23 _ (k0_off24_eq k) (inbT k 23 6144 (by decide) (k0_off24_eq k)) _ (a_23 harg1 harg2 arg3  x0 x1 k)
    refine Agree.cons (p := ⟨_, _⟩) ?_ ?_
    · exact ag 6144 (tA x0 x1) k.val 22 _ (k0_off23_eq k) (inbT k 22 6144 (by decide) (k0_off23_eq k)) _ (a_22 harg1 harg2 arg3  x0 x1 k)
    refine Agree.cons (p := ⟨_, _⟩) ?_ ?_
    · exact ag 6144 (tA x0 x1) k.val 21 _ (k0_off22_eq k) (inbT k 21 6144 (by decide) (k0_off22_eq k)) _ (a_21 harg1 harg2 arg3  x0 x1 k)
    refine Agree.cons (p := ⟨_, _⟩) ?_ ?_
    · exact ag 6144 (tA x0 x1) k.val 20 _ (k0_off21_eq k) (inbT k 20 6144 (by decide) (k0_off21_eq k)) _ (a_20 harg1 harg2 arg3  x0 x1 k)
    refine Agree.cons (p := ⟨_, _⟩) ?_ ?_
    · exact ag 6144 (tA x0 x1) k.val 19 _ (k0_off20_eq k) (inbT k 19 6144 (by decide) (k0_off20_eq k)) _ (a_19 harg1 harg2 arg3  x0 x1 k)
    refine Agree.cons (p := ⟨_, _⟩) ?_ ?_
    · exact ag 6144 (tA x0 x1) k.val 18 _ (k0_off19_eq k) (inbT k 18 6144 (by decide) (k0_off19_eq k)) _ (a_18 harg1 harg2 arg3  x0 x1 k)
    refine Agree.cons (p := ⟨_, _⟩) ?_ ?_
    · exact ag 6144 (tA x0 x1) k.val 17 _ (k0_off18_eq k) (inbT k 17 6144 (by decide) (k0_off18_eq k)) _ (a_17 harg1 harg2 arg3  x0 x1 k)
    refine Agree.cons (p := ⟨_, _⟩) ?_ ?_
    · exact ag 6144 (tA x0 x1) k.val 16 _ (k0_off17_eq k) (inbT k 16 6144 (by decide) (k0_off17_eq k)) _ (a_16 harg1 harg2 arg3  x0 x1 k)
    refine Agree.cons (p := ⟨_, _⟩) ?_ ?_
    · exact ag 6144 (tA x0 x1) k.val 15 _ (k0_off16_eq k) (inbT k 15 6144 (by decide) (k0_off16_eq k)) _ (a_15 harg1 harg2 arg3  x0 x1 k)
    refine Agree.cons (p := ⟨_, _⟩) ?_ ?_
    · exact ag 6144 (tA x0 x1) k.val 14 _ (k0_off15_eq k) (inbT k 14 6144 (by decide) (k0_off15_eq k)) _ (a_14 harg1 harg2 arg3  x0 x1 k)
    refine Agree.cons (p := ⟨_, _⟩) ?_ ?_
    · exact ag 6144 (tA x0 x1) k.val 13 _ (k0_off14_eq k) (inbT k 13 6144 (by decide) (k0_off14_eq k)) _ (a_13 harg1 harg2 arg3  x0 x1 k)
    refine Agree.cons (p := ⟨_, _⟩) ?_ ?_
    · exact ag 6144 (tA x0 x1) k.val 12 _ (k0_off13_eq k) (inbT k 12 6144 (by decide) (k0_off13_eq k)) _ (a_12 harg1 harg2 arg3  x0 x1 k)
    refine Agree.cons (p := ⟨_, _⟩) ?_ ?_
    · exact ag 6144 (tA x0 x1) k.val 11 _ (k0_off12_eq k) (inbT k 11 6144 (by decide) (k0_off12_eq k)) _ (a_11 harg1 harg2 arg3  x0 x1 k)
    refine Agree.cons (p := ⟨_, _⟩) ?_ ?_
    · exact ag 6144 (tA x0 x1) k.val 10 _ (k0_off11_eq k) (inbT k 10 6144 (by decide) (k0_off11_eq k)) _ (a_10 harg1 harg2 arg3  x0 x1 k)
    refine Agree.cons (p := ⟨_, _⟩) ?_ ?_
    · exact ag 6144 (tA x0 x1) k.val 9 _ (k0_off10_eq k) (inbT k 9 6144 (by decide) (k0_off10_eq k)) _ (a_9 harg1 harg2 arg3  x0 x1 k)
    refine Agree.cons (p := ⟨_, _⟩) ?_ ?_
    · exact ag 6144 (tA x0 x1) k.val 8 _ (k0_off9_eq k) (inbT k 8 6144 (by decide) (k0_off9_eq k)) _ (a_8 harg1 harg2 arg3  x0 x1 k)
    refine Agree.cons (p := ⟨_, _⟩) ?_ ?_
    · exact ag 6144 (tA x0 x1) k.val 7 _ (k0_off8_eq k) (inbT k 7 6144 (by decide) (k0_off8_eq k)) _ (a_7 harg1 harg2 arg3  x0 x1 k)
    refine Agree.cons (p := ⟨_, _⟩) ?_ ?_
    · exact ag 6144 (tA x0 x1) k.val 6 _ (k0_off7_eq k) (inbT k 6 6144 (by decide) (k0_off7_eq k)) _ (a_6 harg1 harg2 arg3  x0 x1 k)
    refine Agree.cons (p := ⟨_, _⟩) ?_ ?_
    · exact ag 6144 (tA x0 x1) k.val 5 _ (k0_off6_eq k) (inbT k 5 6144 (by decide) (k0_off6_eq k)) _ (a_5 harg1 harg2 arg3  x0 x1 k)
    refine Agree.cons (p := ⟨_, _⟩) ?_ ?_
    · exact ag 6144 (tA x0 x1) k.val 4 _ (k0_off5_eq k) (inbT k 4 6144 (by decide) (k0_off5_eq k)) _ (a_4 harg1 harg2 arg3  x0 x1 k)
    refine Agree.cons (p := ⟨_, _⟩) ?_ ?_
    · exact ag 6144 (tA x0 x1) k.val 3 _ (k0_off4_eq k) (inbT k 3 6144 (by decide) (k0_off4_eq k)) _ (a_3 harg1 harg2 arg3  x0 x1 k)
    refine Agree.cons (p := ⟨_, _⟩) ?_ ?_
    · exact ag 6144 (tA x0 x1) k.val 2 _ (k0_off3_eq k) (inbT k 2 6144 (by decide) (k0_off3_eq k)) _ (a_2 harg1 harg2 arg3  x0 x1 k)
    refine Agree.cons (p := ⟨_, _⟩) ?_ ?_
    · exact ag 6144 (tA x0 x1) k.val 1 _ (k0_off2_eq k) (inbT k 1 6144 (by decide) (k0_off2_eq k)) _ (a_1 harg1 harg2 arg3  x0 x1 k)
    refine Agree.cons (p := ⟨_, _⟩) ?_ ?_
    · exact ag 6144 (tA x0 x1) k.val 0 _ (k0_off1_eq k) (inbT k 0 6144 (by decide) (k0_off1_eq k)) _ (a_0 harg1 harg2 arg3  x0 x1 k)
    exact Agree.nil _

theorem pb_agree (G3 : BufTy.Contents (Elt F) arg3.view.ty) (G4 : BufTy.Contents (Elt F) arg4.view.ty) (G5 : BufTy.Contents (Elt F) arg5.view.ty)
    (G6 : BufTy.Contents (Elt F) arg6.view.ty) (G7 : BufTy.Contents (Elt F) arg7.view.ty) : ∀ n : ℕ,
    Agree (pb_k0_t1 (F := F) Variants.none c none i arg1 harg1 arg2 harg2 arg3 harg3 arg4 harg4 arg5 harg5 arg6 harg6 arg7 harg7 (harg1.unread x0) (harg2.unread x1) G3 G4 G5 G6 G7 n).1 (tiled (tXn x0 x1))
    ∧ Agree (pb_k0_t1 (F := F) Variants.none c none i arg1 harg1 arg2 harg2 arg3 harg3 arg4 harg4 arg5 harg5 arg6 harg6 arg7 harg7 (harg1.unread x0) (harg2.unread x1) G3 G4 G5 G6 G7 n).2.1 (tiled (tPair x0 x1))
    ∧ Agree (pb_k0_t1 (F := F) Variants.none c none i arg1 harg1 arg2 harg2 arg3 harg3 arg4 harg4 arg5 harg5 arg6 harg6 arg7 harg7 (harg1.unread x0) (harg2.unread x1) G3 G4 G5 G6 G7 n).2.2.1 (banded (tScale x0 x1))
    ∧ Agree (pb_k0_t1 (F := F) Variants.none c none i arg1 harg1 arg2 harg2 arg3 harg3 arg4 harg4 arg5 harg5 arg6 harg6 arg7 harg7 (harg1.unread x0) (harg2.unread x1) G3 G4 G5 G6 G7 n).2.2.2.1 (banded (tZero x0 x1))
    ∧ Agree (pb_k0_t1 (F := F) Variants.none c none i arg1 harg1 arg2 harg2 arg3 harg3 arg4 harg4 arg5 harg5 arg6 harg6 arg7 harg7 (harg1.unread x0) (harg2.unread x1) G3 G4 G5 G6 G7 n).2.2.2.2 (tiled (tA x0 x1))
  | 0 => ⟨Agree.nil _, Agree.nil _, Agree.nil _, Agree.nil _, Agree.nil _⟩
  | n + 1 => by
    have ih := pb_agree G3 G4 G5 G6 G7 n
    rw [pb_k0_t1.eq_2]
    unfold pb_k0_t1Step
    by_cases h : n < k0_t1_loop.trips
    · rw [dif_pos h]
      obtain ⟨a3, a4, a5, a6, a7⟩ := trip_agree harg1 harg2 arg3 x0 x1 ⟨n, h⟩ c i harg3 arg4 harg4 arg5 harg5 arg6 harg6 arg7 harg7
        (arg3.view.writes (Elt F) G3 (pb_k0_t1 (F := F) Variants.none c none i arg1 harg1 arg2 harg2 arg3 harg3 arg4 harg4 arg5 harg5 arg6 harg6 arg7 harg7 (harg1.unread x0) (harg2.unread x1) G3 G4 G5 G6 G7 n).1)
        (arg4.view.writes (Elt F) G4 (pb_k0_t1 (F := F) Variants.none c none i arg1 harg1 arg2 harg2 arg3 harg3 arg4 harg4 arg5 harg5 arg6 harg6 arg7 harg7 (harg1.unread x0) (harg2.unread x1) G3 G4 G5 G6 G7 n).2.1)
        (arg5.view.writes (Elt F) G5 (pb_k0_t1 (F := F) Variants.none c none i arg1 harg1 arg2 harg2 arg3 harg3 arg4 harg4 arg5 harg5 arg6 harg6 arg7 harg7 (harg1.unread x0) (harg2.unread x1) G3 G4 G5 G6 G7 n).2.2.1)
        (arg6.view.writes (Elt F) G6 (pb_k0_t1 (F := F) Variants.none c none i arg1 harg1 arg2 harg2 arg3 harg3 arg4 harg4 arg5 harg5 arg6 harg6 arg7 harg7 (harg1.unread x0) (harg2.unread x1) G3 G4 G5 G6 G7 n).2.2.2.1)
        (arg7.view.writes (Elt F) G7 (pb_k0_t1 (F := F) Variants.none c none i arg1 harg1 arg2 harg2 arg3 harg3 arg4 harg4 arg5 harg5 arg6 harg6 arg7 harg7 (harg1.unread x0) (harg2.unread x1) G3 G4 G5 G6 G7 n).2.2.2.2)
      exact ⟨a3.append ih.1, a4.append ih.2.1, a5.append ih.2.2.1, a6.append ih.2.2.2.1, a7.append ih.2.2.2.2⟩
    · rw [dif_neg h]; exact ih

end

/-- Stores that agree with `G` and cover the block leave `G`. -/
theorem read_of_agree {s : Shape} {e : EltTy} (v : View sig .tc .vmem s e) (L : List (View.Piece (Elt F) s e)) (G : s.Idx → Elt F e)
    (hL : Agree L G) (hc : ∀ y, ∃ p ∈ L, y ∈ p.1.set) : v.read (Elt F) (v.writes (Elt F) v.junk L) = G := by
  funext y
  rw [View.read_writes_junk_apply_eq_canon]
  exact View.canon_apply_of_pieces G L hL y (hc y)

theorem out2_eq (c : Dev nD) (i : grid0.Coords) (harg3 : arg3.IsWhole)
  (arg4 : Memref sig .tc .vmem S128x3072 .i8) (harg4 : arg4.IsWhole) (arg5 : Memref sig .tc .vmem S128x48 .f32) (harg5 : arg5.IsWhole)
  (arg6 : Memref sig .tc .vmem S128x48 .i8) (harg6 : arg6.IsWhole) (arg7 : Memref sig .tc .vmem S128x6144 .bf16) (harg7 : arg7.IsWhole) :
    out0_A_2 (F := F) c i arg1 harg1 arg2 harg2 arg3 harg3 arg4 harg4 arg5 harg5 arg6 harg6 arg7 harg7 x0 x1 = tiled (tXn x0 x1) := by
  unfold out0_A_2
  refine read_of_agree _ _ _ ?_ (fun y => cover0_A_2 c i arg1 harg1 arg2 harg2 arg3 harg3 arg4 harg4 arg5 harg5 arg6 harg6 arg7 harg7 x0 x1 y)
  exact (pb_agree harg1 harg2 arg3 x0 x1 c i harg3 arg4 harg4 arg5 harg5 arg6 harg6 arg7 harg7 _ _ _ _ _ _).1

theorem out3_eq (c : Dev nD) (i : grid0.Coords) (harg3 : arg3.IsWhole)
  (arg4 : Memref sig .tc .vmem S128x3072 .i8) (harg4 : arg4.IsWhole) (arg5 : Memref sig .tc .vmem S128x48 .f32) (harg5 : arg5.IsWhole)
  (arg6 : Memref sig .tc .vmem S128x48 .i8) (harg6 : arg6.IsWhole) (arg7 : Memref sig .tc .vmem S128x6144 .bf16) (harg7 : arg7.IsWhole) :
    out0_A_3 (F := F) c i arg1 harg1 arg2 harg2 arg3 harg3 arg4 harg4 arg5 harg5 arg6 harg6 arg7 harg7 x0 x1 = tiled (tPair x0 x1) := by
  unfold out0_A_3
  refine read_of_agree _ _ _ ?_ (fun y => cover0_A_3 c i arg1 harg1 arg2 harg2 arg3 harg3 arg4 harg4 arg5 harg5 arg6 harg6 arg7 harg7 x0 x1 y)
  exact (pb_agree harg1 harg2 arg3 x0 x1 c i harg3 arg4 harg4 arg5 harg5 arg6 harg6 arg7 harg7 _ _ _ _ _ _).2.1

theorem out4_eq (c : Dev nD) (i : grid0.Coords) (harg3 : arg3.IsWhole)
  (arg4 : Memref sig .tc .vmem S128x3072 .i8) (harg4 : arg4.IsWhole) (arg5 : Memref sig .tc .vmem S128x48 .f32) (harg5 : arg5.IsWhole)
  (arg6 : Memref sig .tc .vmem S128x48 .i8) (harg6 : arg6.IsWhole) (arg7 : Memref sig .tc .vmem S128x6144 .bf16) (harg7 : arg7.IsWhole) :
    out0_A_4 (F := F) c i arg1 harg1 arg2 harg2 arg3 harg3 arg4 harg4 arg5 harg5 arg6 harg6 arg7 harg7 x0 x1 = banded (tScale x0 x1) := by
  unfold out0_A_4
  refine read_of_agree _ _ _ ?_ (fun y => cover0_A_4 c i arg1 harg1 arg2 harg2 arg3 harg3 arg4 harg4 arg5 harg5 arg6 harg6 arg7 harg7 x0 x1 y)
  exact (pb_agree harg1 harg2 arg3 x0 x1 c i harg3 arg4 harg4 arg5 harg5 arg6 harg6 arg7 harg7 _ _ _ _ _ _).2.2.1

theorem out5_eq (c : Dev nD) (i : grid0.Coords) (harg3 : arg3.IsWhole)
  (arg4 : Memref sig .tc .vmem S128x3072 .i8) (harg4 : arg4.IsWhole) (arg5 : Memref sig .tc .vmem S128x48 .f32) (harg5 : arg5.IsWhole)
  (arg6 : Memref sig .tc .vmem S128x48 .i8) (harg6 : arg6.IsWhole) (arg7 : Memref sig .tc .vmem S128x6144 .bf16) (harg7 : arg7.IsWhole) :
    out0_A_5 (F := F) c i arg1 harg1 arg2 harg2 arg3 harg3 arg4 harg4 arg5 harg5 arg6 harg6 arg7 harg7 x0 x1 = banded (tZero x0 x1) := by
  unfold out0_A_5
  refine read_of_agree _ _ _ ?_ (fun y => cover0_A_5 c i arg1 harg1 arg2 harg2 arg3 harg3 arg4 harg4 arg5 harg5 arg6 harg6 arg7 harg7 x0 x1 y)
  exact (pb_agree harg1 harg2 arg3 x0 x1 c i harg3 arg4 harg4 arg5 harg5 arg6 harg6 arg7 harg7 _ _ _ _ _ _).2.2.2.1

theorem out6_eq (c : Dev nD) (i : grid0.Coords) (harg3 : arg3.IsWhole)
  (arg4 : Memref sig .tc .vmem S128x3072 .i8) (harg4 : arg4.IsWhole) (arg5 : Memref sig .tc .vmem S128x48 .f32) (harg5 : arg5.IsWhole)
  (arg6 : Memref sig .tc .vmem S128x48 .i8) (harg6 : arg6.IsWhole) (arg7 : Memref sig .tc .vmem S128x6144 .bf16) (harg7 : arg7.IsWhole) :
    out0_A_6 (F := F) c i arg1 harg1 arg2 harg2 arg3 harg3 arg4 harg4 arg5 harg5 arg6 harg6 arg7 harg7 x0 x1 = tiled (tA x0 x1) := by
  unfold out0_A_6
  refine read_of_agree _ _ _ ?_ (fun y => cover0_A_6 c i arg1 harg1 arg2 harg2 arg3 harg3 arg4 harg4 arg5 harg5 arg6 harg6 arg7 harg7 x0 x1 y)
  exact (pb_agree harg1 harg2 arg3 x0 x1 c i harg3 arg4 harg4 arg5 harg5 arg6 harg6 arg7 harg7 _ _ _ _ _ _).2.2.2.2

end

end Cert.KernelIdeal.Q
end
-- ==== Proof.KArr0.lean ====
module

public import proofs.«01_k».proof.Proof.QBlock
public import proofs.«01_k».proof.Proof.QTrip
public import Idealize.ShloMosaic.Lib.Pipeline.ValueKit

/-! The quantiser's five arrays after its 72 steps, each as one function of the reshaped arguments. -/

@[expose] public section

noncomputable section

namespace Cert.KernelIdeal.Q

open Idealize.ShloMosaic Idealize.ShloMosaic.TcCoe Cert.KernelIdeal.Gen Cert.Spec Idealize.SL.Sem
open Idealize.ShloMosaic.Pipeline (Dat)

/-- Row `i` of the tokens, normalised. -/
def vA (X : Vec Ideal S9216x6144 .bf16) (G : Vec Ideal S1x6144 .f32) (i : Fin 9216) : Fin 6144 → EReal :=
  xnS (fun d => X (ix2 i d)) (fun d => G (ix2 (0 : Fin 1) d))

variable (V : (c : Dev nD) → (b : Ref sig .tc) → Buf (Elt Ideal) ((c : Thread nD τ).loc b))

/-- Every window of the quantiser steps 128 rows a point; the gains stay. -/
theorem ix0 : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0])

theorem t0_lt (t : Fin cfg0.N) : t.val < 72 := lt_of_lt_of_eq t.isLt Gen.N_0

/-- Row `p` of the block at point `t`. -/
theorem vB_blk (c : Dev nD) (t : Fin cfg0.N) (p : Fin 128) (i : Fin 9216) (hi : i.val = t.val * 128 + p.val) :
    vB (iblk0 V c 0 t) (iblk0 V c 1 t) p = vA (V c main_v0) (V c main_v1) i := by
  unfold vB vA
  have h0 : ∀ d : Fin 6144, (iblk0 V c 0 t : Vec Ideal S128x6144 .bf16) (ix2 p d) = (V c main_v0 : Vec Ideal S9216x6144 .bf16) (ix2 i d) := by
    intro d
    have e := (ix0 t).1
    blk_ext [iblk0, e]
  have h1 : ∀ d : Fin 6144, (iblk0 V c 1 t : Vec Ideal S1x6144 .f32) (ix2 (0 : Fin 1) d) = (V c main_v1 : Vec Ideal S1x6144 .f32) (ix2 (0 : Fin 1) d) := by
    intro d
    have e := (ix0 t).2.1
    blk_ext [iblk0, e]
  rw [funext h0, funext h1]

theorem blk0_2 (c : Dev nD) (t : Fin cfg0.N) (y : S128x6144.Idx) (i : S9216x6144.Idx) (h0 : (i 0).val = t.val * 128 + (y 0).val)
    (h1 : (i 1).val = (y 1).val) : (outsAt0 V c t).1 y = vA (V c main_v0) (V c main_v1) (i 0) (i 1) := by
  unfold outsAt0
  show out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) y = _
  rw [out2_eq]
  obtain ⟨p, q, rfl⟩ : ∃ (p : Fin 128) (q : Fin 6144), y = ix2 p q := ⟨y 0, y 1, eq_ix2 y⟩
  obtain ⟨r, q', rfl⟩ : ∃ (r : Fin 9216) (q' : Fin 6144), i = ix2 r q' := ⟨i 0, i 1, eq_ix2 i⟩
  obtain rfl : q' = q := Fin.ext h1
  rw [blkXn, vB_blk V c t p r h0]
  rfl

theorem arr0_2 (c : Dev nD) : (dat0 V c).arrAt 2 cfg0.N = fun y : S9216x6144.Idx => vA (V c main_v0) (V c main_v1) (y 0) (y 1) := by
  refine (dat0 V c).arrAt_eq_of_covers 2 _ (by decide +kernel) fun t hf y => ?_
  have e := (ix0 t).2.2.1
  blk_simp
  rw [after0_2]
  exact blk0_2 V c t y _ (by blk_simp [e]) (by blk_simp [e])

theorem blk0_3 (c : Dev nD) (t : Fin cfg0.N) (y : S128x3072.Idx) (i : S9216x3072.Idx) (h0 : (i 0).val = t.val * 128 + (y 0).val)
    (h1 : (i 1).val = (y 1).val) : (outsAt0 V c t).2.1 y = pkR (vA (V c main_v0) (V c main_v1) (i 0)) (i 1) := by
  unfold outsAt0
  show out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) y = _
  rw [out3_eq]
  obtain ⟨p, q, rfl⟩ : ∃ (p : Fin 128) (q : Fin 3072), y = ix2 p q := ⟨y 0, y 1, eq_ix2 y⟩
  obtain ⟨r, q', rfl⟩ : ∃ (r : Fin 9216) (q' : Fin 3072), i = ix2 r q' := ⟨i 0, i 1, eq_ix2 i⟩
  obtain rfl : q' = q := Fin.ext h1
  rw [blkPk, vB_blk V c t p r h0]
  rfl

theorem arr0_3 (c : Dev nD) : (dat0 V c).arrAt 3 cfg0.N = fun y : S9216x3072.Idx => pkR (vA (V c main_v0) (V c main_v1) (y 0)) (y 1) := by
  refine (dat0 V c).arrAt_eq_of_covers 3 _ (by decide +kernel) fun t hf y => ?_
  have e := (ix0 t).2.2.2.1
  blk_simp
  rw [after0_3]
  exact blk0_3 V c t y _ (by blk_simp [e]) (by blk_simp [e])

theorem blk0_4 (c : Dev nD) (t : Fin cfg0.N) (y : S128x48.Idx) (i : S9216x48.Idx) (h0 : (i 0).val = t.val * 128 + (y 0).val)
    (h1 : (i 1).val = (y 1).val) : (outsAt0 V c t).2.2.1 y = scR (vA (V c main_v0) (V c main_v1) (i 0)) (i 1) := by
  unfold outsAt0
  show out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) y = _
  rw [out4_eq]
  obtain ⟨p, q, rfl⟩ : ∃ (p : Fin 128) (q : Fin 48), y = ix2 p q := ⟨y 0, y 1, eq_ix2 y⟩
  obtain ⟨r, q', rfl⟩ : ∃ (r : Fin 9216) (q' : Fin 48), i = ix2 r q' := ⟨i 0, i 1, eq_ix2 i⟩
  obtain rfl : q' = q := Fin.ext h1
  rw [blkScale, vB_blk V c t p r h0]
  rfl

theorem arr0_4 (c : Dev nD) : (dat0 V c).arrAt 4 cfg0.N = fun y : S9216x48.Idx => scR (vA (V c main_v0) (V c main_v1) (y 0)) (y 1) := by
  refine (dat0 V c).arrAt_eq_of_covers 4 _ (by decide +kernel) fun t hf y => ?_
  have e := (ix0 t).2.2.2.2.1
  blk_simp
  rw [after0_4]
  exact blk0_4 V c t y _ (by blk_simp [e]) (by blk_simp [e])

theorem blk0_5 (c : Dev nD) (t : Fin cfg0.N) (y : S128x48.Idx) (i : S9216x48.Idx) (h0 : (i 0).val = t.val * 128 + (y 0).val)
    (h1 : (i 1).val = (y 1).val) : (outsAt0 V c t).2.2.2.1 y = zpR (vA (V c main_v0) (V c main_v1) (i 0)) (i 1) := by
  unfold outsAt0
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) y = _
  rw [out5_eq]
  obtain ⟨p, q, rfl⟩ : ∃ (p : Fin 128) (q : Fin 48), y = ix2 p q := ⟨y 0, y 1, eq_ix2 y⟩
  obtain ⟨r, q', rfl⟩ : ∃ (r : Fin 9216) (q' : Fin 48), i = ix2 r q' := ⟨i 0, i 1, eq_ix2 i⟩
  obtain rfl : q' = q := Fin.ext h1
  rw [blkZero, vB_blk V c t p r h0]
  rfl

theorem arr0_5 (c : Dev nD) : (dat0 V c).arrAt 5 cfg0.N = fun y : S9216x48.Idx => zpR (vA (V c main_v0) (V c main_v1) (y 0)) (y 1) := by
  refine (dat0 V c).arrAt_eq_of_covers 5 _ (by decide +kernel) fun t hf y => ?_
  have e := (ix0 t).2.2.2.2.2.1
  blk_simp
  rw [after0_5]
  exact blk0_5 V c t y _ (by blk_simp [e]) (by blk_simp [e])

theorem blk0_6 (c : Dev nD) (t : Fin cfg0.N) (y : S128x6144.Idx) (i : S9216x6144.Idx) (h0 : (i 0).val = t.val * 128 + (y 0).val)
    (h1 : (i 1).val = (y 1).val) : (outsAt0 V c t).2.2.2.2 y = aR (vA (V c main_v0) (V c main_v1) (i 0)) (i 1) := by
  unfold outsAt0
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) y = _
  rw [out6_eq]
  obtain ⟨p, q, rfl⟩ : ∃ (p : Fin 128) (q : Fin 6144), y = ix2 p q := ⟨y 0, y 1, eq_ix2 y⟩
  obtain ⟨r, q', rfl⟩ : ∃ (r : Fin 9216) (q' : Fin 6144), i = ix2 r q' := ⟨i 0, i 1, eq_ix2 i⟩
  obtain rfl : q' = q := Fin.ext h1
  rw [blkA, vB_blk V c t p r h0]
  rfl

theorem arr0_6 (c : Dev nD) : (dat0 V c).arrAt 6 cfg0.N = fun y : S9216x6144.Idx => aR (vA (V c main_v0) (V c main_v1) (y 0)) (y 1) := by
  refine (dat0 V c).arrAt_eq_of_covers 6 _ (by decide +kernel) fun t hf y => ?_
  have e := (ix0 t).2.2.2.2.2.2
  blk_simp
  rw [after0_6]
  exact blk0_6 V c t y _ (by blk_simp [e]) (by blk_simp [e])

end Cert.KernelIdeal.Q
-- ==== Proof.MDot.lean ====
module

public import proofs.«01_k».proof.Proof.QTrip

/-! What one step of the product computes: the weights of a block dequantised group by group into the scratch, and the
block of tokens times the whole scratch. -/

@[expose] public section

noncomputable section

namespace Cert.KernelIdeal.Q

open Idealize.ShloMosaic Idealize.ShloMosaic.ValueIdx Cert.KernelIdeal.Gen

variable {F : FTy → Type} [FloatOps F]

/-- The packed rows and the scales of group `g`. -/
def wq (x1 : Vec F S3072x512 .i8) (g : ℕ) : Vec F S64x512 .i8 := fun z =>
  x1 (ix2 (⟨(64 * g + (z 0).val) % 3072, Nat.mod_lt _ (by decide)⟩ : Fin 3072) (z 1 : Fin 512))
def wr (x2 : Vec F S48x512 .f32) (g : ℕ) : Vec F S1x512 .f32 := fun z =>
  x2 (ix2 (⟨g % 48, Nat.mod_lt _ (by decide)⟩ : Fin 48) (z 1 : Fin 512))
/-- Group `g` dequantised. -/
def wB (x1 : Vec F S3072x512 .i8) (x2 : Vec F S48x512 .f32) (g : ℕ) : FVec F S128x512 .bf16 := k1_pay2 (wq x1 g) (wr x2 g)

/-- An array of 6144 rows cut in bands of 128. -/
def tiledW {α : Type} (T : ℕ → S128x512.Idx → α) : S6144x512.Idx → α := fun y =>
  T ((y 0).val / 128) (ix2 (⟨(y 0).val % 128, Nat.mod_lt _ (by decide)⟩ : Fin 128) (y 1 : Fin 512))

theorem agw {α : Type} (T : ℕ → S128x512.Idx → α) (g : ℕ) (off : Fin 2 → ℕ) (hoff : off = ![128 * g, 0])
    (hb : ∀ a, off a + S128x512.size a ≤ S6144x512.size a) (w : S128x512.Idx → α) (h : w = T g) (z : S128x512.Idx) :
    w z = tiledW T ((Rect.unit (s := S6144x512) off S128x512.size hb).emb z) := by
  subst h hoff
  have h0 : (z 0).val < 128 := (z 0).isLt
  have e0 : (((Rect.unit (s := S6144x512) ![128 * g, 0] S128x512.size hb).emb z) 0).val = 128 * g + (z 0).val := by
    show 128 * g + 1 * (z 0).val = _; omega
  have e1 : (((Rect.unit (s := S6144x512) ![128 * g, 0] S128x512.size hb).emb z) 1) = z 1 := by
    apply Fin.ext; show 0 + 1 * (z 1).val = _; omega
  unfold tiledW
  have q0 : (128 * g + (z 0).val) / 128 = g := by omega
  have r0 : (128 * g + (z 0).val) % 128 = (z 0).val := by omega
  simp only [e0, e1, q0, r0]
  congr 1
  funext a
  match a with
  | ⟨0, _⟩ => rfl
  | ⟨1, _⟩ => rfl

section Step
variable (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole)
  (x0 : Vec F S1024x6144 .bf16) (x1 : Vec F S3072x512 .i8) (x2 : Vec F S48x512 .f32)

theorem wq_eq (g : ℕ) (hg : g < 48) (off : Fin 2 → ℕ) (hoff : off = ![64 * g, 0])
    (hb : ∀ a, off a + S64x512.size a ≤ S3072x512.size a) :
    (View.readAt (Elt F) arg3.view (Rect.unit (s := S3072x512) off S64x512.size hb).toLoadRect (harg3.unread x1) : Vec F S64x512 .i8) = wq x1 g := by
  subst hoff
  funext z
  rw [harg3.readAt_unread]
  have h0 : (z 0).val < 64 := (z 0).isLt
  unfold wq
  congr 1
  funext a
  match a with
  | ⟨0, _⟩ => apply Fin.ext; show 64 * g + 1 * (z 0).val = (64 * g + (z 0).val) % 3072; omega
  | ⟨1, _⟩ => apply Fin.ext; show 0 + 1 * (z 1).val = (z 1).val; omega

theorem wr_eq (g : ℕ) (hg : g < 48) (off : Fin 2 → ℕ) (hoff : off = ![g, 0])
    (hb : ∀ a, off a + S1x512.size a ≤ S48x512.size a) :
    (View.readAt (Elt F) arg4.view (Rect.unit (s := S48x512) off S1x512.size hb).toLoadRect (harg4.unread x2) : Vec F S1x512 .f32) = wr x2 g := by
  subst hoff
  funext z
  rw [harg4.readAt_unread]
  have h0 : (z 0).val < 1 := (z 0).isLt
  unfold wr
  congr 1
  funext a
  match a with
  | ⟨0, _⟩ => apply Fin.ext; show g + 1 * (z 0).val = g % 48; omega
  | ⟨1, _⟩ => apply Fin.ext; show 0 + 1 * (z 1).val = (z 1).val; omega

theorem wB_eq (g : ℕ) (hg : g < 48) (off off' : Fin 2 → ℕ) (hoff : off = ![64 * g, 0]) (hoff' : off' = ![g, 0])
    (hb : ∀ a, off a + S64x512.size a ≤ S3072x512.size a) (hb' : ∀ a, off' a + S1x512.size a ≤ S48x512.size a) :
    k1_pay2 (View.readAt (Elt F) arg3.view (Rect.unit (s := S3072x512) off S64x512.size hb).toLoadRect (harg3.unread x1))
      (View.readAt (Elt F) arg4.view (Rect.unit (s := S48x512) off' S1x512.size hb').toLoadRect (harg4.unread x2)) = wB x1 x2 g := by
  unfold wB
  rw [wq_eq arg3 harg3 x1 g hg off hoff hb, wr_eq arg4 harg4 x2 g hg off' hoff' hb']

set_option maxHeartbeats 1000000 in
theorem HS_agree (c : Dev nD) : Agree (kernelRun1_A.sl.HS0_48 (F := F) c arg3 harg3 arg4 harg4 x1 x2) (tiledW (wB x1 x2)) := by
  unfold kernelRun1_A.sl.HS0_48
  refine Agree.cons (p := ⟨_, _⟩) ?_ ?_
  · exact agw (wB x1 x2) 47 _ rfl inb_S6144x512_S128x512_6016_0 _ (wB_eq arg3 harg3 arg4 harg4 x1 x2 47 (by decide) ![3008, 0] ![47, 0] rfl rfl inb_S3072x512_S64x512_3008_0 inb_S48x512_S1x512_47_0)
  refine Agree.cons (p := ⟨_, _⟩) ?_ ?_
  · exact agw (wB x1 x2) 46 _ rfl inb_S6144x512_S128x512_5888_0 _ (wB_eq arg3 harg3 arg4 harg4 x1 x2 46 (by decide) ![2944, 0] ![46, 0] rfl rfl inb_S3072x512_S64x512_2944_0 inb_S48x512_S1x512_46_0)
  refine Agree.cons (p := ⟨_, _⟩) ?_ ?_
  · exact agw (wB x1 x2) 45 _ rfl inb_S6144x512_S128x512_5760_0 _ (wB_eq arg3 harg3 arg4 harg4 x1 x2 45 (by decide) ![2880, 0] ![45, 0] rfl rfl inb_S3072x512_S64x512_2880_0 inb_S48x512_S1x512_45_0)
  refine Agree.cons (p := ⟨_, _⟩) ?_ ?_
  · exact agw (wB x1 x2) 44 _ rfl inb_S6144x512_S128x512_5632_0 _ (wB_eq arg3 harg3 arg4 harg4 x1 x2 44 (by decide) ![2816, 0] ![44, 0] rfl rfl inb_S3072x512_S64x512_2816_0 inb_S48x512_S1x512_44_0)
  refine Agree.cons (p := ⟨_, _⟩) ?_ ?_
  · exact agw (wB x1 x2) 43 _ rfl inb_S6144x512_S128x512_5504_0 _ (wB_eq arg3 harg3 arg4 harg4 x1 x2 43 (by decide) ![2752, 0] ![43, 0] rfl rfl inb_S3072x512_S64x512_2752_0 inb_S48x512_S1x512_43_0)
  refine Agree.cons (p := ⟨_, _⟩) ?_ ?_
  · exact agw (wB x1 x2) 42 _ rfl inb_S6144x512_S128x512_5376_0 _ (wB_eq arg3 harg3 arg4 harg4 x1 x2 42 (by decide) ![2688, 0] ![42, 0] rfl rfl inb_S3072x512_S64x512_2688_0 inb_S48x512_S1x512_42_0)
  refine Agree.cons (p := ⟨_, _⟩) ?_ ?_
  · exact agw (wB x1 x2) 41 _ rfl inb_S6144x512_S128x512_5248_0 _ (wB_eq arg3 harg3 arg4 harg4 x1 x2 41 (by decide) ![2624, 0] ![41, 0] rfl rfl inb_S3072x512_S64x512_2624_0 inb_S48x512_S1x512_41_0)
  refine Agree.cons (p := ⟨_, _⟩) ?_ ?_
  · exact agw (wB x1 x2) 40 _ rfl inb_S6144x512_S128x512_5120_0 _ (wB_eq arg3 harg3 arg4 harg4 x1 x2 40 (by decide) ![2560, 0] ![40, 0] rfl rfl inb_S3072x512_S64x512_2560_0 inb_S48x512_S1x512_40_0)
  refine Agree.cons (p := ⟨_, _⟩) ?_ ?_
  · exact agw (wB x1 x2) 39 _ rfl inb_S6144x512_S128x512_4992_0 _ (wB_eq arg3 harg3 arg4 harg4 x1 x2 39 (by decide) ![2496, 0] ![39, 0] rfl rfl inb_S3072x512_S64x512_2496_0 inb_S48x512_S1x512_39_0)
  refine Agree.cons (p := ⟨_, _⟩) ?_ ?_
  · exact agw (wB x1 x2) 38 _ rfl inb_S6144x512_S128x512_4864_0 _ (wB_eq arg3 harg3 arg4 harg4 x1 x2 38 (by decide) ![2432, 0] ![38, 0] rfl rfl inb_S3072x512_S64x512_2432_0 inb_S48x512_S1x512_38_0)
  refine Agree.cons (p := ⟨_, _⟩) ?_ ?_
  · exact agw (wB x1 x2) 37 _ rfl inb_S6144x512_S128x512_4736_0 _ (wB_eq arg3 harg3 arg4 harg4 x1 x2 37 (by decide) ![2368, 0] ![37, 0] rfl rfl inb_S3072x512_S64x512_2368_0 inb_S48x512_S1x512_37_0)
  refine Agree.cons (p := ⟨_, _⟩) ?_ ?_
  · exact agw (wB x1 x2) 36 _ rfl inb_S6144x512_S128x512_4608_0 _ (wB_eq arg3 harg3 arg4 harg4 x1 x2 36 (by decide) ![2304, 0] ![36, 0] rfl rfl inb_S3072x512_S64x512_2304_0 inb_S48x512_S1x512_36_0)
  refine Agree.cons (p := ⟨_, _⟩) ?_ ?_
  · exact agw (wB x1 x2) 35 _ rfl inb_S6144x512_S128x512_4480_0 _ (wB_eq arg3 harg3 arg4 harg4 x1 x2 35 (by decide) ![2240, 0] ![35, 0] rfl rfl inb_S3072x512_S64x512_2240_0 inb_S48x512_S1x512_35_0)
  refine Agree.cons (p := ⟨_, _⟩) ?_ ?_
  · exact agw (wB x1 x2) 34 _ rfl inb_S6144x512_S128x512_4352_0 _ (wB_eq arg3 harg3 arg4 harg4 x1 x2 34 (by decide) ![2176, 0] ![34, 0] rfl rfl inb_S3072x512_S64x512_2176_0 inb_S48x512_S1x512_34_0)
  refine Agree.cons (p := ⟨_, _⟩) ?_ ?_
  · exact agw (wB x1 x2) 33 _ rfl inb_S6144x512_S128x512_4224_0 _ (wB_eq arg3 harg3 arg4 harg4 x1 x2 33 (by decide) ![2112, 0] ![33, 0] rfl rfl inb_S3072x512_S64x512_2112_0 inb_S48x512_S1x512_33_0)
  refine Agree.cons (p := ⟨_, _⟩) ?_ ?_
  · exact agw (wB x1 x2) 32 _ rfl inb_S6144x512_S128x512_4096_0 _ (wB_eq arg3 harg3 arg4 harg4 x1 x2 32 (by decide) ![2048, 0] ![32, 0] rfl rfl inb_S3072x512_S64x512_2048_0 inb_S48x512_S1x512_32_0)
  refine Agree.cons (p := ⟨_, _⟩) ?_ ?_
  · exact agw (wB x1 x2) 31 _ rfl inb_S6144x512_S128x512_3968_0 _ (wB_eq arg3 harg3 arg4 harg4 x1 x2 31 (by decide) ![1984, 0] ![31, 0] rfl rfl inb_S3072x512_S64x512_1984_0 inb_S48x512_S1x512_31_0)
  refine Agree.cons (p := ⟨_, _⟩) ?_ ?_
  · exact agw (wB x1 x2) 30 _ rfl inb_S6144x512_S128x512_3840_0 _ (wB_eq arg3 harg3 arg4 harg4 x1 x2 30 (by decide) ![1920, 0] ![30, 0] rfl rfl inb_S3072x512_S64x512_1920_0 inb_S48x512_S1x512_30_0)
  refine Agree.cons (p := ⟨_, _⟩) ?_ ?_
  · exact agw (wB x1 x2) 29 _ rfl inb_S6144x512_S128x512_3712_0 _ (wB_eq arg3 harg3 arg4 harg4 x1 x2 29 (by decide) ![1856, 0] ![29, 0] rfl rfl inb_S3072x512_S64x512_1856_0 inb_S48x512_S1x512_29_0)
  refine Agree.cons (p := ⟨_, _⟩) ?_ ?_
  · exact agw (wB x1 x2) 28 _ rfl inb_S6144x512_S128x512_3584_0 _ (wB_eq arg3 harg3 arg4 harg4 x1 x2 28 (by decide) ![1792, 0] ![28, 0] rfl rfl inb_S3072x512_S64x512_1792_0 inb_S48x512_S1x512_28_0)
  refine Agree.cons (p := ⟨_, _⟩) ?_ ?_
  · exact agw (wB x1 x2) 27 _ rfl inb_S6144x512_S128x512_3456_0 _ (wB_eq arg3 harg3 arg4 harg4 x1 x2 27 (by decide) ![1728, 0] ![27, 0] rfl rfl inb_S3072x512_S64x512_1728_0 inb_S48x512_S1x512_27_0)
  refine Agree.cons (p := ⟨_, _⟩) ?_ ?_
  · exact agw (wB x1 x2) 26 _ rfl inb_S6144x512_S128x512_3328_0 _ (wB_eq arg3 harg3 arg4 harg4 x1 x2 26 (by decide) ![1664, 0] ![26, 0] rfl rfl inb_S3072x512_S64x512_1664_0 inb_S48x512_S1x512_26_0)
  refine Agree.cons (p := ⟨_, _⟩) ?_ ?_
  · exact agw (wB x1 x2) 25 _ rfl inb_S6144x512_S128x512_3200_0 _ (wB_eq arg3 harg3 arg4 harg4 x1 x2 25 (by decide) ![1600, 0] ![25, 0] rfl rfl inb_S3072x512_S64x512_1600_0 inb_S48x512_S1x512_25_0)
  refine Agree.cons (p := ⟨_, _⟩) ?_ ?_
  · exact agw (wB x1 x2) 24 _ rfl inb_S6144x512_S128x512_3072_0 _ (wB_eq arg3 harg3 arg4 harg4 x1 x2 24 (by decide) ![1536, 0] ![24, 0] rfl rfl inb_S3072x512_S64x512_1536_0 inb_S48x512_S1x512_24_0)
  refine Agree.cons (p := ⟨_, _⟩) ?_ ?_
  · exact agw (wB x1 x2) 23 _ rfl inb_S6144x512_S128x512_2944_0 _ (wB_eq arg3 harg3 arg4 harg4 x1 x2 23 (by decide) ![1472, 0] ![23, 0] rfl rfl inb_S3072x512_S64x512_1472_0 inb_S48x512_S1x512_23_0)
  refine Agree.cons (p := ⟨_, _⟩) ?_ ?_
  · exact agw (wB x1 x2) 22 _ rfl inb_S6144x512_S128x512_2816_0 _ (wB_eq arg3 harg3 arg4 harg4 x1 x2 22 (by decide) ![1408, 0] ![22, 0] rfl rfl inb_S3072x512_S64x512_1408_0 inb_S48x512_S1x512_22_0)
  refine Agree.cons (p := ⟨_, _⟩) ?_ ?_
  · exact agw (wB x1 x2) 21 _ rfl inb_S6144x512_S128x512_2688_0 _ (wB_eq arg3 harg3 arg4 harg4 x1 x2 21 (by decide) ![1344, 0] ![21, 0] rfl rfl inb_S3072x512_S64x512_1344_0 inb_S48x512_S1x512_21_0)
  refine Agree.cons (p := ⟨_, _⟩) ?_ ?_
  · exact agw (wB x1 x2) 20 _ rfl inb_S6144x512_S128x512_2560_0 _ (wB_eq arg3 harg3 arg4 harg4 x1 x2 20 (by decide) ![1280, 0] ![20, 0] rfl rfl inb_S3072x512_S64x512_1280_0 inb_S48x512_S1x512_20_0)
  refine Agree.cons (p := ⟨_, _⟩) ?_ ?_
  · exact agw (wB x1 x2) 19 _ rfl inb_S6144x512_S128x512_2432_0 _ (wB_eq arg3 harg3 arg4 harg4 x1 x2 19 (by decide) ![1216, 0] ![19, 0] rfl rfl inb_S3072x512_S64x512_1216_0 inb_S48x512_S1x512_19_0)
  refine Agree.cons (p := ⟨_, _⟩) ?_ ?_
  · exact agw (wB x1 x2) 18 _ rfl inb_S6144x512_S128x512_2304_0 _ (wB_eq arg3 harg3 arg4 harg4 x1 x2 18 (by decide) ![1152, 0] ![18, 0] rfl rfl inb_S3072x512_S64x512_1152_0 inb_S48x512_S1x512_18_0)
  refine Agree.cons (p := ⟨_, _⟩) ?_ ?_
  · exact agw (wB x1 x2) 17 _ rfl inb_S6144x512_S128x512_2176_0 _ (wB_eq arg3 harg3 arg4 harg4 x1 x2 17 (by decide) ![1088, 0] ![17, 0] rfl rfl inb_S3072x512_S64x512_1088_0 inb_S48x512_S1x512_17_0)
  refine Agree.cons (p := ⟨_, _⟩) ?_ ?_
  · exact agw (wB x1 x2) 16 _ rfl inb_S6144x512_S128x512_2048_0 _ (wB_eq arg3 harg3 arg4 harg4 x1 x2 16 (by decide) ![1024, 0] ![16, 0] rfl rfl inb_S3072x512_S64x512_1024_0 inb_S48x512_S1x512_16_0)
  refine Agree.cons (p := ⟨_, _⟩) ?_ ?_
  · exact agw (wB x1 x2) 15 _ rfl inb_S6144x512_S128x512_1920_0 _ (wB_eq arg3 harg3 arg4 harg4 x1 x2 15 (by decide) ![960, 0] ![15, 0] rfl rfl inb_S3072x512_S64x512_960_0 inb_S48x512_S1x512_15_0)
  refine Agree.cons (p := ⟨_, _⟩) ?_ ?_
  · exact agw (wB x1 x2) 14 _ rfl inb_S6144x512_S128x512_1792_0 _ (wB_eq arg3 harg3 arg4 harg4 x1 x2 14 (by decide) ![896, 0] ![14, 0] rfl rfl inb_S3072x512_S64x512_896_0 inb_S48x512_S1x512_14_0)
  refine Agree.cons (p := ⟨_, _⟩) ?_ ?_
  · exact agw (wB x1 x2) 13 _ rfl inb_S6144x512_S128x512_1664_0 _ (wB_eq arg3 harg3 arg4 harg4 x1 x2 13 (by decide) ![832, 0] ![13, 0] rfl rfl inb_S3072x512_S64x512_832_0 inb_S48x512_S1x512_13_0)
  refine Agree.cons (p := ⟨_, _⟩) ?_ ?_
  · exact agw (wB x1 x2) 12 _ rfl inb_S6144x512_S128x512_1536_0 _ (wB_eq arg3 harg3 arg4 harg4 x1 x2 12 (by decide) ![768, 0] ![12, 0] rfl rfl inb_S3072x512_S64x512_768_0 inb_S48x512_S1x512_12_0)
  refine Agree.cons (p := ⟨_, _⟩) ?_ ?_
  · exact agw (wB x1 x2) 11 _ rfl inb_S6144x512_S128x512_1408_0 _ (wB_eq arg3 harg3 arg4 harg4 x1 x2 11 (by decide) ![704, 0] ![11, 0] rfl rfl inb_S3072x512_S64x512_704_0 inb_S48x512_S1x512_11_0)
  refine Agree.cons (p := ⟨_, _⟩) ?_ ?_
  · exact agw (wB x1 x2) 10 _ rfl inb_S6144x512_S128x512_1280_0 _ (wB_eq arg3 harg3 arg4 harg4 x1 x2 10 (by decide) ![640, 0] ![10, 0] rfl rfl inb_S3072x512_S64x512_640_0 inb_S48x512_S1x512_10_0)
  refine Agree.cons (p := ⟨_, _⟩) ?_ ?_
  · exact agw (wB x1 x2) 9 _ rfl inb_S6144x512_S128x512_1152_0 _ (wB_eq arg3 harg3 arg4 harg4 x1 x2 9 (by decide) ![576, 0] ![9, 0] rfl rfl inb_S3072x512_S64x512_576_0 inb_S48x512_S1x512_9_0)
  refine Agree.cons (p := ⟨_, _⟩) ?_ ?_
  · exact agw (wB x1 x2) 8 _ rfl inb_S6144x512_S128x512_1024_0 _ (wB_eq arg3 harg3 arg4 harg4 x1 x2 8 (by decide) ![512, 0] ![8, 0] rfl rfl inb_S3072x512_S64x512_512_0 inb_S48x512_S1x512_8_0)
  refine Agree.cons (p := ⟨_, _⟩) ?_ ?_
  · exact agw (wB x1 x2) 7 _ rfl inb_S6144x512_S128x512_896_0 _ (wB_eq arg3 harg3 arg4 harg4 x1 x2 7 (by decide) ![448, 0] ![7, 0] rfl rfl inb_S3072x512_S64x512_448_0 inb_S48x512_S1x512_7_0)
  refine Agree.cons (p := ⟨_, _⟩) ?_ ?_
  · exact agw (wB x1 x2) 6 _ rfl inb_S6144x512_S128x512_768_0 _ (wB_eq arg3 harg3 arg4 harg4 x1 x2 6 (by decide) ![384, 0] ![6, 0] rfl rfl inb_S3072x512_S64x512_384_0 inb_S48x512_S1x512_6_0)
  refine Agree.cons (p := ⟨_, _⟩) ?_ ?_
  · exact agw (wB x1 x2) 5 _ rfl inb_S6144x512_S128x512_640_0 _ (wB_eq arg3 harg3 arg4 harg4 x1 x2 5 (by decide) ![320, 0] ![5, 0] rfl rfl inb_S3072x512_S64x512_320_0 inb_S48x512_S1x512_5_0)
  refine Agree.cons (p := ⟨_, _⟩) ?_ ?_
  · exact agw (wB x1 x2) 4 _ rfl inb_S6144x512_S128x512_512_0 _ (wB_eq arg3 harg3 arg4 harg4 x1 x2 4 (by decide) ![256, 0] ![4, 0] rfl rfl inb_S3072x512_S64x512_256_0 inb_S48x512_S1x512_4_0)
  refine Agree.cons (p := ⟨_, _⟩) ?_ ?_
  · exact agw (wB x1 x2) 3 _ rfl inb_S6144x512_S128x512_384_0 _ (wB_eq arg3 harg3 arg4 harg4 x1 x2 3 (by decide) ![192, 0] ![3, 0] rfl rfl inb_S3072x512_S64x512_192_0 inb_S48x512_S1x512_3_0)
  refine Agree.cons (p := ⟨_, _⟩) ?_ ?_
  · exact agw (wB x1 x2) 2 _ rfl inb_S6144x512_S128x512_256_0 _ (wB_eq arg3 harg3 arg4 harg4 x1 x2 2 (by decide) ![128, 0] ![2, 0] rfl rfl inb_S3072x512_S64x512_128_0 inb_S48x512_S1x512_2_0)
  refine Agree.cons (p := ⟨_, _⟩) ?_ ?_
  · exact agw (wB x1 x2) 1 _ rfl inb_S6144x512_S128x512_128_0 _ (wB_eq arg3 harg3 arg4 harg4 x1 x2 1 (by decide) ![64, 0] ![1, 0] rfl rfl inb_S3072x512_S64x512_64_0 inb_S48x512_S1x512_1_0)
  refine Agree.cons (p := ⟨_, _⟩) ?_ ?_
  · exact agw (wB x1 x2) 0 _ rfl inb_S6144x512_S128x512_0_0 _ (wB_eq arg3 harg3 arg4 harg4 x1 x2 0 (by decide) ![0, 0] ![0, 0] rfl rfl inb_S3072x512_S64x512_0_0 inb_S48x512_S1x512_0_0)
  exact Agree.nil _

theorem out1_eq (c : Dev nD) (i : grid1.Coords) (arg5 : Memref sig .tc .vmem S1024x512 .bf16) (harg5 : arg5.IsWhole) (arg6 : Memref sig .tc .vmem S6144x512 .bf16) (harg6 : arg6.IsWhole) :
    out1_A_3 c i arg2 harg2 arg3 harg3 arg4 harg4 arg5 harg5 arg6 harg6 x0 x1 x2
      = k1_pay1 (k1_pay92 x0) (tiledW (wB x1 x2)) (constant S1024x512 .f32 0x00000000#32) := by
  have hx : (View.readAt (Elt F) arg2.view (Rect.unit (s := S1024x6144) ![0, 0] S1024x6144.size inb_S1024x6144_S1024x6144_0_0).toLoadRect (harg2.unread x0) : Vec F S1024x6144 .bf16) = x0 := by
    funext z
    rw [harg2.readAt_unread]
    congr 1
    funext a
    match a with
    | ⟨0, _⟩ => apply Fin.ext; show 0 + 1 * (z 0).val = (z 0).val; omega
    | ⟨1, _⟩ => apply Fin.ext; show 0 + 1 * (z 1).val = (z 1).val; omega
  have hw : arg6.view.readCov (kernelRun1_A.sl.HS0_48 c arg3 harg3 arg4 harg4 x1 x2)
      (Rect.unit (s := S6144x512) ![0, 0] S6144x512.size inb_S6144x512_S6144x512_0_0).toLoadRect = tiledW (wB x1 x2) := by
    rw [View.readCov_eq_canon']
    funext z
    have hz : (Rect.unit (s := S6144x512) ![0, 0] S6144x512.size inb_S6144x512_S6144x512_0_0).emb z = z := by
      funext a
      match a with
      | ⟨0, _⟩ => apply Fin.ext; show 0 + 1 * (z 0).val = (z 0).val; omega
      | ⟨1, _⟩ => apply Fin.ext; show 0 + 1 * (z 1).val = (z 1).val; omega
    have hA := HS_agree arg3 harg3 arg4 harg4 x1 x2 c
    have hC := View.cover_of_tiledL (kernelRun1_A.sl.HS0_48 c arg3 harg3 arg4 harg4 x1 x2) S128x512.size (by sl_kernel_rfl) ((Rect.unit (s := S6144x512) ![0, 0] S6144x512.size inb_S6144x512_S6144x512_0_0).emb z)
    generalize kernelRun1_A.sl.HS0_48 c arg3 harg3 arg4 harg4 x1 x2 = L at hA hC ⊢
    refine (View.canon_apply_of_pieces (Val := Elt F) (tiledW (α := Elt F .bf16) (wB (F := F) x1 x2)) L hA _ hC).trans ?_
    rw [hz]
  unfold out1_A_3
  refine read_of_agree _ _ _ ?_ (fun y => cover1_A_3 c i arg2 harg2 arg3 harg3 arg4 harg4 arg5 harg5 arg6 harg6 x0 x1 x2 y)
  unfold kernelRun1_A
  dsimp only
  unfold kernelRun1_A.sl.v1058 kernelRun1_A.sl.cst kernelRun1_A.sl.r_37
  rw [hw, hx]
  refine Agree.cons (p := ⟨_, _⟩) ?_ (Agree.nil _)
  intro z
  refine congrArg (k1_pay1 (k1_pay92 x0) (tiledW (wB x1 x2)) (constant S1024x512 .f32 0x00000000#32)) ?_
  funext a
  match a with
  | ⟨0, _⟩ => apply Fin.ext; show (z 0).val = 0 + 1 * (z 0).val; omega
  | ⟨1, _⟩ => apply Fin.ext; show (z 1).val = 0 + 1 * (z 1).val; omega

end Step

end Cert.KernelIdeal.Q
end
-- ==== Proof.MElem.lean ====
module

public import proofs.«01_k».proof.Proof.MDot
public import proofs.«01_k».proof.Proof.SpecW
public import Idealize.ShloMosaic.Lib.Pointwise

/-! The step of the product read at one element, over the extended reals. -/

@[expose] public section

noncomputable section

namespace Cert.KernelIdeal.Q

open Idealize.ShloMosaic Cert.KernelIdeal.Gen Cert.Spec

/-- One weight of a group: half of a byte times the scale. -/
theorem pay2_apply (q : Vec Ideal S64x512 .i8) (r : Vec Ideal S1x512 .f32) (p : Fin 128) (j : Fin 512) :
    k1_pay2 q r (ix2 p j) = (((nibZ (q (ix2 (⟨p.val / 2, by omega⟩ : Fin 64) j)) (p.val % 2) : ℤ) : ℝ) : EReal) * r (ix2 0 j) := by
  have h : ∀ (b : BitVec 8) (f : ℕ), f < 2 → (FloatOps.sitofp (F := Ideal) FTy.bf16
      (if h : f < 1 then IntOp.shrsi .vector (IntOp.shli .vector (BitVec.setWidth 32 b) 28#32) 28#32
        else IntOp.shrsi .vector (IntOp.shli .vector (BitVec.setWidth 32 b) 24#32) 28#32) : EReal) = (((nibZ b f : ℤ) : ℝ) : EReal) := by
    intro b f hf
    by_cases h1 : f < 1
    · rw [dif_pos h1]
      obtain rfl : f = 0 := by omega
      rw [← nib_lo b]; rfl
    · rw [dif_neg h1]
      obtain rfl : f = 1 := by omega
      rw [← nib_hi b]; rfl
  rw [← h _ _ (Nat.mod_lt _ (by decide))]
  pointwise [k1_pay2]

/-- The product of a block of tokens with the scratch. -/
theorem pay1_apply (x : Vec Ideal S1024x6144 .bf16) (w : Vec Ideal S6144x512 .bf16) (p : Fin 1024) (j : Fin 512) :
    k1_pay1 (k1_pay92 x) w (constant S1024x512 .f32 0x00000000#32) (ix2 p j) = ∑ d : Fin 6144, x (ix2 p d) * w (ix2 d j) := by
  pointwise [k1_pay1, k1_pay92]

theorem tiledW_apply (x1 : Vec Ideal S3072x512 .i8) (x2 : Vec Ideal S48x512 .f32) (d : Fin 6144) (j : Fin 512) :
    tiledW (wB x1 x2) (ix2 d j) = wS (fun k => x1 (ix2 k j)) (fun g => x2 (ix2 g j)) d := by
  show wB x1 x2 (d.val / 128) (ix2 (⟨d.val % 128, Nat.mod_lt _ (by decide)⟩ : Fin 128) j) = _
  unfold wB
  rw [pay2_apply]
  unfold wS
  have e : ∀ (k k' : Fin 3072) (f f' : ℕ) (g g' : Fin 48), k = k' → f = f' → g = g' →
    ((((nibZ (x1 (ix2 k j)) f : ℤ) : ℝ) : EReal) * x2 (ix2 g j)) = (((nibZ (x1 (ix2 k' j)) f' : ℤ) : ℝ) : EReal) * x2 (ix2 g' j) := by
    rintro k _ f _ g _ rfl rfl rfl; rfl
  refine e _ _ _ _ _ _ (Fin.ext ?_) ?_ (Fin.ext ?_)
  · show (64 * (d.val / 128) + (d.val % 128 / 2)) % 3072 = d.val / 2
    omega
  · show d.val % 128 % 2 = _
    omega
  · show d.val / 128 % 48 = d.val / 128
    omega

/-- One element of a step's block of the product. -/
theorem mblock_apply (x0 : Vec Ideal S1024x6144 .bf16) (x1 : Vec Ideal S3072x512 .i8) (x2 : Vec Ideal S48x512 .f32) (p : Fin 1024) (j : Fin 512) :
    k1_pay1 (k1_pay92 x0) (tiledW (wB x1 x2)) (constant S1024x512 .f32 0x00000000#32) (ix2 p j)
      = yS (fun d => x0 (ix2 p d)) (fun k => x1 (ix2 k j)) (fun g => x2 (ix2 g j)) := by
  rw [pay1_apply]
  unfold yS
  exact Finset.sum_congr rfl fun d _ => by rw [tiledW_apply]

end Cert.KernelIdeal.Q
-- ==== Proof.KArr1.lean ====
module

public import proofs.«01_k».proof.Proof.MElem
public import Idealize.ShloMosaic.Lib.Pipeline.ValueKit

/-! The product's array after its 288 steps, as one function of the quantised tokens, the packed weights and their scales. -/

@[expose] public section

noncomputable section

namespace Cert.KernelIdeal.Q

open Idealize.ShloMosaic Idealize.ShloMosaic.TcCoe Cert.KernelIdeal.Gen Cert.Spec Idealize.SL.Sem
open Idealize.ShloMosaic.Pipeline (Dat)

/-- One element of the product. -/
def yA (A : Vec Ideal S9216x6144 .bf16) (W : Vec Ideal S3072x16384 .i8) (S : Vec Ideal S48x16384 .f32) (i : Fin 9216) (j : Fin 16384) : EReal :=
  yS (fun d => A (ix2 i d)) (fun k => W (ix2 k j)) (fun g => S (ix2 g j))

variable (V : (c : Dev nD) → (b : Ref sig .tc) → Buf (Elt Ideal) ((c : Thread nD τ).loc b))

/-- Point `t` of the product takes token block `t / 32` and column block `t % 32`. -/
theorem ix1 : ∀ t : Fin cfg1.N, win1_0.index t = ![t.val / 32, 0] ∧ win1_1.index t = ![0, t.val % 32] ∧ win1_2.index t = ![0, t.val % 32]
    ∧ win1_3.index t = ![t.val / 32, t.val % 32] :=
  (by decide +kernel : ∀ t : Fin grid1.N, win1_0.index t = ![t.val / 32, 0] ∧ win1_1.index t = ![0, t.val % 32] ∧ win1_2.index t = ![0, t.val % 32]
    ∧ win1_3.index t = ![t.val / 32, t.val % 32])

theorem blk1_3 (c : Dev nD) (t : Fin cfg1.N) (y : S1024x512.Idx) (i : S9216x16384.Idx) (h0 : (i 0).val = t.val / 32 * 1024 + (y 0).val)
    (h1 : (i 1).val = t.val % 32 * 512 + (y 1).val) : outsAt1 V c t y = yA (V c main_v2_4) (V c main_arg2) (V c main_arg3) (i 0) (i 1) := by
  unfold outsAt1
  rw [out1_eq]
  obtain ⟨p, q, rfl⟩ : ∃ (p : Fin 1024) (q : Fin 512), y = ix2 p q := ⟨y 0, y 1, eq_ix2 y⟩
  obtain ⟨r, j, rfl⟩ : ∃ (r : Fin 9216) (j : Fin 16384), i = ix2 r j := ⟨i 0, i 1, eq_ix2 i⟩
  rw [mblock_apply]
  replace h0 : r.val = t.val / 32 * 1024 + p.val := h0
  replace h1 : j.val = t.val % 32 * 512 + q.val := h1
  have e0 : ∀ d : Fin 6144, (iblk1 V c 0 t : Vec Ideal S1024x6144 .bf16) (ix2 p d) = (V c main_v2_4 : Vec Ideal S9216x6144 .bf16) (ix2 r d) := by
    intro d
    have e := (ix1 t).1
    blk_ext [iblk1, e]
  have e1 : ∀ k : Fin 3072, (iblk1 V c 1 t : Vec Ideal S3072x512 .i8) (ix2 k q) = (V c main_arg2 : Vec Ideal S3072x16384 .i8) (ix2 k j) := by
    intro d
    have e := (ix1 t).2.1
    blk_ext [iblk1, e]
  have e2 : ∀ k : Fin 48, (iblk1 V c 2 t : Vec Ideal S48x512 .f32) (ix2 k q) = (V c main_arg3 : Vec Ideal S48x16384 .f32) (ix2 k j) := by
    intro d
    have e := (ix1 t).2.2.1
    blk_ext [iblk1, e]
  rw [funext e0, funext e1, funext e2]
  rfl

theorem arr1_3 (c : Dev nD) : (dat1 V c).arrAt 3 cfg1.N = fun y : S9216x16384.Idx => yA (V c main_v2_4) (V c main_arg2) (V c main_arg3) (y 0) (y 1) := by
  refine (dat1 V c).arrAt_eq_of_covers 3 _ (by decide +kernel) fun t hf y => ?_
  have e := (ix1 t).2.2.2
  blk_simp
  rw [after1_3]
  exact blk1_3 V c t y _ (by blk_simp [e]) (by blk_simp [e])

end Cert.KernelIdeal.Q
-- ==== Proof.SpecV.lean ====
module

public import proofs.«01_k».proof.Proof.SpecRow
public import Idealize.ShloMosaic.Lib.Pointwise

/-! A token's row of the input, normalised. -/

@[expose] public section

noncomputable section

namespace Cert.Spec

open Idealize.ShloMosaic

/-- Row `s` of batch `b`, normalised. -/
def v3 (X : (⟨3, ![12, 768, 6144]⟩ : Shape).Idx → EReal) (G : (⟨1, ![6144]⟩ : Shape).Idx → EReal) (b : Fin 12) (s : Fin 768) :
    Fin 6144 → EReal :=
  xnS (fun d => X (ix3 b s d)) (fun d => G (ix1 d))

end Cert.Spec
end
-- ==== Proof.KRun.lean ====
module

public import proofs.«01_k».proof.Proof.KArr0
public import proofs.«01_k».proof.Proof.KArr1
public import proofs.«01_k».proof.Proof.SpecV
public import Idealize.ShloMosaic.Lib.Claim
public import Idealize.ShloMosaic.Lib.Pointwise

/-! The kernel's five results, read off the run: each an array over tokens, as the row functions of the arguments. -/

@[expose] public section

noncomputable section

namespace Cert.KernelIdeal.Q

open Idealize.ShloMosaic Idealize.ShloMosaic.TcCoe Cert.KernelIdeal.Gen Cert.Spec Idealize.SL.Sem

section Host
variable (σ : Valuation τ sig (Elt Ideal))

theorem h0_v0 : StableHlo.after hostOps0 σ (Proc.devRef .tc main_v0) = shapeCast S9216x6144 (σ (Proc.devRef .tc main_arg0) : Vec Ideal S12x768x6144 .bf16) shapeCasts_S12x768x6144_S9216x6144 := by
  simp only [StableHlo.after_cons, StableHlo.after_nil]
  after_results_simp
  rfl
theorem h0_v1 : StableHlo.after hostOps0 σ (Proc.devRef .tc main_v1) = shapeCast S1x6144 (σ (Proc.devRef .tc main_arg1) : Vec Ideal S6144 .f32) shapeCasts_S6144_S1x6144 := by
  simp only [StableHlo.after_cons, StableHlo.after_nil]
  after_results_simp
  rfl
theorem h2_v4 : StableHlo.after hostOps2 σ (Proc.devRef .tc main_v4) = shapeCast S12x768x16384 (σ (Proc.devRef .tc main_v3) : Vec Ideal S9216x16384 .bf16) shapeCasts_S9216x16384_S12x768x16384 := by
  simp only [StableHlo.after_cons, StableHlo.after_nil]
  after_results_simp
  rfl
theorem h2_v5 : StableHlo.after hostOps2 σ (Proc.devRef .tc main_v5) = shapeCast S12x768x6144 (σ (Proc.devRef .tc main_v2_0) : Vec Ideal S9216x6144 .bf16) shapeCasts_S9216x6144_S12x768x6144 := by
  simp only [StableHlo.after_cons, StableHlo.after_nil]
  after_results_simp
  rfl
theorem h2_v6 : StableHlo.after hostOps2 σ (Proc.devRef .tc main_v6) = shapeCast S12x768x3072 (σ (Proc.devRef .tc main_v2_1) : Vec Ideal S9216x3072 .i8) shapeCasts_S9216x3072_S12x768x3072 := by
  simp only [StableHlo.after_cons, StableHlo.after_nil]
  after_results_simp
  rfl
theorem h2_v7 : StableHlo.after hostOps2 σ (Proc.devRef .tc main_v7) = shapeCast S12x768x48 (σ (Proc.devRef .tc main_v2_2) : Vec Ideal S9216x48 .f32) shapeCasts_S9216x48_S12x768x48 := by
  simp only [StableHlo.after_cons, StableHlo.after_nil]
  after_results_simp
  rfl
theorem h2_v8 : StableHlo.after hostOps2 σ (Proc.devRef .tc main_v8) = shapeCast S12x768x48 (σ (Proc.devRef .tc main_v2_3) : Vec Ideal S9216x48 .i8) shapeCasts_S9216x48_S12x768x48 := by
  simp only [StableHlo.after_cons, StableHlo.after_nil]
  after_results_simp
  rfl
end Host

section Read
variable (X : Vec Ideal S12x768x6144 .bf16) (G : Vec Ideal S6144 .f32)

theorem vA_shape (i : Fin 9216) (b : Fin 12) (s : Fin 768) (h : i.val = 768 * b.val + s.val) :
    vA (shapeCast S9216x6144 X shapeCasts_S12x768x6144_S9216x6144) (shapeCast S1x6144 G shapeCasts_S6144_S1x6144) i = v3 X G b s := by
  unfold vA v3
  have e0 : ∀ d : Fin 6144, shapeCast S9216x6144 X shapeCasts_S12x768x6144_S9216x6144 (ix2 i d) = X (ix3 b s d) := by
    intro d
    refine shapeCast_apply X _ (ix2 i d) (ix3 b s d) ?_
    rw [Shape.rowMajor_val_three, Shape.rowMajor_val_two]
    show (b.val * 768 + s.val) * 6144 + d.val = i.val * 6144 + d.val
    omega
  have e1 : ∀ d : Fin 6144, shapeCast S1x6144 G shapeCasts_S6144_S1x6144 (ix2 (0 : Fin 1) d) = G (Idealize.ShloMosaic.ix1 d) := by
    intro d
    refine shapeCast_apply G _ (ix2 (0 : Fin 1) d) (Idealize.ShloMosaic.ix1 d) ?_
    rw [Shape.rowMajor_val_one, Shape.rowMajor_val_two]
    show d.val = 0 * 6144 + d.val
    omega
  rw [funext e0, funext e1]

theorem sc_apply {α : Type} {n : ℕ} (f : (⟨2, ![9216, n]⟩ : Shape).Idx → α) (h : (⟨2, ![9216, n]⟩ : Shape).ShapeCasts ⟨3, ![12, 768, n]⟩) (b : Fin 12) (s : Fin 768) (k : Fin n) :
    shapeCast ⟨3, ![12, 768, n]⟩ f h (ix3 b s k) = f (ix2 (⟨768 * b.val + s.val, by omega⟩ : Fin 9216) k) := by
  refine shapeCast_apply f _ (ix3 b s k) (ix2 (⟨768 * b.val + s.val, by omega⟩ : Fin 9216) k) ?_
  rw [Shape.rowMajor_val_three, Shape.rowMajor_val_two]
  show (768 * b.val + s.val) * n + k.val = (b.val * 768 + s.val) * n + k.val
  rw [Nat.mul_comm 768 b.val]
end Read

section Final
variable (m : (ℓ : Loc nD τ sig) → Buf (Elt Ideal) ℓ) (ρ : Dev nD → PrngReg) (c : Dev nD)

/-- The arguments at a launch. -/
abbrev aX : Vec Ideal S12x768x6144 .bf16 := m ((c : Thread nD τ).loc main_arg0)
abbrev aG : Vec Ideal S6144 .f32 := m ((c : Thread nD τ).loc main_arg1)
abbrev aW : Vec Ideal S3072x16384 .i8 := m ((c : Thread nD τ).loc main_arg2)
abbrev aS' : Vec Ideal S48x16384 .f32 := m ((c : Thread nD τ).loc main_arg3)

theorem V1_v0 : V1 m ρ c main_v0 = shapeCast S9216x6144 (aX m c) shapeCasts_S12x768x6144_S9216x6144 := h0_v0 _
theorem V1_v1 : V1 m ρ c main_v1 = shapeCast S1x6144 (aG m c) shapeCasts_S6144_S1x6144 := h0_v1 _

theorem vA_V1 (b : Fin 12) (s : Fin 768) :
    vA (V1 m ρ c main_v0) (V1 m ρ c main_v1) (⟨768 * b.val + s.val, by omega⟩ : Fin 9216) = v3 (aX m c) (aG m c) b s := by
  rw [V1_v0, V1_v1]
  exact vA_shape _ _ _ b s rfl
theorem f_v5 : (W4 m ρ c (Proc.devRef .tc main_v5) : Vec Ideal S12x768x6144 .bf16) = fun y => v3 (aX m c) (aG m c) (y 0) (y 1) (y 2) := by
  have e : (W3 m ρ c (Proc.devRef .tc main_v2_0) : Vec Ideal S9216x6144 .bf16) = fun y => vA (V1 m ρ c main_v0) (V1 m ρ c main_v1) (y 0) (y 1) :=
    (W3_of_ne m ρ c main_v2_0 (by decide)).trans ((W2_arr m ρ c 2).trans (arr0_2 (V1 m ρ) c))
  refine (h2_v5 (W3 m ρ c)).trans ?_
  rw [e]
  funext y
  have key : ∀ (b : Fin 12) (s : Fin 768) (k : Fin 6144), shapeCast S12x768x6144 (fun y : S9216x6144.Idx => vA (V1 m ρ c main_v0) (V1 m ρ c main_v1) (y 0) (y 1)) shapeCasts_S9216x6144_S12x768x6144 (ix3 b s k)
      = v3 (aX m c) (aG m c) b s k := fun b s k =>
    (sc_apply _ _ b s k).trans (congrFun (vA_V1 m ρ c b s) k)
  exact (congrArg _ (eq_ix3 y)).trans (key (y 0) (y 1) (y 2))

theorem f_v6 : (W4 m ρ c (Proc.devRef .tc main_v6) : Vec Ideal S12x768x3072 .i8) = fun y => pkR (v3 (aX m c) (aG m c) (y 0) (y 1)) (y 2) := by
  have e : (W3 m ρ c (Proc.devRef .tc main_v2_1) : Vec Ideal S9216x3072 .i8) = fun y => pkR (vA (V1 m ρ c main_v0) (V1 m ρ c main_v1) (y 0)) (y 1) :=
    (W3_of_ne m ρ c main_v2_1 (by decide)).trans ((W2_arr m ρ c 3).trans (arr0_3 (V1 m ρ) c))
  refine (h2_v6 (W3 m ρ c)).trans ?_
  rw [e]
  funext y
  have key : ∀ (b : Fin 12) (s : Fin 768) (k : Fin 3072), shapeCast S12x768x3072 (fun y : S9216x3072.Idx => pkR (vA (V1 m ρ c main_v0) (V1 m ρ c main_v1) (y 0)) (y 1)) shapeCasts_S9216x3072_S12x768x3072 (ix3 b s k)
      = pkR (v3 (aX m c) (aG m c) b s) k := fun b s k =>
    (sc_apply _ _ b s k).trans (congrArg (fun v => pkR v k) (vA_V1 m ρ c b s))
  exact (congrArg _ (eq_ix3 y)).trans (key (y 0) (y 1) (y 2))

theorem f_v7 : (W4 m ρ c (Proc.devRef .tc main_v7) : Vec Ideal S12x768x48 .f32) = fun y => scR (v3 (aX m c) (aG m c) (y 0) (y 1)) (y 2) := by
  have e : (W3 m ρ c (Proc.devRef .tc main_v2_2) : Vec Ideal S9216x48 .f32) = fun y => scR (vA (V1 m ρ c main_v0) (V1 m ρ c main_v1) (y 0)) (y 1) :=
    (W3_of_ne m ρ c main_v2_2 (by decide)).trans ((W2_arr m ρ c 4).trans (arr0_4 (V1 m ρ) c))
  refine (h2_v7 (W3 m ρ c)).trans ?_
  rw [e]
  funext y
  have key : ∀ (b : Fin 12) (s : Fin 768) (k : Fin 48), shapeCast S12x768x48 (fun y : S9216x48.Idx => scR (vA (V1 m ρ c main_v0) (V1 m ρ c main_v1) (y 0)) (y 1)) shapeCasts_S9216x48_S12x768x48 (ix3 b s k)
      = scR (v3 (aX m c) (aG m c) b s) k := fun b s k =>
    (sc_apply _ _ b s k).trans (congrArg (fun v => scR v k) (vA_V1 m ρ c b s))
  exact (congrArg _ (eq_ix3 y)).trans (key (y 0) (y 1) (y 2))

theorem f_v8 : (W4 m ρ c (Proc.devRef .tc main_v8) : Vec Ideal S12x768x48 .i8) = fun y => zpR (v3 (aX m c) (aG m c) (y 0) (y 1)) (y 2) := by
  have e : (W3 m ρ c (Proc.devRef .tc main_v2_3) : Vec Ideal S9216x48 .i8) = fun y => zpR (vA (V1 m ρ c main_v0) (V1 m ρ c main_v1) (y 0)) (y 1) :=
    (W3_of_ne m ρ c main_v2_3 (by decide)).trans ((W2_arr m ρ c 5).trans (arr0_5 (V1 m ρ) c))
  refine (h2_v8 (W3 m ρ c)).trans ?_
  rw [e]
  funext y
  have key : ∀ (b : Fin 12) (s : Fin 768) (k : Fin 48), shapeCast S12x768x48 (fun y : S9216x48.Idx => zpR (vA (V1 m ρ c main_v0) (V1 m ρ c main_v1) (y 0)) (y 1)) shapeCasts_S9216x48_S12x768x48 (ix3 b s k)
      = zpR (v3 (aX m c) (aG m c) b s) k := fun b s k =>
    (sc_apply _ _ b s k).trans (congrArg (fun v => zpR v k) (vA_V1 m ρ c b s))
  exact (congrArg _ (eq_ix3 y)).trans (key (y 0) (y 1) (y 2))

theorem f_v4 : (W4 m ρ c (Proc.devRef .tc main_v4) : Vec Ideal S12x768x16384 .bf16)
    = fun y => yS (aR (v3 (aX m c) (aG m c) (y 0) (y 1))) (fun k => aW m c (ix2 k (y 2))) (fun g => aS' m c (ix2 g (y 2))) := by
  have ea : (V2 m ρ c main_v2_4 : Vec Ideal S9216x6144 .bf16) = fun y => aR (vA (V1 m ρ c main_v0) (V1 m ρ c main_v1) (y 0)) (y 1) :=
    (W2_arr m ρ c 6).trans (arr0_6 (V1 m ρ) c)
  have e2 : V2 m ρ c main_arg2 = aW m c := W2_args m ρ c main_arg2 (by decide)
  have e3 : V2 m ρ c main_arg3 = aS' m c := W2_args m ρ c main_arg3 (by decide)
  have e : (W3 m ρ c (Proc.devRef .tc main_v3) : Vec Ideal S9216x16384 .bf16)
      = fun y => yA (V2 m ρ c main_v2_4) (V2 m ρ c main_arg2) (V2 m ρ c main_arg3) (y 0) (y 1) :=
    (W3_arr m ρ c 3).trans (arr1_3 (V2 m ρ) c)
  rw [ea, e2, e3] at e
  refine (h2_v4 (W3 m ρ c)).trans ?_
  rw [e]
  funext y
  have key : ∀ (b : Fin 12) (s : Fin 768) (k : Fin 16384), shapeCast S12x768x16384 (fun y : S9216x16384.Idx => yA (fun y : S9216x6144.Idx => aR (vA (V1 m ρ c main_v0) (V1 m ρ c main_v1) (y 0)) (y 1)) (aW m c) (aS' m c) (y 0) (y 1)) shapeCasts_S9216x16384_S12x768x16384 (ix3 b s k)
      = yS (aR (v3 (aX m c) (aG m c) b s)) (fun d => aW m c (ix2 d k)) (fun g => aS' m c (ix2 g k)) := fun b s k =>
    (sc_apply _ _ b s k).trans (congrArg (fun v => yS (aR v) (fun d => aW m c (ix2 d k)) (fun g => aS' m c (ix2 g k))) (vA_V1 m ρ c b s))
  exact (congrArg _ (eq_ix3 y)).trans (key (y 0) (y 1) (y 2))
end Final
end Cert.KernelIdeal.Q
end
-- ==== Proof.KEnd.lean ====
module

public import proofs.«01_k».proof.Proof.KRun

/-! The kernel's run: it ends with its five results at the row functions of its arguments. -/

@[expose] public section

noncomputable section

namespace Cert.KernelIdeal.Q

open Idealize.ShloMosaic Idealize.ShloMosaic.TcCoe Cert.KernelIdeal.Gen Cert.Spec Idealize.SL.Sem

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v4) = (fun y => yS (aR (v3 (aX m c) (aG m c) (y 0) (y 1))) (fun k => aW m c (ix2 k (y 2))) (fun g => aS' m c (ix2 g (y 2))) : Vec Ideal S12x768x16384 .bf16)
      ∧ r.2.mem ((c.tc : Thread nD τ).loc main_v5) = (fun y => v3 (aX m c) (aG m c) (y 0) (y 1) (y 2) : Vec Ideal S12x768x6144 .bf16)
      ∧ r.2.mem ((c.tc : Thread nD τ).loc main_v6) = (fun y => pkR (v3 (aX m c) (aG m c) (y 0) (y 1)) (y 2) : Vec Ideal S12x768x3072 .i8)
      ∧ r.2.mem ((c.tc : Thread nD τ).loc main_v7) = (fun y => scR (v3 (aX m c) (aG m c) (y 0) (y 1)) (y 2) : Vec Ideal S12x768x48 .f32)
      ∧ r.2.mem ((c.tc : Thread nD τ).loc main_v8) = (fun y => zpR (v3 (aX m c) (aG m c) (y 0) (y 1)) (y 2) : Vec Ideal S12x768x48 .i8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
      ⟨(h.1 c _ (mem_uc main_v4 (by decide))).trans (f_v4 m ρ c),
       (h.1 c _ (mem_uc main_v5 (by decide))).trans (f_v5 m ρ c),
       (h.1 c _ (mem_uc main_v6 (by decide))).trans (f_v6 m ρ c),
       (h.1 c _ (mem_uc main_v7 (by decide))).trans (f_v7 m ρ c),
       (h.1 c _ (mem_uc main_v8 (by decide))).trans (f_v8 m ρ c),
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c)⟩) (runAll m ρ)

end Cert.KernelIdeal.Q
end
-- ==== Proof.RNorm.lean ====
module

public import proofs.«01_k».proof.Proof.SpecV
public import proofs.«01_k».proof.Proof.Gen.ReferenceIdeal.Read

/-! The reference's norm, scales, zero points and codes, read at an index. -/

@[expose] public section

noncomputable section

namespace Cert.ReferenceIdeal.Q

open Idealize.ShloMosaic Cert.ReferenceIdeal Cert.ReferenceIdeal.Gen Cert.ReferenceIdeal.Read Cert.Spec

variable (X : FVec Ideal S12x768x6144 .bf16) (G : FVec Ideal S6144 .f32)

theorem r2 (b : Fin 12) (s : Fin 768) : val_main_v2 (F := Ideal) X (ix2 b s) = ∑ d : Fin 6144, X (ix3 b s d) * X (ix3 b s d) := by
  rw [val_main_v2_apply]
  show c0 + _ = _
  rw [c0_zero, zero_add]
  refine Finset.sum_congr rfl fun d _ => ?_
  have e : idx_main_v2 (ix2 b s) d = ix3 b s d := by
    funext a; match a with | ⟨0, _⟩ => rfl | ⟨1, _⟩ => rfl | ⟨2, _⟩ => rfl
  rw [e]; rfl

theorem r8 (b : Fin 12) (s : Fin 768) : val_main_v8 (F := Ideal) X (ix3 b s (0 : Fin 1)) = rS fun d => X (ix3 b s d) := by
  unfold rS
  rw [← r2, val_main_v8_apply, val_main_v7_apply, val_main_v5_apply, val_main_v4_apply, val_main_v6_apply, val_main_v3_apply]
  have e : idx_main_v3 (ix3 b s (0 : Fin 1)) = ix2 b s := by
    funext a; match a with | ⟨0, _⟩ => rfl | ⟨1, _⟩ => rfl
  rw [e]; rfl

theorem r14 (b : Fin 12) (s : Fin 768) (d : Fin 6144) : val_main_v14 (F := Ideal) X G (ix3 b s d) = v3 X G b s d := by
  unfold v3 xnS
  rw [val_main_v14_apply, val_main_v13_apply, val_main_v10_apply, val_main_v9_apply, val_main_v12_apply, val_main_v11_apply]
  have e9 : idx_main_v9 (ix3 b s d) = ix3 b s (0 : Fin 1) := by
    funext a; match a with | ⟨0, _⟩ => rfl | ⟨1, _⟩ => rfl | ⟨2, _⟩ => rfl
  have e11 : idx_main_v11 (idx_main_v12 (ix3 b s d)) = ix1 d := by
    funext a; match a with | ⟨0, _⟩ => rfl
  rw [e9, e11, r8]; rfl

theorem r16 (b : Fin 12) (s : Fin 768) (g : Fin 48) (l : Fin 128) :
    val_main_v16 (F := Ideal) X G (ix4 b s g l) = grp (v3 X G b s) g l := by
  unfold grp
  rw [← r14, val_main_v16_apply, val_main_v15_apply]
  have hb := b.isLt; have hs := s.isLt; have hg := g.isLt; have hl := l.isLt
  have e : idx_main_v16 (ix4 b s g l) = ix3 b s (⟨128 * g.val + l.val, by omega⟩ : Fin 6144) := by
    funext a
    match a with
    | ⟨0, _⟩ => apply Fin.ext; show (((b.val * 768 + s.val) * 48 + g.val) * 128 + l.val) / 4718592 = b.val; omega
    | ⟨1, _⟩ => apply Fin.ext; show (((b.val * 768 + s.val) * 48 + g.val) * 128 + l.val) / 6144 % 768 = s.val; omega
    | ⟨2, _⟩ => apply Fin.ext; show (((b.val * 768 + s.val) * 48 + g.val) * 128 + l.val) % 6144 = 128 * g.val + l.val; omega
  rw [e]; rfl

theorem red3 : S12x768x48x128.Reduces [3] S12x768x48 := by decide

theorem lift_eq (h : S12x768x48x128.Reduces [3] S12x768x48) (b : Fin 12) (s : Fin 768) (g : Fin 48) (l : Fin 128) :
    h.lift (ix3 b s g) l = ix4 b s g l := by
  funext a; match a with | ⟨0, _⟩ => rfl | ⟨1, _⟩ => rfl | ⟨2, _⟩ => rfl | ⟨3, _⟩ => rfl

theorem r19 (b : Fin 12) (s : Fin 768) (g : Fin 48) : val_main_v19 (F := Ideal) X G (ix3 b s g) = loS (grp (v3 X G b s) g) := by
  unfold loS
  rw [val_main_v19_apply, val_main_v18_apply]
  unfold val_main_v17
  rw [Host.reduce_eq_fold_single FloatOps.minimumf _ _ _ red3]
  have e : (val_main_v16 (F := Ideal) X G) ∘ (red3.lift (ix3 b s g)) = grp (v3 X G b s) g := by
    funext l
    exact (congrArg (val_main_v16 (F := Ideal) X G) (lift_eq red3 b s g l)).trans (r16 X G b s g l)
  rw [e]; rfl

theorem r22 (b : Fin 12) (s : Fin 768) (g : Fin 48) : val_main_v22 (F := Ideal) X G (ix3 b s g) = hiS (grp (v3 X G b s) g) := by
  unfold hiS
  rw [val_main_v22_apply, val_main_v21_apply]
  unfold val_main_v20
  rw [Host.reduce_eq_fold_single FloatOps.maximumf _ _ _ red3]
  have e : (val_main_v16 (F := Ideal) X G) ∘ (red3.lift (ix3 b s g)) = grp (v3 X G b s) g := by
    funext l
    exact (congrArg (val_main_v16 (F := Ideal) X G) (lift_eq red3 b s g l)).trans (r16 X G b s g l)
  rw [e]; rfl

theorem r27 (b : Fin 12) (s : Fin 768) (g : Fin 48) : val_main_v27 (F := Ideal) X G (ix3 b s g) = scR (v3 X G b s) g := by
  unfold scR scS
  rw [← r19, ← r22, val_main_v27_apply, val_main_v23_apply, val_main_v26_apply, val_main_v24_apply, val_main_v25_apply, val_main_call0_v1_apply]
  rfl

theorem r30 (b : Fin 12) (s : Fin 768) (g : Fin 48) : val_main_v30 (F := Ideal) X G (ix3 b s g) = zpS (grp (v3 X G b s) g) := by
  unfold zpS
  have h := r27 X G b s g
  unfold scR at h
  rw [← r19, ← h, val_main_v30_apply, val_main_v29_apply, val_main_v28_apply]
  rfl

theorem r42 (b : Fin 12) (s : Fin 768) (g : Fin 48) : val_main_v42 (F := Ideal) X G (ix3 b s g) = zpR (v3 X G b s) g := by
  unfold zpR byteS
  rw [← r30, val_main_v42_apply, val_main_v41_apply]

theorem r38 (b : Fin 12) (s : Fin 768) (g : Fin 48) (l : Fin 128) :
    val_main_v38 (F := Ideal) X G (ix4 b s g l) = codeS (grp (v3 X G b s) g) (grp (v3 X G b s) g l) := by
  unfold codeS
  have h := r27 X G b s g
  unfold scR at h
  have e1 : idx_main_v31 (idx_main_v32 (ix4 b s g l)) = ix3 b s g := by
    funext a; match a with | ⟨0, _⟩ => rfl | ⟨1, _⟩ => rfl | ⟨2, _⟩ => rfl
  have e2 : idx_main_v35 (idx_main_v36 (ix4 b s g l)) = ix3 b s g := by
    funext a; match a with | ⟨0, _⟩ => rfl | ⟨1, _⟩ => rfl | ⟨2, _⟩ => rfl
  rw [← h, ← r30, ← r16, ← e1, val_main_v38_apply, val_main_call3_v4_apply, val_main_call3_v2_apply, val_main_call3_v1_apply, val_main_v37_apply, val_main_v36_apply, val_main_v35_apply, val_main_v34_apply,
    val_main_v33_apply, val_main_v32_apply, val_main_v31_apply, e1, e2]
  rfl

theorem r40 (b : Fin 12) (s : Fin 768) (g : Fin 48) (l : Fin 128) :
    val_main_v40 (F := Ideal) X G (ix4 b s g l) = byteS (codeS (grp (v3 X G b s) g) (grp (v3 X G b s) g l)) := by
  unfold byteS
  rw [← r38, val_main_v40_apply, val_main_v39_apply]

end Cert.ReferenceIdeal.Q
end
-- ==== Proof.RProd.lean ====
module

public import proofs.«01_k».proof.Proof.RNorm

/-! The reference's packed codes, its dequantised operands and its product, read at an index. -/

@[expose] public section

noncomputable section

namespace Cert.ReferenceIdeal.Q

open Idealize.ShloMosaic Cert.ReferenceIdeal Cert.ReferenceIdeal.Gen Cert.ReferenceIdeal.Read Cert.Spec

variable (X : FVec Ideal S12x768x6144 .bf16) (G : FVec Ideal S6144 .f32) (W : IVec S3072x16384 8) (S : FVec Ideal S48x16384 .f32)

/-- Two features side by side. -/
theorem i44 (b : Fin 12) (s : Fin 768) (k : Fin 3072) (f : Fin 2) :
    idx_main_v44 (ix4 b s k f) = ix4 b s (⟨(2 * k.val + f.val) / 128, by omega⟩ : Fin 48) (⟨(2 * k.val + f.val) % 128, by omega⟩ : Fin 128) := by
  have hb := b.isLt; have hs := s.isLt; have hk := k.isLt; have hf := f.isLt
  funext a
  match a with
  | ⟨0, _⟩ => apply Fin.ext; show (((b.val * 768 + s.val) * 3072 + k.val) * 2 + f.val) / 4718592 = b.val; omega
  | ⟨1, _⟩ => apply Fin.ext; show (((b.val * 768 + s.val) * 3072 + k.val) * 2 + f.val) / 6144 % 768 = s.val; omega
  | ⟨2, _⟩ => apply Fin.ext; show (((b.val * 768 + s.val) * 3072 + k.val) * 2 + f.val) / 128 % 48 = (2 * k.val + f.val) / 128; omega
  | ⟨3, _⟩ => apply Fin.ext; show (((b.val * 768 + s.val) * 3072 + k.val) * 2 + f.val) % 128 = (2 * k.val + f.val) % 128; omega

theorem r44 (b : Fin 12) (s : Fin 768) (k : Fin 3072) (f : Fin 2) :
    val_main_v44 (F := Ideal) X G (ix4 b s k f) = (byteS (cdR (v3 X G b s) ⟨2 * k.val + f.val, by omega⟩)).setWidth 32 := by
  rw [val_main_v44_apply, i44, val_main_v43_apply, r40]
  congr 2
  exact cdR_at _ _ _ _ (by show 2 * k.val + f.val = 128 * ((2 * k.val + f.val) / 128) + (2 * k.val + f.val) % 128; omega)

theorem pack_eq (a b : BitVec 8) :
    (IntOp.ori (a.setWidth 32) (IntOp.shli .host (b.setWidth 32) 4#32)).setWidth 8 = a ||| (b <<< 4) := by
  show ((a.setWidth 32) ||| ((b.setWidth 32) <<< 4)).setWidth 8 = a ||| (b <<< 4)
  apply BitVec.eq_of_getLsbD_eq
  intro i hi
  simp only [BitVec.getLsbD_setWidth, BitVec.getLsbD_or, BitVec.getLsbD_shiftLeft]
  have h1 : i < 32 := by omega
  have h2 : i - 4 < 32 := by omega
  simp [hi, h1, h2]

theorem r52 (b : Fin 12) (s : Fin 768) (k : Fin 3072) : val_main_v52 (F := Ideal) X G (ix3 b s k) = pkR (v3 X G b s) k := by
  have hb := b.isLt; have hs := s.isLt; have hk := k.isLt
  have e46 : idx_main_v45 (idx_main_v46 (ix3 b s k)) = ix4 b s k (0 : Fin 2) := by
    funext a
    match a with
    | ⟨0, _⟩ => apply Fin.ext; show ((b.val * 768 + s.val) * 3072 + k.val) / 2359296 = b.val; omega
    | ⟨1, _⟩ => apply Fin.ext; show ((b.val * 768 + s.val) * 3072 + k.val) / 3072 % 768 = s.val; omega
    | ⟨2, _⟩ => apply Fin.ext; show ((b.val * 768 + s.val) * 3072 + k.val) / 1 % 3072 = k.val; omega
    | ⟨3, _⟩ => rfl
  have e48 : idx_main_v47 (idx_main_v48 (ix3 b s k)) = ix4 b s k (1 : Fin 2) := by
    funext a
    match a with
    | ⟨0, _⟩ => apply Fin.ext; show ((b.val * 768 + s.val) * 3072 + k.val) / 2359296 = b.val; omega
    | ⟨1, _⟩ => apply Fin.ext; show ((b.val * 768 + s.val) * 3072 + k.val) / 3072 % 768 = s.val; omega
    | ⟨2, _⟩ => apply Fin.ext; show ((b.val * 768 + s.val) * 3072 + k.val) / 1 % 3072 = k.val; omega
    | ⟨3, _⟩ => rfl
  rw [val_main_v52_apply, val_main_v51_apply, val_main_v50_apply, val_main_v49_apply, val_main_v48_apply, val_main_v47_apply, val_main_v46_apply, val_main_v45_apply,
    e46, e48, r44, r44]
  exact pack_eq _ _

theorem r62 (b : Fin 12) (s : Fin 768) (g : Fin 48) (l : Fin 128) :
    val_main_v62 (F := Ideal) X G (ix4 b s g l) = aS (grp (v3 X G b s) g) (grp (v3 X G b s) g l) := by
  have e1 : idx_main_v55 (idx_main_v56 (ix4 b s g l)) = ix3 b s g := by
    funext a; match a with | ⟨0, _⟩ => rfl | ⟨1, _⟩ => rfl | ⟨2, _⟩ => rfl
  have e2 : idx_main_v60 (idx_main_v61 (ix4 b s g l)) = ix3 b s g := by
    funext a; match a with | ⟨0, _⟩ => rfl | ⟨1, _⟩ => rfl | ⟨2, _⟩ => rfl
  rw [← aS_int, val_main_v62_apply, val_main_v61_apply, val_main_v60_apply, val_main_v59_apply, val_main_v58_apply, val_main_v57_apply, val_main_v56_apply, val_main_v55_apply,
    val_main_v54_apply, val_main_v53_apply, e1, e2, r40, r42, r27]
  rfl

theorem r64 (b : Fin 12) (s : Fin 768) (f : Fin 2) (k : Fin 3072) :
    val_main_v64 (F := Ideal) X G (ix4 b s f k) = aR (v3 X G b s) ⟨2 * k.val + f.val, by omega⟩ := by
  have e1 : idx_main_v63 (idx_main_v64 (ix4 b s f k)) = idx_main_v44 (ix4 b s k f) := rfl
  rw [val_main_v64_apply, val_main_v63_apply, e1, i44, r62]
  exact aR_at _ _ _ _ (by show 2 * k.val + f.val = 128 * ((2 * k.val + f.val) / 128) + (2 * k.val + f.val) % 128; omega)

theorem r81 (f : Fin 2) (k : Fin 3072) (j : Fin 16384) :
    val_main_v81 (F := Ideal) W (ix3 f k j) = (((nibZ (W (ix2 k j)) f.val : ℤ) : ℝ) : EReal) := by
  have e1 : idx_main_v70 (idx_main_v71 (ix3 f k j)) = ix2 k j := by
    funext a; match a with | ⟨0, _⟩ => rfl | ⟨1, _⟩ => rfl
  have e : val_main_v80 (F := Ideal) W (ix3 f k j) = nibR (W (ix2 k j)) (IntOp.muli 4#32 (BitVec.ofNat 32 f.val)) := by
    unfold nibR
    rw [val_main_v80_apply, val_main_v79_apply, val_main_v77_apply, val_main_v78_apply, val_main_v76_apply, val_main_v75_apply, val_main_v74_apply, val_main_v73_apply,
      val_main_v72_apply, val_main_v71_apply, val_main_v70_apply, val_main_v69_apply, val_main_v68_apply, val_main_v67_apply, val_main_v65_apply, e1]
    rfl
  rw [val_main_v81_apply, e]
  have hn : (nibR (W (ix2 k j)) (IntOp.muli 4#32 (BitVec.ofNat 32 f.val))).toInt = nibZ (W (ix2 k j)) f.val := by
    match f with
    | ⟨0, _⟩ => exact nibR_lo _
    | ⟨1, _⟩ => exact nibR_hi _
  show ((((nibR (W (ix2 k j)) (IntOp.muli 4#32 (BitVec.ofNat 32 f.val))).toInt : ℤ) : ℝ) : EReal) = _
  rw [hn]

theorem r87 (f : Fin 2) (k : Fin 3072) (j : Fin 16384) :
    val_main_v87 (F := Ideal) W S (ix3 f k j) = wS (fun k => W (ix2 k j)) (fun g => S (ix2 g j)) ⟨2 * k.val + f.val, by omega⟩ := by
  have hf := f.isLt; have hk := k.isLt; have hj := j.isLt
  have e1 : idx_main_v87 (ix3 f k j) = ix4 f (⟨k.val / 64, by omega⟩ : Fin 48) (⟨k.val % 64, by omega⟩ : Fin 64) j := by
    funext a
    match a with
    | ⟨0, _⟩ => apply Fin.ext; show ((f.val * 3072 + k.val) * 16384 + j.val) / 50331648 = f.val; omega
    | ⟨1, _⟩ => apply Fin.ext; show ((f.val * 3072 + k.val) * 16384 + j.val) / 1048576 % 48 = k.val / 64; omega
    | ⟨2, _⟩ => apply Fin.ext; show ((f.val * 3072 + k.val) * 16384 + j.val) / 16384 % 64 = k.val % 64; omega
    | ⟨3, _⟩ => apply Fin.ext; show ((f.val * 3072 + k.val) * 16384 + j.val) % 16384 = j.val; omega
  have e2 : idx_main_v82 (ix4 f (⟨k.val / 64, by omega⟩ : Fin 48) (⟨k.val % 64, by omega⟩ : Fin 64) j) = ix3 f k j := by
    funext a
    match a with
    | ⟨0, _⟩ => apply Fin.ext; show (((f.val * 48 + k.val / 64) * 64 + k.val % 64) * 16384 + j.val) / 50331648 = f.val; omega
    | ⟨1, _⟩ => apply Fin.ext; show (((f.val * 48 + k.val / 64) * 64 + k.val % 64) * 16384 + j.val) / 16384 % 3072 = k.val; omega
    | ⟨2, _⟩ => apply Fin.ext; show (((f.val * 48 + k.val / 64) * 64 + k.val % 64) * 16384 + j.val) % 16384 = j.val; omega
  have e3 : idx_main_v84 (idx_main_v85 (ix4 f (⟨k.val / 64, by omega⟩ : Fin 48) (⟨k.val % 64, by omega⟩ : Fin 64) j)) = ix2 (⟨k.val / 64, by omega⟩ : Fin 48) j := by
    funext a; match a with | ⟨0, _⟩ => rfl | ⟨1, _⟩ => rfl
  rw [val_main_v87_apply, e1, val_main_v86_apply, val_main_v85_apply, val_main_v84_apply, val_main_v83_apply, val_main_v82_apply, e2, e3, r81]
  unfold wS
  have q1 : (⟨(2 * k.val + f.val) / 2, by omega⟩ : Fin 3072) = k := Fin.ext (by show (2 * k.val + f.val) / 2 = k.val; omega)
  have q2 : (2 * k.val + f.val) % 2 = f.val := by omega
  have q3 : (⟨(2 * k.val + f.val) / 128, by omega⟩ : Fin 48) = ⟨k.val / 64, by omega⟩ := Fin.ext (by show (2 * k.val + f.val) / 128 = k.val / 64; omega)
  simp only [q1, q2, q3]
  rfl

/-- A sum over the features, taken as the even ones and the odd ones. -/
theorem sum_split (h : Fin 6144 → EReal) : ∑ d, h d = ∑ f : Fin 2, ∑ k : Fin 3072, h ⟨2 * k.val + f.val, by omega⟩ := by
  rw [Finset.sum_comm, ← Finset.sum_product', ← Finset.univ_product_univ.symm]
  refine (Fintype.sum_equiv (finProdFinEquiv (m := 3072) (n := 2)) (fun p => h ⟨2 * p.1.val + p.2.val, by omega⟩) h fun p => ?_).symm
  congr 1
  apply Fin.ext
  show 2 * p.1.val + p.2.val = p.2.val + 2 * p.1.val
  omega

theorem r88 (b : Fin 12) (s : Fin 768) (j : Fin 16384) : val_main_v88 (F := Ideal) X G W S (ix3 b s j)
    = ∑ f : Fin 2, ∑ k : Fin 3072, val_main_v64 (F := Ideal) X G (ix4 b s f k) * val_main_v87 (F := Ideal) W S (ix3 f k j) := by
  unfold val_main_v88
  generalize val_main_v64 (F := Ideal) X G = y0
  generalize val_main_v87 (F := Ideal) W S = y1
  pointwise

theorem r89 (b : Fin 12) (s : Fin 768) (j : Fin 16384) : val_main_v89 (F := Ideal) X G W S (ix3 b s j)
    = yS (aR (v3 X G b s)) (fun k => W (ix2 k j)) (fun g => S (ix2 g j)) := by
  unfold yS
  rw [val_main_v89_apply, sum_split]
  refine (r88 X G W S b s j).trans ?_
  refine Finset.sum_congr rfl fun f _ => Finset.sum_congr rfl fun k _ => ?_
  rw [r64, r87]

end Cert.ReferenceIdeal.Q
end
-- ==== Proof.REnd.lean ====
module

public import proofs.«01_k».proof.Proof.RProd

/-! The reference's run: it ends with its five results at the row functions of its arguments. -/

@[expose] public section

noncomputable section

namespace Cert.ReferenceIdeal.Q

open Idealize.ShloMosaic Idealize.ShloMosaic.TcCoe Cert.ReferenceIdeal Cert.ReferenceIdeal.Gen Cert.ReferenceIdeal.Read Cert.Spec Idealize.SL.Sem

variable (X : FVec Ideal S12x768x6144 .bf16) (G : FVec Ideal S6144 .f32) (W : IVec S3072x16384 8) (S : FVec Ideal S48x16384 .f32)

theorem a89 : val_main_v89 (F := Ideal) X G W S = fun y => yS (aR (v3 X G (y 0) (y 1))) (fun k => W (ix2 k (y 2))) (fun g => S (ix2 g (y 2))) :=
  funext fun y => (congrArg _ (eq_ix3 y)).trans (r89 X G W S (y 0) (y 1) (y 2))
theorem a14 : val_main_v14 (F := Ideal) X G = fun y => v3 X G (y 0) (y 1) (y 2) :=
  funext fun y => (congrArg _ (eq_ix3 y)).trans (r14 X G (y 0) (y 1) (y 2))
theorem a52 : val_main_v52 (F := Ideal) X G = fun y => pkR (v3 X G (y 0) (y 1)) (y 2) :=
  funext fun y => (congrArg _ (eq_ix3 y)).trans (r52 X G (y 0) (y 1) (y 2))
theorem a27 : val_main_v27 (F := Ideal) X G = fun y => scR (v3 X G (y 0) (y 1)) (y 2) :=
  funext fun y => (congrArg _ (eq_ix3 y)).trans (r27 X G (y 0) (y 1) (y 2))
theorem a42 : val_main_v42 (F := Ideal) X G = fun y => zpR (v3 X G (y 0) (y 1)) (y 2) :=
  funext fun y => (congrArg _ (eq_ix3 y)).trans (r42 X G (y 0) (y 1) (y 2))

variable (m : (ℓ : Loc nD τ sig) → Buf (Elt Ideal) ℓ) (ρ : Dev nD → PrngReg) (c : Dev nD)

/-- The arguments at a launch. -/
abbrev bX : FVec Ideal S12x768x6144 .bf16 := m ((c.tc : Thread nD τ).loc main_arg0)
abbrev bG : FVec Ideal S6144 .f32 := m ((c.tc : Thread nD τ).loc main_arg1)
abbrev bW : IVec S3072x16384 8 := m ((c.tc : Thread nD τ).loc main_arg2)
abbrev bS : FVec Ideal S48x16384 .f32 := m ((c.tc : Thread nD τ).loc main_arg3)

theorem run : θ_run defs (onTc (τ := τ) (main (F := Ideal))) ⟨m, fun _ => 0, ρ⟩ (fun r => ∀ c : Dev nD,
      r.2.mem ((c.tc : Thread nD τ).loc main_v89) = (fun y => yS (aR (v3 (bX m c) (bG m c) (y 0) (y 1))) (fun k => bW m c (ix2 k (y 2))) (fun g => bS m c (ix2 g (y 2))) : FVec Ideal S12x768x16384 .bf16)
      ∧ r.2.mem ((c.tc : Thread nD τ).loc main_v14) = (fun y => v3 (bX m c) (bG m c) (y 0) (y 1) (y 2) : FVec Ideal S12x768x6144 .bf16)
      ∧ r.2.mem ((c.tc : Thread nD τ).loc main_v52) = (fun y => pkR (v3 (bX m c) (bG m c) (y 0) (y 1)) (y 2) : IVec S12x768x3072 8)
      ∧ r.2.mem ((c.tc : Thread nD τ).loc main_v27) = (fun y => scR (v3 (bX m c) (bG m c) (y 0) (y 1)) (y 2) : FVec Ideal S12x768x48 .f32)
      ∧ r.2.mem ((c.tc : Thread nD τ).loc main_v42) = (fun y => zpR (v3 (bX m c) (bG m c) (y 0) (y 1)) (y 2) : IVec S12x768x48 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
      ⟨((h c).1.trans (val_main_v89_eq m c)).trans (a89 _ _ _ _),
       ((h c).2.1.trans (val_main_v14_eq (F := Ideal) (bX m c) (bG m c))).trans (a14 _ _),
       ((h c).2.2.1.trans (val_main_v52_eq m c)).trans (a52 _ _),
       ((h c).2.2.2.1.trans (val_main_v27_eq m c)).trans (a27 _ _),
       ((h c).2.2.2.2.1.trans (val_main_v42_eq m c)).trans (a42 _ _),
       (h c).2.2.2.2.2⟩) (Cert.ReferenceIdeal.Value.run (F := Ideal) m ρ)

end Cert.ReferenceIdeal.Q
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KIFrame
public import proofs.«01_k».proof.Proof.Gen.ReferenceIdeal
public import proofs.«01_k».proof.Proof.Gen.ReferenceIdeal.Run
public import proofs.«01_k».proof.Proof.Gen.ReferenceIdeal.Read
public import proofs.«01_k».proof.Proof.KEnd
public import proofs.«01_k».proof.Proof.REnd
public import Idealize.ShloMosaic.Adequacy
public import Idealize.ShloMosaic.Init

@[expose] public section

noncomputable section

namespace Cert.Proof

open Idealize.ShloMosaic Idealize.SL.Sem Cert.Kernel

/-- The reference's run, read at its arguments. -/
theorem frame_r : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

open Cert.Spec in
/-- Over the reals the kernel and the reference end with the same five results: each is, token by token, the same
    function of the token's row and of the weights. -/
theorem algebraic : Cert.algebraic_KernelIdeal_ReferenceIdeal := by
  intro m g m' g' _ hm
  have e0 : ∀ c : Dev Cert.KernelIdeal.nD, Cert.ReferenceIdeal.Q.bX m' c = Cert.KernelIdeal.Q.aX m c := fun c => (hm c).1
  have e1 : ∀ c : Dev Cert.KernelIdeal.nD, Cert.ReferenceIdeal.Q.bG m' c = Cert.KernelIdeal.Q.aG m c := fun c => (hm c).2.1
  have e2 : ∀ c : Dev Cert.KernelIdeal.nD, Cert.ReferenceIdeal.Q.bW m' c = Cert.KernelIdeal.Q.aW m c := fun c => (hm c).2.2.1
  have e3 : ∀ c : Dev Cert.KernelIdeal.nD, Cert.ReferenceIdeal.Q.bS m' c = Cert.KernelIdeal.Q.aS' m c := fun c => (hm c).2.2.2
  refine ⟨_, _, _, _, _, Cert.KernelIdeal.Q.run m g, (θ_run Cert.ReferenceIdeal.defs _ _).mono (fun r h c => ?_) (Cert.ReferenceIdeal.Q.run m' g')⟩
  have hc := h c
  rw [e0 c, e1 c, e2 c, e3 c] at hc
  exact hc

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_r, trivial, algebraic⟩

end Cert.Proof

end
